-- ==== Defs.lean ====
def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite [hPre_finite : Cert.Pre_finite.Facts] (m : (ℓ : Loc Cert.SwaIdeal.nD Cert.SwaIdeal.τ Cert.SwaIdeal.sig) → Buf (Elt Ideal) ℓ) : Prop :=
  ∀ c : Dev Cert.SwaIdeal.nD,
    (Cert.Pre_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite [hPre_finite : Cert.Pre_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))) = (fun _ => 1#1)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaIdeal_pre_finite [hSwaIdeal : Cert.SwaIdeal.Facts] [hPre_finite : Cert.Pre_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_SwaRefIdeal_pre_finite [hSwaRefIdeal : Cert.SwaRefIdeal.Facts] [hPre_finite : Cert.Pre_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v1) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v6) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v16) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)) →
    ∃ (v0 : (c : Dev Cert.ResidIdeal.nD) → Buf (Elt Ideal) ((c.tc : Thread Cert.ResidIdeal.nD Cert.ResidIdeal.τ).loc Cert.ResidIdeal.main_v1)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v1) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v29) = v0 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v25) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v30) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Swa_SwaIdeal : Prop :=
  IdealRules.named_const.Statement Cert.SwaIdeal.κ "mask" .f32 0xF149F2CA#32 ⊥

def algebraic_SwaIdeal_SwaRefIdeal_pre_finite [hSwaIdeal : Cert.SwaIdeal.Facts] [hSwaRefIdeal : Cert.SwaRefIdeal.Facts] [hPre_finite : Cert.Pre_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)) →
    ∃ (v0 : (c : Dev Cert.SwaIdeal.nD) → Buf (Elt Ideal) ((c.tc : Thread Cert.SwaIdeal.nD Cert.SwaIdeal.τ).loc Cert.SwaIdeal.main_v35)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v35) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v215) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3))

def Claim : Prop :=
  ∃ (hSwiglu : Cert.Swiglu.Facts) (hSwigluIdeal : Cert.SwigluIdeal.Facts) (hSwigluRefIdeal : Cert.SwigluRefIdeal.Facts) (hProj : Cert.Proj.Facts) (hProjIdeal : Cert.ProjIdeal.Facts) (hProjRefIdeal : Cert.ProjRefIdeal.Facts) (hResid : Cert.Resid.Facts) (hResidIdeal : Cert.ResidIdeal.Facts) (hResidRefIdeal : Cert.ResidRefIdeal.Facts) (hOut : Cert.Out.Facts) (hOutIdeal : Cert.OutIdeal.Facts) (hOutRefIdeal : Cert.OutRefIdeal.Facts) (hMerge : Cert.Merge.Facts) (hMergeIdeal : Cert.MergeIdeal.Facts) (hMergeRefIdeal : Cert.MergeRefIdeal.Facts) (hSwa : Cert.Swa.Facts) (hSwaIdeal : Cert.SwaIdeal.Facts) (hSwaRefIdeal : Cert.SwaRefIdeal.Facts) (hPre_finite : Cert.Pre_finite.Facts),
    quiescent_Swiglu (hSwiglu := hSwiglu)
    ∧ quiescent_SwigluIdeal (hSwigluIdeal := hSwigluIdeal)
    ∧ quiescent_SwigluRefIdeal (hSwigluRefIdeal := hSwigluRefIdeal)
    ∧ quiescent_Proj (hProj := hProj)
    ∧ quiescent_ProjIdeal (hProjIdeal := hProjIdeal)
    ∧ quiescent_ProjRefIdeal (hProjRefIdeal := hProjRefIdeal)
    ∧ quiescent_Resid (hResid := hResid)
    ∧ quiescent_ResidIdeal (hResidIdeal := hResidIdeal)
    ∧ quiescent_ResidRefIdeal (hResidRefIdeal := hResidRefIdeal)
    ∧ quiescent_Out (hOut := hOut)
    ∧ quiescent_OutIdeal (hOutIdeal := hOutIdeal)
    ∧ quiescent_OutRefIdeal (hOutRefIdeal := hOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_Swa (hSwa := hSwa)
    ∧ quiescent_SwaIdeal (hSwaIdeal := hSwaIdeal)
    ∧ quiescent_SwaIdeal_pre_finite (hSwaIdeal := hSwaIdeal) (hPre_finite := hPre_finite)
    ∧ quiescent_SwaRefIdeal (hSwaRefIdeal := hSwaRefIdeal)
    ∧ quiescent_SwaRefIdeal_pre_finite (hSwaRefIdeal := hSwaRefIdeal) (hPre_finite := hPre_finite)
    ∧ preserves_Swiglu_SwigluIdeal
    ∧ algebraic_SwigluIdeal_SwigluRefIdeal (hSwigluIdeal := hSwigluIdeal) (hSwigluRefIdeal := hSwigluRefIdeal)
    ∧ preserves_Proj_ProjIdeal
    ∧ algebraic_ProjIdeal_ProjRefIdeal (hProjIdeal := hProjIdeal) (hProjRefIdeal := hProjRefIdeal)
    ∧ preserves_Resid_ResidIdeal
    ∧ algebraic_ResidIdeal_ResidRefIdeal (hResidIdeal := hResidIdeal) (hResidRefIdeal := hResidRefIdeal)
    ∧ preserves_Out_OutIdeal
    ∧ algebraic_OutIdeal_OutRefIdeal (hOutIdeal := hOutIdeal) (hOutRefIdeal := hOutRefIdeal)
    ∧ preserves_Merge_MergeIdeal
    ∧ algebraic_MergeIdeal_MergeRefIdeal (hMergeIdeal := hMergeIdeal) (hMergeRefIdeal := hMergeRefIdeal)
    ∧ preserves_Swa_SwaIdeal
    ∧ algebraic_SwaIdeal_SwaRefIdeal_pre_finite (hSwaIdeal := hSwaIdeal) (hSwaRefIdeal := hSwaRefIdeal) (hPre_finite := hPre_finite)
-- ==== Pre_finite.lean ====
abbrev S9216x20480 : Shape := ⟨2, ![9216, 20480]⟩
abbrev S128 : Shape := ⟨1, ![128]⟩
abbrev S8 : Shape := ⟨1, ![8]⟩
abbrev S_ : Shape := ⟨0, ![]⟩

class Facts : Prop where
  bcast_S_S9216x20480 : S_.BroadcastsInDim S9216x20480 (![] : Fin 0 → Fin S9216x20480.rank)
  reducesTo_S9216x20480_S_d0_1 : S9216x20480.ReducesTo [0, 1] S_
  h_S_ : 0 < S_.numel
  bcast_S_S128 : S_.BroadcastsInDim S128 (![] : Fin 0 → Fin S128.rank)
  reducesTo_S128_S_d0 : S128.ReducesTo [0] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S9216x20480 .bf16) (main_arg1 : FVec F S128 .f32) (main_arg2 : FVec F S128 .f32) (main_arg3 : FVec F S8 .f32) : IVec S_ 1 :=
  let main_v0 : FVec F S9216x20480 .bf16 := Host.absf main_arg0
  let main_cst : FVec F S_ .bf16 := constant S_ .bf16 0x7F80#16
  let main_v1 : FVec F S9216x20480 .bf16 := broadcastInDim S9216x20480 ![] bcast_S_S9216x20480 main_cst
  let main_v2 : IVec S9216x20480 1 := cmpf .olt main_v0 main_v1
  let main_c : IVec S_ 1 := constantI S_ 1 1#1
  let main_v3 : IVec S_ 1 := (fun x v => Host.reduce IntOp.andi x v reducesTo_S9216x20480_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Swiglu.lean ====
abbrev S9216x4096 : Shape := ⟨2, ![9216, 4096]⟩
abbrev S4096x8192 : Shape := ⟨2, ![4096, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S9216x4096, .bf16⟩
  | .hbm, ⟨1, _⟩ => ⟨S4096x8192, .f32⟩
  | .hbm, ⟨2, _⟩ => ⟨S4096x8192, .bf16⟩
  | .hbm, ⟨3, _⟩ => ⟨S9216x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1024x512, .bf16⟩
  | .local _ .vmem, ⟨7, _⟩ => ⟨S1024x512, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluRefIdeal.lean ====
abbrev S9216x4096 : Shape := ⟨2, ![9216, 4096]⟩
abbrev S4096x8192 : Shape := ⟨2, ![4096, 8192]⟩
abbrev S9216x8192 : Shape := ⟨2, ![9216, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x8192, .f32⟩
  | .hbm, ⟨2, _⟩ => ⟨S9216x4096, .f32⟩
  | .hbm, ⟨3, _⟩ => ⟨S9216x8192, .f32⟩
  | .hbm, ⟨4, _⟩ => ⟨S9216x4096, .f32⟩
  | .hbm, ⟨5, _⟩ => ⟨S9216x4096, .f32⟩
  | .hbm, ⟨6, _⟩ => ⟨S9216x4096, .f32⟩
  | .hbm, ⟨7, _⟩ => ⟨S9216x4096, .f32⟩
  | .hbm, ⟨8, _⟩ => ⟨S_, .f32⟩
  | .hbm, ⟨9, _⟩ => ⟨S9216x4096, .f32⟩
  | .hbm, ⟨10, _⟩ => ⟨S9216x4096, .f32⟩
  | .hbm, ⟨11, _⟩ => ⟨S_, .f32⟩
  | .hbm, ⟨12, _⟩ => ⟨S9216x4096, .f32⟩
  | .hbm, ⟨13, _⟩ => ⟨S9216x4096, .f32⟩
  | .hbm, ⟨14, _⟩ => ⟨S9216x4096, .f32⟩
  | .hbm, ⟨15, _⟩ => ⟨S9216x4096, .f32⟩
  | .hbm, ⟨16, _⟩ => ⟨S9216x4096, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proj.lean ====
abbrev S9216x4096 : Shape := ⟨2, ![9216, 4096]⟩
abbrev S4096x20000 : Shape := ⟨2, ![4096, 20000]⟩
abbrev S4096x32 : Shape := ⟨2, ![4096, 32]⟩
abbrev S_ : Shape := ⟨0, ![]⟩
abbrev S4096x480 : Shape := ⟨2, ![4096, 480]⟩
abbrev S4096x3072 : Shape := ⟨2, ![4096, 3072]⟩
abbrev S4096x4608 : Shape := ⟨2, ![4096, 4608]⟩
abbrev S4096x12288 : Shape := ⟨2, ![4096, 12288]⟩
abbrev S4096x20480 : Shape := ⟨2, ![4096, 20480]⟩
abbrev S9216x20480 : Shape := ⟨2, ![9216, 20480]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S4096x20000, .f32⟩
  | .hbm, ⟨2, _⟩ => ⟨S4096x32, .f32⟩
  | .hbm, ⟨3, _⟩ => ⟨S_, .f32⟩
  | .hbm, ⟨4, _⟩ => ⟨S4096x480, .f32⟩
  | .hbm, ⟨5, _⟩ => ⟨S4096x3072, .f32⟩
  | .hbm, ⟨6, _⟩ => ⟨S4096x4608, .f32⟩
  | .hbm, ⟨7, _⟩ => ⟨S4096x12288, .f32⟩
  | .hbm, ⟨8, _⟩ => ⟨S4096x20480, .f32⟩
  | .hbm, ⟨9, _⟩ => ⟨S4096x20480, .bf16⟩
  | .hbm, ⟨10, _⟩ => ⟨S9216x20480, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S9216x4096 : Shape := ⟨2, ![9216, 4096]⟩
abbrev S4096x20000 : Shape := ⟨2, ![4096, 20000]⟩
abbrev S9216x20000 : Shape := ⟨2, ![9216, 20000]⟩
abbrev S9216x512 : Shape := ⟨2, ![9216, 512]⟩
abbrev S9216x1024 : Shape := ⟨2, ![9216, 1024]⟩
abbrev S9216x32 : Shape := ⟨2, ![9216, 32]⟩
abbrev S9216x256 : Shape := ⟨2, ![9216, 256]⟩
abbrev S9216x12288 : Shape := ⟨2, ![9216, 12288]⟩
abbrev S_ : Shape := ⟨0, ![]⟩
abbrev S9216x480 : Shape := ⟨2, ![9216, 480]⟩
abbrev S9216x20480 : Shape := ⟨2, ![9216, 20480]⟩

abbrev nBuf : Space → Nat
  | .hbm => 20
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x20000, .f32⟩
  | .hbm, ⟨2, _⟩ => ⟨S9216x4096, .f32⟩
  | .hbm, ⟨3, _⟩ => ⟨S9216x20000, .f32⟩
  | .hbm, ⟨4, _⟩ => ⟨S9216x512, .f32⟩
  | .hbm, ⟨5, _⟩ => ⟨S9216x512, .f32⟩
  | .hbm, ⟨6, _⟩ => ⟨S9216x1024, .f32⟩
  | .hbm, ⟨7, _⟩ => ⟨S9216x1024, .f32⟩
  | .hbm, ⟨8, _⟩ => ⟨S9216x32, .f32⟩
  | .hbm, ⟨9, _⟩ => ⟨S9216x1024, .f32⟩
  | .hbm, ⟨10, _⟩ => ⟨S9216x256, .f32⟩
  | .hbm, ⟨11, _⟩ => ⟨S9216x256, .f32⟩
  | .hbm, ⟨12, _⟩ => ⟨S9216x1024, .f32⟩
  | .hbm, ⟨13, _⟩ => ⟨S9216x1024, .f32⟩
  | .hbm, ⟨14, _⟩ => ⟨S9216x1024, .f32⟩
  | .hbm, ⟨15, _⟩ => ⟨S9216x12288, .f32⟩
  | .hbm, ⟨16, _⟩ => ⟨S_, .f32⟩
  | .hbm, ⟨17, _⟩ => ⟨S9216x480, .f32⟩
  | .hbm, ⟨18, _⟩ => ⟨S9216x20480, .f32⟩
  | .hbm, ⟨19, _⟩ => ⟨S9216x20480, .bf16⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Resid.lean ====
abbrev S9216x4096 : Shape := ⟨2, ![9216, 4096]⟩
abbrev S4096x4096 : Shape := ⟨2, ![4096, 4096]⟩
abbrev S288x1x4096 : Shape := ⟨3, ![288, 1, 4096]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S9216x4096, .bf16⟩
  | .hbm, ⟨1, _⟩ => ⟨S4096x4096, .f32⟩
  | .hbm, ⟨2, _⟩ => ⟨S9216x4096, .f32⟩
  | .hbm, ⟨3, _⟩ => ⟨S288x1x4096, .f32⟩
  | .hbm, ⟨4, _⟩ => ⟨S4096x4096, .bf16⟩
  | .hbm, ⟨5, _⟩ => ⟨S9216x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c1024_i32 : BitVec 32 := 1024#32
  let v1 : BitVec 32 := Scalar.muli arg0 c1024_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 v18 c4_i32
  let c16_i32 : BitVec 32 := 16#32
  let v20 : BitVec 32 := Scalar.addi c16_i32 v19
  let c0_i32_4 : BitVec 32 := 0#32
  let c0_i32_5 : BitVec 32 := 0#32
  ![v20.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ResidRefIdeal.lean ====
abbrev S9216x4096 : Shape := ⟨2, ![9216, 4096]⟩
abbrev S4096x4096 : Shape := ⟨2, ![4096, 4096]⟩
abbrev S288x1x4096 : Shape := ⟨3, ![288, 1, 4096]⟩
abbrev S4x9x8x4096 : Shape := ⟨4, ![4, 9, 8, 4096]⟩
abbrev S1x1x8x4096 : Shape := ⟨4, ![1, 1, 8, 4096]⟩
abbrev S8x4096 : Shape := ⟨2, ![8, 4096]⟩
abbrev S8192x4096 : Shape := ⟨2, ![8192, 4096]⟩
abbrev S4x2048x4096 : Shape := ⟨3, ![4, 2048, 4096]⟩
abbrev S4x4096 : Shape := ⟨2, ![4, 4096]⟩
abbrev S4x1x4096 : Shape := ⟨3, ![4, 1, 4096]⟩
abbrev S_ : Shape := ⟨0, ![]⟩
abbrev S1024x4096 : Shape := ⟨2, ![1024, 4096]⟩
abbrev S4x256x4096 : Shape := ⟨3, ![4, 256, 4096]⟩
abbrev S1x4096 : Shape := ⟨2, ![1, 4096]⟩
abbrev S1x1x4096 : Shape := ⟨3, ![1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x4096, .f32⟩
  | .hbm, ⟨2, _⟩ => ⟨S9216x4096, .f32⟩
  | .hbm, ⟨3, _⟩ => ⟨S288x1x4096, .f32⟩
  | .hbm, ⟨4, _⟩ => ⟨S4x9x8x4096, .f32⟩
  | .hbm, ⟨5, _⟩ => ⟨S1x1x8x4096, .f32⟩
  | .hbm, ⟨6, _⟩ => ⟨S8x4096, .f32⟩
  | .hbm, ⟨7, _⟩ => ⟨S9216x4096, .f32⟩
  | .hbm, ⟨8, _⟩ => ⟨S9216x4096, .f32⟩
  | .hbm, ⟨9, _⟩ => ⟨S8192x4096, .f32⟩
  | .hbm, ⟨10, _⟩ => ⟨S4x2048x4096, .f32⟩
  | .hbm, ⟨11, _⟩ => ⟨S4x4096, .f32⟩
  | .hbm, ⟨12, _⟩ => ⟨S4x1x4096, .f32⟩
  | .hbm, ⟨13, _⟩ => ⟨S_, .f32⟩
  | .hbm, ⟨14, _⟩ => ⟨S4x1x4096, .f32⟩
  | .hbm, ⟨15, _⟩ => ⟨S4x1x4096, .f32⟩
  | .hbm, ⟨16, _⟩ => ⟨S8192x4096, .f32⟩
  | .hbm, ⟨17, _⟩ => ⟨S4x2048x4096, .f32⟩
  | .hbm, ⟨18, _⟩ => ⟨S4x2048x4096, .f32⟩
  | .hbm, ⟨19, _⟩ => ⟨S4x2048x4096, .f32⟩
  | .hbm, ⟨20, _⟩ => ⟨S4x2048x4096, .f32⟩
  | .hbm, ⟨21, _⟩ => ⟨S1024x4096, .f32⟩
  | .hbm, ⟨22, _⟩ => ⟨S4x256x4096, .f32⟩
  | .hbm, ⟨23, _⟩ => ⟨S1x4096, .f32⟩
  | .hbm, ⟨24, _⟩ => ⟨S1x1x4096, .f32⟩
  | .hbm, ⟨25, _⟩ => ⟨S_, .f32⟩
  | .hbm, ⟨26, _⟩ => ⟨S1x1x4096, .f32⟩
  | .hbm, ⟨27, _⟩ => ⟨S1x1x4096, .f32⟩
  | .hbm, ⟨28, _⟩ => ⟨S1024x4096, .f32⟩
  | .hbm, ⟨29, _⟩ => ⟨S4x256x4096, .f32⟩
  | .hbm, ⟨30, _⟩ => ⟨S4x256x4096, .f32⟩
  | .hbm, ⟨31, _⟩ => ⟨S4x256x4096, .f32⟩
  | .hbm, ⟨32, _⟩ => ⟨S4x256x4096, .f32⟩
  | .hbm, ⟨33, _⟩ => ⟨S8192x4096, .f32⟩
  | .hbm, ⟨34, _⟩ => ⟨S1024x4096, .f32⟩
  | .hbm, ⟨35, _⟩ => ⟨S9216x4096, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Out.lean ====
abbrev S9216x4096 : Shape := ⟨2, ![9216, 4096]⟩
abbrev S4096x4096 : Shape := ⟨2, ![4096, 4096]⟩
abbrev S288x1x4096 : Shape := ⟨3, ![288, 1, 4096]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S9216x4096, .bf16⟩
  | .hbm, ⟨1, _⟩ => ⟨S4096x4096, .f32⟩
  | .hbm, ⟨2, _⟩ => ⟨S9216x4096, .f32⟩
  | .hbm, ⟨3, _⟩ => ⟨S288x1x4096, .f32⟩
  | .hbm, ⟨4, _⟩ => ⟨S4096x4096, .bf16⟩
  | .hbm, ⟨5, _⟩ => ⟨S9216x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c1024_i32 : BitVec 32 := 1024#32
  let v1 : BitVec 32 := Scalar.muli arg0 c1024_i32
  let c2048_i32 : BitVec 32 := 2048#32
  let v2 : BitVec 32 := Scalar.divsi v1 c2048_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2048_i32 c0_i32_1
  let v9 : BitVec 32 := Scalar.extui v8
  let c0_i32_2 : BitVec 32 := 0#32
  let v10 : BitVec 1 := Scalar.cmpi .slt c2048_i32 c0_i32_2
  let v11 : BitVec 32 := Scalar.extui v10
  let v12 : BitVec 32 := Scalar.subi v9 v11
  let v13 : BitVec 1 := Scalar.cmpi .ne v7 v12
  let v14 : BitVec 32 := Scalar.remsi v1 c2048_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v0 v18 c4_i32
  let c40_i32 : BitVec 32 := 40#32
  let v20 : BitVec 32 := Scalar.addi c40_i32 v19
  let c0_i32_4 : BitVec 32 := 0#32
  let c0_i32_5 : BitVec 32 := 0#32
  ![v20.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S9216x4096 : Shape := ⟨2, ![9216, 4096]⟩
abbrev S4096x4096 : Shape := ⟨2, ![4096, 4096]⟩
abbrev S288x1x4096 : Shape := ⟨3, ![288, 1, 4096]⟩
abbrev S4x9x8x4096 : Shape := ⟨4, ![4, 9, 8, 4096]⟩
abbrev S1x1x8x4096 : Shape := ⟨4, ![1, 1, 8, 4096]⟩
abbrev S8x4096 : Shape := ⟨2, ![8, 4096]⟩
abbrev S8192x4096 : Shape := ⟨2, ![8192, 4096]⟩
abbrev S4x2048x4096 : Shape := ⟨3, ![4, 2048, 4096]⟩
abbrev S4x4096 : Shape := ⟨2, ![4, 4096]⟩
abbrev S4x1x4096 : Shape := ⟨3, ![4, 1, 4096]⟩
abbrev S1024x4096 : Shape := ⟨2, ![1024, 4096]⟩
abbrev S4x256x4096 : Shape := ⟨3, ![4, 256, 4096]⟩
abbrev S1x4096 : Shape := ⟨2, ![1, 4096]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x4096, .f32⟩
  | .hbm, ⟨2, _⟩ => ⟨S9216x4096, .f32⟩
  | .hbm, ⟨3, _⟩ => ⟨S288x1x4096, .f32⟩
  | .hbm, ⟨4, _⟩ => ⟨S4x9x8x4096, .f32⟩
  | .hbm, ⟨5, _⟩ => ⟨S1x1x8x4096, .f32⟩
  | .hbm, ⟨6, _⟩ => ⟨S8x4096, .f32⟩
  | .hbm, ⟨7, _⟩ => ⟨S9216x4096, .f32⟩
  | .hbm, ⟨8, _⟩ => ⟨S9216x4096, .f32⟩
  | .hbm, ⟨9, _⟩ => ⟨S8192x4096, .f32⟩
  | .hbm, ⟨10, _⟩ => ⟨S4x2048x4096, .f32⟩
  | .hbm, ⟨11, _⟩ => ⟨S4x4096, .f32⟩
  | .hbm, ⟨12, _⟩ => ⟨S4x1x4096, .f32⟩
  | .hbm, ⟨13, _⟩ => ⟨S8192x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S1024x4096, .f32⟩
  | .hbm, ⟨19, _⟩ => ⟨S4x256x4096, .f32⟩
  | .hbm, ⟨20, _⟩ => ⟨S1x4096, .f32⟩
  | .hbm, ⟨21, _⟩ => ⟨S1x1x4096, .f32⟩
  | .hbm, ⟨22, _⟩ => ⟨S1024x4096, .f32⟩
  | .hbm, ⟨23, _⟩ => ⟨S4x256x4096, .f32⟩
  | .hbm, ⟨24, _⟩ => ⟨S4x256x4096, .f32⟩
  | .hbm, ⟨25, _⟩ => ⟨S4x256x4096, .f32⟩
  | .hbm, ⟨26, _⟩ => ⟨S4x256x4096, .f32⟩
  | .hbm, ⟨27, _⟩ => ⟨S8192x4096, .f32⟩
  | .hbm, ⟨28, _⟩ => ⟨S1024x4096, .f32⟩
  | .hbm, ⟨29, _⟩ => ⟨S9216x4096, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Merge.lean ====
abbrev S9216x1024 : Shape := ⟨2, ![9216, 1024]⟩
abbrev S9216x20480 : Shape := ⟨2, ![9216, 20480]⟩
abbrev S3x1024x4096 : Shape := ⟨3, ![3, 1024, 4096]⟩
abbrev S9216x4096 : Shape := ⟨2, ![9216, 4096]⟩
abbrev S1024x1024 : Shape := ⟨2, ![1024, 1024]⟩
abbrev S1024x512 : Shape := ⟨2, ![1024, 512]⟩
abbrev S3x1024x512 : Shape := ⟨3, ![3, 1024, 512]⟩
abbrev S1x1024x512 : Shape := ⟨3, ![1, 1024, 512]⟩

abbrev nBuf : Space → Nat
  | .hbm => 7
  | .vmem => 16
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x1024, .bf16⟩
  | .hbm, ⟨3, _⟩ => ⟨S9216x20480, .bf16⟩
  | .hbm, ⟨4, _⟩ => ⟨S3x1024x4096, .f32⟩
  | .hbm, ⟨5, _⟩ => ⟨S3x1024x4096, .bf16⟩
  | .hbm, ⟨6, _⟩ => ⟨S9216x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S3x1024x512, .bf16⟩
  | .local _ .vmem, ⟨13, _⟩ => ⟨S3x1024x512, .bf16⟩
  | .local _ .vmem, ⟨14, _⟩ => ⟨S1024x512, .bf16⟩
  | .local _ .vmem, ⟨15, _⟩ => ⟨S1024x512, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S9216x1024 : Shape := ⟨2, ![9216, 1024]⟩
abbrev S9216x20480 : Shape := ⟨2, ![9216, 20480]⟩
abbrev S3x1024x4096 : Shape := ⟨3, ![3, 1024, 4096]⟩
abbrev S9216x12288 : Shape := ⟨2, ![9216, 12288]⟩
abbrev S_ : Shape := ⟨0, ![]⟩
abbrev S9216x4096 : Shape := ⟨2, ![9216, 4096]⟩
abbrev S1x1024x4096 : Shape := ⟨3, ![1, 1024, 4096]⟩
abbrev S1024x4096 : Shape := ⟨2, ![1024, 4096]⟩

abbrev nBuf : Space → Nat
  | .hbm => 39
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x1024, .bf16⟩
  | .hbm, ⟨3, _⟩ => ⟨S9216x20480, .bf16⟩
  | .hbm, ⟨4, _⟩ => ⟨S3x1024x4096, .f32⟩
  | .hbm, ⟨5, _⟩ => ⟨S9216x12288, .bf16⟩
  | .hbm, ⟨6, _⟩ => ⟨S9216x12288, .f32⟩
  | .hbm, ⟨7, _⟩ => ⟨S9216x12288, .f32⟩
  | .hbm, ⟨8, _⟩ => ⟨S9216x12288, .f32⟩
  | .hbm, ⟨9, _⟩ => ⟨S_, .f32⟩
  | .hbm, ⟨10, _⟩ => ⟨S9216x12288, .f32⟩
  | .hbm, ⟨11, _⟩ => ⟨S9216x12288, .f32⟩
  | .hbm, ⟨12, _⟩ => ⟨S_, .f32⟩
  | .hbm, ⟨13, _⟩ => ⟨S9216x12288, .f32⟩
  | .hbm, ⟨14, _⟩ => ⟨S9216x12288, .f32⟩
  | .hbm, ⟨15, _⟩ => ⟨S9216x4096, .f32⟩
  | .hbm, ⟨16, _⟩ => ⟨S9216x4096, .f32⟩
  | .hbm, ⟨17, _⟩ => ⟨S9216x4096, .f32⟩
  | .hbm, ⟨18, _⟩ => ⟨S9216x1024, .f32⟩
  | .hbm, ⟨19, _⟩ => ⟨S1x1024x4096, .f32⟩
  | .hbm, ⟨20, _⟩ => ⟨S1024x4096, .f32⟩
  | .hbm, ⟨21, _⟩ => ⟨S9216x4096, .f32⟩
  | .hbm, ⟨22, _⟩ => ⟨S9216x4096, .f32⟩
  | .hbm, ⟨23, _⟩ => ⟨S_, .f32⟩
  | .hbm, ⟨24, _⟩ => ⟨S9216x4096, .f32⟩
  | .hbm, ⟨25, _⟩ => ⟨S9216x4096, .f32⟩
  | .hbm, ⟨26, _⟩ => ⟨S9216x1024, .f32⟩
  | .hbm, ⟨27, _⟩ => ⟨S1x1024x4096, .f32⟩
  | .hbm, ⟨28, _⟩ => ⟨S1024x4096, .f32⟩
  | .hbm, ⟨29, _⟩ => ⟨S9216x4096, .f32⟩
  | .hbm, ⟨30, _⟩ => ⟨S9216x4096, .f32⟩
  | .hbm, ⟨31, _⟩ => ⟨S9216x4096, .f32⟩
  | .hbm, ⟨32, _⟩ => ⟨S9216x1024, .f32⟩
  | .hbm, ⟨33, _⟩ => ⟨S1x1024x4096, .f32⟩
  | .hbm, ⟨34, _⟩ => ⟨S1024x4096, .f32⟩
  | .hbm, ⟨35, _⟩ => ⟨S9216x4096, .f32⟩
  | .hbm, ⟨36, _⟩ => ⟨S9216x4096, .f32⟩
  | .hbm, ⟨37, _⟩ => ⟨S9216x4096, .f32⟩
  | .hbm, ⟨38, _⟩ => ⟨S9216x4096, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Swa.lean ====
abbrev S9216x20480 : Shape := ⟨2, ![9216, 20480]⟩
abbrev S128 : Shape := ⟨1, ![128]⟩
abbrev S8 : Shape := ⟨1, ![8]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1x128 : Shape := ⟨2, ![1, 128]⟩
abbrev S9216x1024 : Shape := ⟨2, ![9216, 1024]⟩
abbrev S128x512 : Shape := ⟨2, ![128, 512]⟩
abbrev S256x128 : Shape := ⟨2, ![256, 128]⟩
abbrev S256 : Shape := ⟨1, ![256]⟩
abbrev S256x1 : Shape := ⟨2, ![256, 1]⟩
abbrev S512x1 : Shape := ⟨2, ![512, 1]⟩
abbrev S1 : Shape := ⟨1, ![1]⟩
abbrev S128x128 : Shape := ⟨2, ![128, 128]⟩
abbrev S128x1 : Shape := ⟨2, ![128, 1]⟩
abbrev S512x128 : Shape := ⟨2, ![512, 128]⟩
abbrev S512x256 : Shape := ⟨2, ![512, 256]⟩
abbrev S512 : Shape := ⟨1, ![512]⟩

abbrev nBuf : Space → Nat
  | .hbm => 80
  | .vmem => 18
  | .smem => 1
  | _ => 0

abbrev bufTy : (tb : Table) → Fin (tcTables nBuf tb) → BufTy
  | .hbm, ⟨0, _⟩ => ⟨S9216x20480, .bf16⟩
  | .hbm, ⟨1, _⟩ => ⟨S128, .f32⟩
  | .hbm, ⟨2, _⟩ => ⟨S128, .f32⟩
  | .hbm, ⟨3, _⟩ => ⟨S8, .f32⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2048, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S_, .i1⟩
  | .hbm, ⟨40, _⟩ => ⟨S2048, .i1⟩
  | .hbm, ⟨41, _⟩ => ⟨S2048, .i1⟩
  | .hbm, ⟨42, _⟩ => ⟨S2048, .i1⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S2048, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S2048x1, .f32⟩
  | .hbm, ⟨56, _⟩ => ⟨S1x32, .f32⟩
  | .hbm, ⟨57, _⟩ => ⟨S2048x32, .f32⟩
  | .hbm, ⟨58, _⟩ => ⟨S2048x32, .f32⟩
  | .hbm, ⟨59, _⟩ => ⟨S2048x32, .f32⟩
  | .hbm, ⟨60, _⟩ => ⟨S2048x1, .f32⟩
  | .hbm, ⟨61, _⟩ => ⟨S1x32, .f32⟩
  | .hbm, ⟨62, _⟩ => ⟨S2048x32, .f32⟩
  | .hbm, ⟨63, _⟩ => ⟨S2048x32, .f32⟩
  | .hbm, ⟨64, _⟩ => ⟨S2048x32, .f32⟩
  | .hbm, ⟨65, _⟩ => ⟨S2048x32, .f32⟩
  | .hbm, ⟨66, _⟩ => ⟨S2048x32, .f32⟩
  | .hbm, ⟨67, _⟩ => ⟨S2048x32, .f32⟩
  | .hbm, ⟨68, _⟩ => ⟨S2048x32, .f32⟩
  | .hbm, ⟨69, _⟩ => ⟨S2048x128, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x32, .f32⟩
  | .hbm, ⟨74, _⟩ => ⟨S2048x32, .f32⟩
  | .hbm, ⟨75, _⟩ => ⟨S2048x32, .f32⟩
  | .hbm, ⟨76, _⟩ => ⟨S2048x128, .f32⟩
  | .hbm, ⟨77, _⟩ => ⟨S1x128, .f32⟩
  | .hbm, ⟨78, _⟩ => ⟨S1x128, .f32⟩
  | .hbm, ⟨79, _⟩ => ⟨S9216x1024, .bf16⟩
  | .local _ .vmem, ⟨0, _⟩ => ⟨S128x512, .bf16⟩
  | .local _ .vmem, ⟨1, _⟩ => ⟨S128x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S1x128, .f32⟩
  | .local _ .vmem, ⟨11, _⟩ => ⟨S1x128, .f32⟩
  | .local _ .vmem, ⟨12, _⟩ => ⟨S2048x128, .f32⟩
  | .local _ .vmem, ⟨13, _⟩ => ⟨S2048x128, .f32⟩
  | .local _ .vmem, ⟨14, _⟩ => ⟨S128x512, .bf16⟩
  | .local _ .vmem, ⟨15, _⟩ => ⟨S128x512, .bf16⟩
  | .local _ .vmem, ⟨16, _⟩ => ⟨S2048x128, .bf16⟩
  | .local _ .vmem, ⟨17, _⟩ => ⟨S256x128, .bf16⟩
  | .local _ .smem, ⟨0, _⟩ => ⟨S8, .f32⟩
  | _, _ => ⟨S9216x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst : Ref sig .tc := ⟨.hbm, 49, rfl⟩
abbrev main_v7 : Ref sig .tc := ⟨.hbm, 50, rfl⟩
abbrev main_v8 : Ref sig .tc := ⟨.hbm, 51, rfl⟩
abbrev main_cst_1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![4, 2, 18], ![false, false, false]⟩

def k0_off1 (i : grid0.Coords) (c0_i32_7 : BitVec 32) : Fin 1 → Nat :=
  let arg1 : BitVec 32 := BitVec.ofNat 32 (i 1).val
  let c4_i32 : BitVec 32 := 4#32
  let v31 : BitVec 32 := Scalar.muli arg1 c4_i32
  let v32 : BitVec 32 := Scalar.addi v31 c0_i32_7
  let v33 : Index := Scalar.indexCast v32
  ![v33.toNat]
def k0_cond2 (i : grid0.Coords) : BitVec 1 :=
  let arg2 : BitVec 32 := BitVec.ofNat 32 (i 2).val
  let c16_i32 : BitVec 32 := 16#32
  let v61 : BitVec 1 := Scalar.cmpi .slt arg2 c16_i32
  let v62 : BitVec 32 := Scalar.extui v61
  let c0_i32_15 : BitVec 32 := 0#32
  let v63 : BitVec 1 := Scalar.cmpi .ne v62 c0_i32_15
  v63

def k0_mult1 (i : grid0.Coords) : BitVec 32 :=
  let arg2 : BitVec 32 := BitVec.ofNat 32 (i 2).val
  let c128_i32_18 : BitVec 32 := 128#32
  let v67 : BitVec 32 := Scalar.muli arg2 c128_i32_18
  v67
def k0_off2 (i : grid0.Coords) : Fin 2 → Nat :=
  let arg2 : BitVec 32 := BitVec.ofNat 32 (i 2).val
  let c128_i32_18 : BitVec 32 := 128#32
  let v67 : BitVec 32 := Scalar.muli arg2 c128_i32_18
  let v68 : BitVec 32 := v67
  let v69 : Index := Scalar.indexCast v68
  let c0 : Index := 0#32
  ![v69.toNat, 0]
def k0_mult2 (i : grid0.Coords) : BitVec 32 :=
  let arg2 : BitVec 32 := BitVec.ofNat 32 (i 2).val
  let c1_i32_78 : BitVec 32 := 1#32
  let v241 : BitVec 32 := Scalar.subi arg2 c1_i32_78
  let c0_i32_79 : BitVec 32 := 0#32
  let v242 : BitVec 32 := Scalar.maxsi v241 c0_i32_79
  let c128_i32_80 : BitVec 32 := 128#32
  let v243 : BitVec 32 := Scalar.muli v242 c128_i32_80
  v243
def k0_mult3 (i : grid0.Coords) : BitVec 32 :=
  let arg2 : BitVec 32 := BitVec.ofNat 32 (i 2).val
  let c1_i32_81 : BitVec 32 := 1#32
  let v245 : BitVec 32 := Scalar.addi arg2 c1_i32_81
  let c15_i32 : BitVec 32 := 15#32
  let v246 : BitVec 32 := Scalar.minsi v245 c15_i32
  let c128_i32_82 : BitVec 32 := 128#32
  let v247 : BitVec 32 := Scalar.muli v246 c128_i32_82
  v247
def k0_off3 (i : grid0.Coords) : Fin 2 → Nat :=
  let arg2 : BitVec 32 := BitVec.ofNat 32 (i 2).val
  let c1_i32_78 : BitVec 32 := 1#32
  let v241 : BitVec 32 := Scalar.subi arg2 c1_i32_78
  let c0_i32_79 : BitVec 32 := 0#32
  let v242 : BitVec 32 := Scalar.maxsi v241 c0_i32_79
  let c128_i32_80 : BitVec 32 := 128#32
  let v243 : BitVec 32 := Scalar.muli v242 c128_i32_80
  let v244 : BitVec 32 := v243
  let v267 : Index := Scalar.indexCast v244
  let c0_89 : Index := 0#32
  ![v267.toNat, 0]
def k0_off4 (i : grid0.Coords) : Fin 2 → Nat :=
  let arg2 : BitVec 32 := BitVec.ofNat 32 (i 2).val
  let c1_i32_81 : BitVec 32 := 1#32
  let v245 : BitVec 32 := Scalar.addi arg2 c1_i32_81
  let c15_i32 : BitVec 32 := 15#32
  let v246 : BitVec 32 := Scalar.minsi v245 c15_i32
  let c128_i32_82 : BitVec 32 := 128#32
  let v247 : BitVec 32 := Scalar.muli v246 c128_i32_82
  let v248 : BitVec 32 := v247
  let v283 : Index := Scalar.indexCast v248
  let c0_97 : Index := 0#32
  ![v283.toNat, 0]
def k0_cond3 (i : grid0.Coords) : BitVec 1 :=
  let arg2 : BitVec 32 := BitVec.ofNat 32 (i 2).val
  let c16_i32_16 : BitVec 32 := 16#32
  let v64 : BitVec 1 := Scalar.cmpi .sge arg2 c16_i32_16
  let v65 : BitVec 32 := Scalar.extui v64
  let c0_i32_17 : BitVec 32 := 0#32
  let v66 : BitVec 1 := Scalar.cmpi .ne v65 c0_i32_17
  v66

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .slt arg2 c16_i32
  let c16_i32_0 : BitVec 32 := 16#32
  let v1 : BitVec 32 := Scalar.muli arg0 c16_i32_0
  let v2 : BitVec 32 := Scalar.addi v1 arg2
  let c2_i32 : BitVec 32 := 2#32
  let v3 : BitVec 32 := Scalar.muli arg0 c2_i32
  let c64_i32 : BitVec 32 := 64#32
  let v4 : BitVec 32 := Scalar.addi c64_i32 v3
  let c16_i32_1 : BitVec 32 := 16#32
  let v5 : BitVec 32 := Scalar.subi arg2 c16_i32_1
  let v6 : BitVec 32 := Scalar.addi v4 v5
  let v7 : BitVec 32 := Scalar.select v0 v2 v6
  let c6_i32 : BitVec 32 := 6#32
  let v8 : BitVec 32 := Scalar.addi c6_i32 arg1
  let c0_i32 : BitVec 32 := 0#32
  ![v7.toNat, v8.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.addi c34_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c32_i32_0 : BitVec 32 := 32#32
  let v1 : BitVec 32 := Scalar.addi c32_i32_0 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c34_i32 : BitVec 32 := 34#32
  let v1 : BitVec 32 := Scalar.addi c34_i32 arg1
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .slt arg2 c16_i32
  let c16_i32_0 : BitVec 32 := 16#32
  let v1 : BitVec 32 := Scalar.muli arg0 c16_i32_0
  let v2 : BitVec 32 := Scalar.addi v1 arg2
  let c2_i32 : BitVec 32 := 2#32
  let v3 : BitVec 32 := Scalar.muli arg0 c2_i32
  let c64_i32 : BitVec 32 := 64#32
  let v4 : BitVec 32 := Scalar.addi c64_i32 v3
  let c16_i32_1 : BitVec 32 := 16#32
  let v5 : BitVec 32 := Scalar.subi arg2 c16_i32_1
  let v6 : BitVec 32 := Scalar.addi v4 v5
  let v7 : BitVec 32 := Scalar.select v0 v2 v6
  let c0_i32 : BitVec 32 := 0#32
  ![v7.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .smem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== SwaIdeal.lean ====
variable {F : FTy → Type} [FloatOps F] [Named F]
def κ : String → Option EReal := fun
  | "mask" => some ⊥
  | _ => none
-- ==== SwaRefIdeal.lean ====
abbrev S9216x20480 : Shape := ⟨2, ![9216, 20480]⟩
abbrev S128 : Shape := ⟨1, ![128]⟩
abbrev S8 : Shape := ⟨1, ![8]⟩
abbrev S9216x1024 : Shape := ⟨2, ![9216, 1024]⟩
abbrev S9216x8x128 : Shape := ⟨3, ![9216, 8, 128]⟩
abbrev S_ : Shape := ⟨0, ![]⟩
abbrev S9216x8 : Shape := ⟨2, ![9216, 8]⟩
abbrev S9216x8x1 : Shape := ⟨3, ![9216, 8, 1]⟩
abbrev S1x1x128 : Shape := ⟨3, ![1, 1, 128]⟩
abbrev S9216x256 : Shape := ⟨2, ![9216, 256]⟩
abbrev S9216x2x128 : Shape := ⟨3, ![9216, 2, 128]⟩
abbrev S9216x2 : Shape := ⟨2, ![9216, 2]⟩
abbrev S9216x2x1 : Shape := ⟨3, ![9216, 2, 1]⟩
abbrev S8192x8x128 : Shape := ⟨3, ![8192, 8, 128]⟩
abbrev S4x2048x8x128 : Shape := ⟨4, ![4, 2048, 8, 128]⟩
abbrev S8192x2x128 : Shape := ⟨3, ![8192, 2, 128]⟩
abbrev S4x2048x2x128 : Shape := ⟨4, ![4, 2048, 2, 128]⟩
abbrev S4x2048x10x128 : Shape := ⟨4, ![4, 2048, 10, 128]⟩
abbrev S2048 : Shape := ⟨1, ![2048]⟩
abbrev S32 : Shape := ⟨1, ![32]⟩
abbrev S4x2048x10x64 : Shape := ⟨4, ![4, 2048, 10, 64]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x10x32 : Shape := ⟨4, ![4, 2048, 10, 32]⟩
abbrev S1024x2x128 : Shape := ⟨3, ![1024, 2, 128]⟩
abbrev S4x256x2x128 : Shape := ⟨4, ![4, 256, 2, 128]⟩
abbrev S4x16x128x2x4x128 : Shape := ⟨6, ![4, 16, 128, 2, 4, 128]⟩
abbrev S4x2304x2x128 : Shape := ⟨4, ![4, 2304, 2, 128]⟩
abbrev S4x18x128x2x128 : Shape := ⟨5, ![4, 18, 128, 2, 128]⟩
abbrev S4x16x128x2x128 : Shape := ⟨5, ![4, 16, 128, 2, 128]⟩
abbrev S4x16x384x2x128 : Shape := ⟨5, ![4, 16, 384, 2, 128]⟩
abbrev S4x2x16x384x128x4 : Shape := ⟨6, ![4, 2, 16, 384, 128, 4]⟩
abbrev S4x2x4x16x128x384 : Shape := ⟨6, ![4, 2, 4, 16, 128, 384]⟩
abbrev S4x2x256x16x128x4 : Shape := ⟨6, ![4, 2, 256, 16, 128, 4]⟩
abbrev S4x2x4x16x128x256 : Shape := ⟨6, ![4, 2, 4, 16, 128, 256]⟩
abbrev S16 : Shape := ⟨1, ![16]⟩
abbrev S16x1 : Shape := ⟨2, ![16, 1]⟩
abbrev S1x128 : Shape := ⟨2, ![1, 128]⟩
abbrev S16x128 : Shape := ⟨2, ![16, 128]⟩
abbrev S384 : Shape := ⟨1, ![384]⟩
abbrev S1x384 : Shape := ⟨2, ![1, 384]⟩
abbrev S16x384 : Shape := ⟨2, ![16, 384]⟩
abbrev S16x1x384 : Shape := ⟨3, ![16, 1, 384]⟩
abbrev S16x128x1 : Shape := ⟨3, ![16, 128, 1]⟩
abbrev S16x128x384 : Shape := ⟨3, ![16, 128, 384]⟩
abbrev S4x2x4x16x128x640 : Shape := ⟨6, ![4, 2, 4, 16, 128, 640]⟩
abbrev S1x2x4x1x1x1 : Shape := ⟨6, ![1, 2, 4, 1, 1, 1]⟩
abbrev S4x2x4x16x128x1 : Shape := ⟨6, ![4, 2, 4, 16, 128, 1]⟩
abbrev S4x2x4x16x128x641 : Shape := ⟨6, ![4, 2, 4, 16, 128, 641]⟩
abbrev S4x2x4x16x128 : Shape := ⟨5, ![4, 2, 4, 16, 128]⟩
abbrev S4x16x2x128x4x128 : Shape := ⟨6, ![4, 16, 2, 128, 4, 128]⟩
abbrev S4x2x128x4x16x128 : Shape := ⟨6, ![4, 2, 128, 4, 16, 128]⟩
abbrev S4x2048x1024 : Shape := ⟨3, ![4, 2048, 1024]⟩
abbrev S1024x8x128 : Shape := ⟨3, ![1024, 8, 128]⟩
abbrev S4x256x8x128 : Shape := ⟨4, ![4, 256, 8, 128]⟩
abbrev S4x256x2x4x128 : Shape := ⟨5, ![4, 256, 2, 4, 128]⟩
abbrev S4x2x256x256x4 : Shape := ⟨5, ![4, 2, 256, 256, 4]⟩
abbrev S4x2x4x256x256 : Shape := ⟨5, ![4, 2, 4, 256, 256]⟩
abbrev S1x2x4x1x1 : Shape := ⟨5, ![1, 2, 4, 1, 1]⟩
abbrev S4x2x4x256x1 : Shape := ⟨5, ![4, 2, 4, 256, 1]⟩
abbrev S4x2x4x256x257 : Shape := ⟨5, ![4, 2, 4, 256, 257]⟩
abbrev S4x2x4x256 : Shape := ⟨4, ![4, 2, 4, 256]⟩
abbrev S4x2x128x4x256 : Shape := ⟨5, ![4, 2, 128, 4, 256]⟩
abbrev S4x256x1024 : Shape := ⟨3, ![4, 256, 1024]⟩
abbrev S8192x1024 : Shape := ⟨2, ![8192, 1024]⟩
abbrev S1024x1024 : Shape := ⟨2, ![1024, 1024]⟩

abbrev nBuf : Space → Nat
  | .hbm => 284
  | .vmem => 0
  | .smem => 0
  | _ => 0

abbrev hbmTy0_0 (i : Nat) : BufTy := match i % 128 with
  | 0 => ⟨S9216x20480, .bf16⟩
  | 1 => ⟨S128, .f32⟩
  | 2 => ⟨S128, .f32⟩
  | 3 => ⟨S8, .f32⟩
  | 4 => ⟨S9216x20480, .f32⟩
  | 5 => ⟨S9216x1024, .f32⟩
  | 6 => ⟨S9216x8x128, .f32⟩
  | 7 => ⟨S9216x8x128, .f32⟩
  | 8 => ⟨S_, .f32⟩
  | 9 => ⟨S9216x8, .f32⟩
  | 10 => ⟨S9216x8x1, .f32⟩
  | 11 => ⟨S_, .f32⟩
  | 12 => ⟨S9216x8x1, .f32⟩
  | 13 => ⟨S9216x8x1, .f32⟩
  | 14 => ⟨S_, .f32⟩
  | 15 => ⟨S9216x8x1, .f32⟩
  | 16 => ⟨S9216x8x1, .f32⟩
  | 17 => ⟨S9216x8x1, .f32⟩
  | 18 => ⟨S9216x8x128, .f32⟩
  | 19 => ⟨S9216x8x128, .f32⟩
  | 20 => ⟨S1x1x128, .f32⟩
  | 21 => ⟨S9216x8x128, .f32⟩
  | 22 => ⟨S9216x8x128, .f32⟩
  | 23 => ⟨S9216x256, .f32⟩
  | 24 => ⟨S9216x2x128, .f32⟩
  | 25 => ⟨S9216x2x128, .f32⟩
  | 26 => ⟨S_, .f32⟩
  | 27 => ⟨S9216x2, .f32⟩
  | 28 => ⟨S9216x2x1, .f32⟩
  | 29 => ⟨S_, .f32⟩
  | 30 => ⟨S9216x2x1, .f32⟩
  | 31 => ⟨S9216x2x1, .f32⟩
  | 32 => ⟨S_, .f32⟩
  | 33 => ⟨S9216x2x1, .f32⟩
  | 34 => ⟨S9216x2x1, .f32⟩
  | 35 => ⟨S9216x2x1, .f32⟩
  | 36 => ⟨S9216x2x128, .f32⟩
  | 37 => ⟨S9216x2x128, .f32⟩
  | 38 => ⟨S1x1x128, .f32⟩
  | 39 => ⟨S9216x2x128, .f32⟩
  | 40 => ⟨S9216x2x128, .f32⟩
  | 41 => ⟨S9216x256, .f32⟩
  | 42 => ⟨S9216x2x128, .f32⟩
  | 43 => ⟨S8192x8x128, .f32⟩
  | 44 => ⟨S4x2048x8x128, .f32⟩
  | 45 => ⟨S8192x2x128, .f32⟩
  | 46 => ⟨S4x2048x2x128, .f32⟩
  | 47 => ⟨S4x2048x10x128, .f32⟩
  | 48 => ⟨S2048, .i32⟩
  | 49 => ⟨S_, .i32⟩
  | 50 => ⟨S2048, .i32⟩
  | 51 => ⟨S2048, .i32⟩
  | 52 => ⟨S2048, .i32⟩
  | 53 => ⟨S2048, .i32⟩
  | 54 => ⟨S2048, .i32⟩
  | 55 => ⟨S2048, .i1⟩
  | 56 => ⟨S2048, .i32⟩
  | 57 => ⟨S_, .i32⟩
  | 58 => ⟨S2048, .i32⟩
  | 59 => ⟨S2048, .i1⟩
  | 60 => ⟨S2048, .i1⟩
  | 61 => ⟨S_, .i32⟩
  | 62 => ⟨S2048, .i32⟩
  | 63 => ⟨S2048, .i32⟩
  | 64 => ⟨S2048, .i32⟩
  | 65 => ⟨S2048, .f32⟩
  | 66 => ⟨S2048, .i32⟩
  | 67 => ⟨S_, .i32⟩
  | 68 => ⟨S2048, .i32⟩
  | 69 => ⟨S2048, .i1⟩
  | 70 => ⟨S_, .i32⟩
  | 71 => ⟨S2048, .i32⟩
  | 72 => ⟨S2048, .i32⟩
  | 73 => ⟨S2048, .i32⟩
  | 74 => ⟨S_, .i32⟩
  | 75 => ⟨S2048, .i32⟩
  | 76 => ⟨S2048, .i1⟩
  | 77 => ⟨S_, .i32⟩
  | 78 => ⟨S2048, .i32⟩
  | 79 => ⟨S2048, .i1⟩
  | 80 => ⟨S_, .i32⟩
  | 81 => ⟨S2048, .i32⟩
  | 82 => ⟨S2048, .i1⟩
  | 83 => ⟨S2048, .i1⟩
  | 84 => ⟨S2048, .i1⟩
  | 85 => ⟨S2048, .i32⟩
  | 86 => ⟨S2048, .i32⟩
  | 87 => ⟨S2048, .f32⟩
  | 88 => ⟨S32, .f32⟩
  | 89 => ⟨S32, .f32⟩
  | 90 => ⟨S_, .f32⟩
  | 91 => ⟨S32, .f32⟩
  | 92 => ⟨S32, .f32⟩
  | 93 => ⟨S_, .f32⟩
  | 94 => ⟨S32, .f32⟩
  | 95 => ⟨S32, .f32⟩
  | 96 => ⟨S4x2048x10x64, .f32⟩
  | 97 => ⟨S2048x1, .f32⟩
  | 98 => ⟨S1x32, .f32⟩
  | 99 => ⟨S2048x32, .f32⟩
  | 100 => ⟨S2048x32, .f32⟩
  | 101 => ⟨S2048x32, .f32⟩
  | 102 => ⟨S2048x32, .f32⟩
  | 103 => ⟨S1x2048x1x32, .f32⟩
  | 104 => ⟨S2048x32, .f32⟩
  | 105 => ⟨S1x2048x1x32, .f32⟩
  | 106 => ⟨S4x2048x10x32, .f32⟩
  | 107 => ⟨S4x2048x10x32, .f32⟩
  | 108 => ⟨S4x2048x10x32, .f32⟩
  | 109 => ⟨S4x2048x10x32, .f32⟩
  | 110 => ⟨S4x2048x10x32, .f32⟩
  | 111 => ⟨S4x2048x10x32, .f32⟩
  | 112 => ⟨S4x2048x10x32, .f32⟩
  | 113 => ⟨S4x2048x10x32, .f32⟩
  | 114 => ⟨S4x2048x10x32, .f32⟩
  | 115 => ⟨S4x2048x10x32, .f32⟩
  | 116 => ⟨S4x2048x10x32, .f32⟩
  | 117 => ⟨S4x2048x10x32, .f32⟩
  | 118 => ⟨S4x2048x10x64, .f32⟩
  | 119 => ⟨S4x2048x10x64, .f32⟩
  | 120 => ⟨S2048x1, .f32⟩
  | 121 => ⟨S1x32, .f32⟩
  | 122 => ⟨S2048x32, .f32⟩
  | 123 => ⟨S2048x32, .f32⟩
  | 124 => ⟨S2048x32, .f32⟩
  | 125 => ⟨S2048x32, .f32⟩
  | 126 => ⟨S1x2048x1x32, .f32⟩
  | 127 => ⟨S2048x32, .f32⟩
  | _ => ⟨S9216x20480, .bf16⟩

abbrev hbmTy0_1 (i : Nat) : BufTy := match i % 128 with
  | 0 => ⟨S1x2048x1x32, .f32⟩
  | 1 => ⟨S4x2048x10x32, .f32⟩
  | 2 => ⟨S4x2048x10x32, .f32⟩
  | 3 => ⟨S4x2048x10x32, .f32⟩
  | 4 => ⟨S4x2048x10x32, .f32⟩
  | 5 => ⟨S4x2048x10x32, .f32⟩
  | 6 => ⟨S4x2048x10x32, .f32⟩
  | 7 => ⟨S4x2048x10x32, .f32⟩
  | 8 => ⟨S4x2048x10x32, .f32⟩
  | 9 => ⟨S4x2048x10x32, .f32⟩
  | 10 => ⟨S4x2048x10x32, .f32⟩
  | 11 => ⟨S4x2048x10x32, .f32⟩
  | 12 => ⟨S4x2048x10x32, .f32⟩
  | 13 => ⟨S4x2048x10x64, .f32⟩
  | 14 => ⟨S4x2048x10x128, .f32⟩
  | 15 => ⟨S4x2048x8x128, .f32⟩
  | 16 => ⟨S4x2048x2x128, .f32⟩
  | 17 => ⟨S8192x2x128, .f32⟩
  | 18 => ⟨S4x2048x2x128, .f32⟩
  | 19 => ⟨S1024x2x128, .f32⟩
  | 20 => ⟨S4x256x2x128, .f32⟩
  | 21 => ⟨S1024x2x128, .f32⟩
  | 22 => ⟨S4x256x2x128, .f32⟩
  | 23 => ⟨S4x16x128x2x4x128, .f32⟩
  | 24 => ⟨S_, .i32⟩
  | 25 => ⟨S_, .f32⟩
  | 26 => ⟨S4x2304x2x128, .f32⟩
  | 27 => ⟨S4x18x128x2x128, .f32⟩
  | 28 => ⟨S4x16x128x2x128, .f32⟩
  | 29 => ⟨S4x16x128x2x128, .f32⟩
  | 30 => ⟨S4x16x128x2x128, .f32⟩
  | 31 => ⟨S4x16x384x2x128, .f32⟩
  | 32 => ⟨S_, .i32⟩
  | 33 => ⟨S_, .f32⟩
  | 34 => ⟨S4x2304x2x128, .f32⟩
  | 35 => ⟨S4x18x128x2x128, .f32⟩
  | 36 => ⟨S4x16x128x2x128, .f32⟩
  | 37 => ⟨S4x16x128x2x128, .f32⟩
  | 38 => ⟨S4x16x128x2x128, .f32⟩
  | 39 => ⟨S4x16x384x2x128, .f32⟩
  | 40 => ⟨S4x2x16x384x128x4, .f32⟩
  | 41 => ⟨S4x2x4x16x128x384, .f32⟩
  | 42 => ⟨S_, .f32⟩
  | 43 => ⟨S4x2x4x16x128x384, .f32⟩
  | 44 => ⟨S4x2x4x16x128x384, .f32⟩
  | 45 => ⟨S4x2x256x16x128x4, .f32⟩
  | 46 => ⟨S4x2x4x16x128x256, .f32⟩
  | 47 => ⟨S_, .f32⟩
  | 48 => ⟨S4x2x4x16x128x256, .f32⟩
  | 49 => ⟨S4x2x4x16x128x256, .f32⟩
  | 50 => ⟨S16, .i32⟩
  | 51 => ⟨S16x1, .i32⟩
  | 52 => ⟨S_, .i32⟩
  | 53 => ⟨S16x1, .i32⟩
  | 54 => ⟨S16x1, .i32⟩
  | 55 => ⟨S128, .i32⟩
  | 56 => ⟨S1x128, .i32⟩
  | 57 => ⟨S16x128, .i32⟩
  | 58 => ⟨S16x128, .i32⟩
  | 59 => ⟨S16x128, .i32⟩
  | 60 => ⟨S_, .i32⟩
  | 61 => ⟨S16x1, .i32⟩
  | 62 => ⟨S16x1, .i32⟩
  | 63 => ⟨S384, .i32⟩
  | 64 => ⟨S1x384, .i32⟩
  | 65 => ⟨S16x384, .i32⟩
  | 66 => ⟨S16x384, .i32⟩
  | 67 => ⟨S16x384, .i32⟩
  | 68 => ⟨S16x1x384, .i32⟩
  | 69 => ⟨S16x128x1, .i32⟩
  | 70 => ⟨S16x128x384, .i32⟩
  | 71 => ⟨S16x128x384, .i32⟩
  | 72 => ⟨S16x128x384, .i32⟩
  | 73 => ⟨S16x128x384, .i32⟩
  | 74 => ⟨S_, .i32⟩
  | 75 => ⟨S16x128x384, .i32⟩
  | 76 => ⟨S16x128x384, .i1⟩
  | 77 => ⟨S_, .i32⟩
  | 78 => ⟨S16x1x384, .i32⟩
  | 79 => ⟨S16x1x384, .i1⟩
  | 80 => ⟨S16x128x384, .i1⟩
  | 81 => ⟨S16x128x384, .i1⟩
  | 82 => ⟨S_, .i32⟩
  | 83 => ⟨S16x1x384, .i32⟩
  | 84 => ⟨S16x1x384, .i1⟩
  | 85 => ⟨S16x128x384, .i1⟩
  | 86 => ⟨S16x128x384, .i1⟩
  | 87 => ⟨S_, .f32⟩
  | 88 => ⟨S_, .f32⟩
  | 89 => ⟨S4x2x4x16x128x384, .i1⟩
  | 90 => ⟨S4x2x4x16x128x384, .f32⟩
  | 91 => ⟨S4x2x4x16x128x384, .f32⟩
  | 92 => ⟨S4x2x4x16x128x640, .f32⟩
  | 93 => ⟨S1x2x4x1x1x1, .f32⟩
  | 94 => ⟨S4x2x4x16x128x1, .f32⟩
  | 95 => ⟨S4x2x4x16x128x641, .f32⟩
  | 96 => ⟨S_, .f32⟩
  | 97 => ⟨S4x2x4x16x128, .f32⟩
  | 98 => ⟨S_, .f32⟩
  | 99 => ⟨S4x2x4x16x128, .f32⟩
  | 100 => ⟨S4x2x4x16x128, .f32⟩
  | 101 => ⟨S4x2x4x16x128x1, .f32⟩
  | 102 => ⟨S4x2x4x16x128x641, .f32⟩
  | 103 => ⟨S4x2x4x16x128x641, .f32⟩
  | 104 => ⟨S4x2x4x16x128x641, .f32⟩
  | 105 => ⟨S_, .f32⟩
  | 106 => ⟨S4x2x4x16x128, .f32⟩
  | 107 => ⟨S4x2x4x16x128x1, .f32⟩
  | 108 => ⟨S4x2x4x16x128x641, .f32⟩
  | 109 => ⟨S4x2x4x16x128x641, .f32⟩
  | 110 => ⟨S4x2x4x16x128x640, .f32⟩
  | 111 => ⟨S4x2x4x16x128x384, .f32⟩
  | 112 => ⟨S4x16x2x128x4x128, .f32⟩
  | 113 => ⟨S4x16x128x2x4x128, .f32⟩
  | 114 => ⟨S4x2x4x16x128x256, .f32⟩
  | 115 => ⟨S4x2x128x4x16x128, .f32⟩
  | 116 => ⟨S4x16x128x2x4x128, .f32⟩
  | 117 => ⟨S4x16x128x2x4x128, .f32⟩
  | 118 => ⟨S4x2048x1024, .f32⟩
  | 119 => ⟨S1024x8x128, .f32⟩
  | 120 => ⟨S4x256x8x128, .f32⟩
  | 121 => ⟨S1024x2x128, .f32⟩
  | 122 => ⟨S4x256x2x128, .f32⟩
  | 123 => ⟨S1024x2x128, .f32⟩
  | 124 => ⟨S4x256x2x128, .f32⟩
  | 125 => ⟨S4x256x2x4x128, .f32⟩
  | 126 => ⟨S4x2x256x256x4, .f32⟩
  | 127 => ⟨S4x2x4x256x256, .f32⟩
  | _ => ⟨S9216x20480, .bf16⟩

abbrev hbmTy0_2 (i : Nat) : BufTy := match i % 128 with
  | 0 => ⟨S_, .f32⟩
  | 1 => ⟨S4x2x4x256x256, .f32⟩
  | 2 => ⟨S4x2x4x256x256, .f32⟩
  | 3 => ⟨S1x2x4x1x1, .f32⟩
  | 4 => ⟨S4x2x4x256x1, .f32⟩
  | 5 => ⟨S4x2x4x256x257, .f32⟩
  | 6 => ⟨S_, .f32⟩
  | 7 => ⟨S4x2x4x256, .f32⟩
  | 8 => ⟨S_, .f32⟩
  | 9 => ⟨S4x2x4x256, .f32⟩
  | 10 => ⟨S4x2x4x256, .f32⟩
  | 11 => ⟨S4x2x4x256x1, .f32⟩
  | 12 => ⟨S4x2x4x256x257, .f32⟩
  | 13 => ⟨S4x2x4x256x257, .f32⟩
  | 14 => ⟨S4x2x4x256x257, .f32⟩
  | 15 => ⟨S_, .f32⟩
  | 16 => ⟨S4x2x4x256, .f32⟩
  | 17 => ⟨S4x2x4x256x1, .f32⟩
  | 18 => ⟨S4x2x4x256x257, .f32⟩
  | 19 => ⟨S4x2x4x256x257, .f32⟩
  | 20 => ⟨S4x2x4x256x256, .f32⟩
  | 21 => ⟨S4x2x128x4x256, .f32⟩
  | 22 => ⟨S4x256x2x4x128, .f32⟩
  | 23 => ⟨S4x256x1024, .f32⟩
  | 24 => ⟨S8192x1024, .f32⟩
  | 25 => ⟨S1024x1024, .f32⟩
  | 26 => ⟨S9216x1024, .f32⟩
  | 27 => ⟨S9216x1024, .bf16⟩
  | _ => ⟨S9216x20480, .bf16⟩

abbrev hbmTy (i : Nat) : BufTy := match i / 128 with
  | 0 => hbmTy0_0 i
  | 1 => hbmTy0_1 i
  | 2 => hbmTy0_2 i
  | _ => ⟨S9216x20480, .bf16⟩

abbrev bufTy : (tb : Table) → Fin (tcTables nBuf tb) → BufTy
  | .hbm, ⟨i, _⟩ => hbmTy i
  | _, _ => ⟨S9216x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c : Ref sig .tc := ⟨.hbm, 49, rfl⟩
abbrev main_v39 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_c : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_c_0 : Ref sig .tc := ⟨.hbm, 61, rfl⟩
abbrev main_call0_v9 : Ref sig .tc := ⟨.hbm, 62, rfl⟩
abbrev main_call0_v10 : Ref sig .tc := ⟨.hbm, 63, rfl⟩
abbrev main_v40 : Ref sig .tc := ⟨.hbm, 64, rfl⟩
abbrev main_v41 : Ref sig .tc := ⟨.hbm, 65, rfl⟩
abbrev main_call1_v0 : Ref sig .tc := ⟨.hbm, 66, rfl⟩
abbrev main_call1_c : Ref sig .tc := ⟨.hbm, 67, rfl⟩
abbrev main_call1_v1 : Ref sig .tc := ⟨.hbm, 68, rfl⟩
abbrev main_call1_v2 : Ref sig .tc := ⟨.hbm, 69, rfl⟩
abbrev main_call1_c_0 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_v6 : Ref sig .tc := ⟨.hbm, 75, rfl⟩
abbrev main_call1_v7 : Ref sig .tc := ⟨.hbm, 76, rfl⟩
abbrev main_call1_c_2 : Ref sig .tc := ⟨.hbm, 77, rfl⟩
abbrev main_call1_v8 : Ref sig .tc := ⟨.hbm, 78, rfl⟩
abbrev main_call1_v9 : Ref sig .tc := ⟨.hbm, 79, rfl⟩
abbrev main_call1_c_3 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_5 : Ref sig .tc := ⟨.hbm, 90, rfl⟩
abbrev main_v46 : Ref sig .tc := ⟨.hbm, 91, rfl⟩
abbrev main_v47 : Ref sig .tc := ⟨.hbm, 92, rfl⟩
abbrev main_cst_6 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_c_7 : Ref sig .tc := ⟨.hbm, 152, rfl⟩
abbrev main_call2_v0 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_c_8 : Ref sig .tc := ⟨.hbm, 160, rfl⟩
abbrev main_call3_v0 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_9 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_10 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_c_11 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_c_12 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_c_13 : Ref sig .tc := ⟨.hbm, 202, rfl⟩
abbrev main_v148 : Ref sig .tc := ⟨.hbm, 203, rfl⟩
abbrev main_v149 : Ref sig .tc := ⟨.hbm, 204, rfl⟩
abbrev main_c_14 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_c_15 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_cst_16 : Ref sig .tc := ⟨.hbm, 215, rfl⟩
abbrev main_call4_v0 : Ref sig .tc := ⟨.hbm, 216, rfl⟩
abbrev main_call4_v1 : Ref sig .tc := ⟨.hbm, 217, rfl⟩
abbrev main_call4_v2 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_cst_17 : Ref sig .tc := ⟨.hbm, 224, rfl⟩
abbrev main_v163 : Ref sig .tc := ⟨.hbm, 225, rfl⟩
abbrev main_cst_18 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_cst_19 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_cst_20 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_cst_21 : Ref sig .tc := ⟨.hbm, 262, rfl⟩
abbrev main_v197 : Ref sig .tc := ⟨.hbm, 263, rfl⟩
abbrev main_cst_22 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_cst_23 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩

abbrev nD : Nat := 1
abbrev τ : Topo := Topo.v7x

variable {F : FTy → Type} [FloatOps F]

def κ : String → Option EReal := fun
  | "mask" => some ⊥
  | _ => none
-- ==== Proof.SwigluValue.lean ====
/-
  The gated feed-forward product, `silu(x · Wg) * (x · Wu)`: what the tiled kernel's result array holds.

  The kernel walks a (9, 8) grid of 1024 x 512 result blocks. At a point it multiplies 1024 whole rows of `x` with 512
  whole columns of the gate half of the weights and with the same 512 columns of the value half, so every result element
  is two full inner products, the same the reference takes before it slices its one product in two. `point` says so for
  one element of one block, `final` for the array.
-/
module

public import proofs.«01_k».proof.Defs
public import proofs.«01_k».proof.Proof.Gen.SwigluIdeal.Value
public import proofs.«01_k».proof.Proof.Gen.SwigluRefIdeal.Run
public import proofs.«01_k».proof.Proof.Gen.SwigluRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SwigluIdeal.Whole

open Cert.SwigluIdeal Cert.SwigluIdeal.Gen Cert.SwigluRefIdeal.Read

variable (m : (ℓ : Loc nD τ sig) → Buf (Elt Ideal) ℓ)

/-- The reference's result as a function of the two arguments. -/
def ref (x : FVec Ideal S9216x4096 .bf16) (w : FVec Ideal S4096x8192 .f32) : FVec Ideal S9216x4096 .bf16 :=
  val_main_v6 (F := Ideal) x w

/-- Where each window's block sits, over all points. -/
theorem blocksAt : ∀ t : Fin cfg0.N, win0_0.index t = ![t.val / 8, 0] ∧ win0_1.index t = ![0, t.val % 8]
    ∧ win0_2.index t = ![0, 8 + t.val % 8] ∧ win0_3.index t = ![t.val / 8, t.val % 8] :=
  (by decide +kernel : ∀ t : Fin grid0.N, _)

/-- One element of one block is the reference's element there. -/
theorem point (c : Dev nD) (t : Fin cfg0.N) (y) :
    k0_pay1 (iblk m c 0 t) (iblk m c 1 t) (iblk m c 2 t) y
      = ref (m ((c : Thread nD τ).loc main_arg0)) (m ((c : Thread nD τ).loc main_arg1)) (((cfg0.win 3).blk t).view.emb y) := by
  pointwise [k0_pay1, ref, val_main_v6, val_main_v5, val_main_v4, val_main_call0_v5, val_main_call0_v4, val_main_call0_cst_0,
    val_main_call0_v3, val_main_call0_v2, val_main_call0_cst, val_main_call0_v1, val_main_call0_v0, val_main_v3, val_main_v2,
    val_main_v1, val_main_v0]
  simp only [zero_sub]
  blk_point [iblk, V, blocksAt t]

/-- The result array after the run is the reference's result. -/
theorem final (c : Dev nD) : (dats m 0 c).arrAt 3 (cfgs 0).N
    = ref (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

end Cert.SwigluIdeal.Whole

end
-- ==== Proof.SwigluClaim.lean ====
/-
  The five claims about the pair `Swiglu`: the frames of the three programs, the idealization, and the equality of the results.
-/
module

public import proofs.«01_k».proof.Proof.SwigluValue
public import proofs.«01_k».proof.Proof.Gen.Swiglu.Frame

@[expose] public section

set_option maxRecDepth 16384

noncomputable section

namespace Cert.Proof.SwigluClaim

open Idealize.ShloMosaic Idealize.ShloMosaic.TcCoe Idealize.SL.Sem

/-- The kernel's frame, as printed. -/
theorem frameP : Cert.quiescent_Swiglu := fun m ρ _ => Cert.Swiglu.Gen.frame m ρ

/-- The kernel's frame, idealized. -/
theorem framePI : Cert.quiescent_SwigluIdeal := fun m ρ _ => Cert.SwigluIdeal.Gen.frame m ρ

/-- The reference's frame. -/
theorem frameRI : Cert.quiescent_SwigluRefIdeal := fun m ρ _ =>
  (θ_run Cert.SwigluRefIdeal.defs _ _).mono (fun r h => ⟨fun c => (h c).2, Idealize.ShloMosaic.sem_eq_zero_of_no_sems (by decide) r.2⟩)
    (Cert.SwigluRefIdeal.Value.run (F := Ideal) m ρ)

/-- No operation was rewritten. -/
theorem preserves : Cert.preserves_Swiglu_SwigluIdeal := trivial

/-- The kernel's result is the reference's. -/
theorem algebraic : Cert.algebraic_SwigluIdeal_SwigluRefIdeal := by
  pair_intro
  · run_from Cert.SwigluIdeal.Value.run_blocks m g
  · run_from Cert.SwigluRefIdeal.Value.run (F := Ideal) m' g'
    rw [Cert.SwigluIdeal.Whole.final m c]
    rfl

end Cert.Proof.SwigluClaim

end
-- ==== Proof.ProjPacked.lean ====
/-
  The layer's input projection, `x · W`: the packed weights, and the reference read with them.

  The weights are packed first: three groups of columns with zero columns between, so that each part of the projection
  begins at a multiple of the block width. The kernel walks a (9, 20) grid of 1024 x 1024 result blocks, each one full
  inner product per element over the packed weights; the reference multiplies by the weights as they are and lays the
  parts out with zeros between. A packed column is either a column of the weights or zero, and a row times a zero column
  is zero.
-/
module

public import proofs.«01_k».proof.Defs
public import proofs.«01_k».proof.Proof.Gen.ProjIdeal.Value
public import proofs.«01_k».proof.Proof.Gen.ProjRefIdeal.Run
public import proofs.«01_k».proof.Proof.Gen.ProjRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjIdeal.Whole

open Cert.ProjIdeal Cert.ProjIdeal.Gen Cert.ProjRefIdeal.Read

variable (m : (ℓ : Loc nD τ sig) → Buf (Elt Ideal) ℓ)

/-- The reference's result as a function of its arguments. -/
def ref (x0 : FVec Ideal S9216x4096 .bf16) (x1 : FVec Ideal S4096x20000 .f32) : FVec Ideal S9216x20480 .bf16 :=
  val_main_v16 (F := Ideal) x0 x1

/-- Where each window's block sits, over all points. -/
theorem blocksAt : ∀ t : Fin cfg0.N, win0_0.index t = ![t.val / 20, 0] ∧ win0_1.index t = ![0, t.val % 20]
    ∧ win0_2.index t = ![t.val / 20, t.val % 20] :=
  (by decide +kernel : ∀ t : Fin grid0.N, _)

/-- The packed weights: the five groups of columns. -/
def packed (w : FVec Ideal S4096x20000 .f32) (k : Fin 4096) (n : Fin 20480) : EReal :=
  if h : n.val < 3072 then w (ix2 k ⟨n.val, by omega⟩)
  else if h' : n.val < 7680 then w (ix2 k ⟨n.val + 32, by omega⟩)
  else if h' : n.val < 7712 then w (ix2 k ⟨n.val - 4608, by omega⟩)
  else if h' : n.val < 8192 then 0
  else w (ix2 k ⟨n.val - 480, by omega⟩)

set_option maxHeartbeats 1600000 in
/-- The reference's array is the product with the packed weights. -/
theorem ref_apply (x : FVec Ideal S9216x4096 .bf16) (w : FVec Ideal S4096x20000 .f32) (r : Fin 9216) (n : Fin 20480) :
    ref x w (ix2 r n) = ∑ k : Fin 4096, x (ix2 r k) * packed w k n := by
  have e : ref x w (ix2 r n) = if h : n.val < 3072 then val_main_v1 (F := Ideal) x w (ix2 r ⟨n.val, by omega⟩)
      else if h' : n.val < 7680 then val_main_v1 (F := Ideal) x w (ix2 r ⟨n.val + 32, by omega⟩)
      else if h' : n.val < 7712 then val_main_v1 (F := Ideal) x w (ix2 r ⟨n.val - 4608, by omega⟩)
      else if h' : n.val < 8192 then 0
      else val_main_v1 (F := Ideal) x w (ix2 r ⟨n.val - 480, by omega⟩) := by
    pointwise [ref, val_main_v16, val_main_v15, val_main_v14, val_main_cst, val_main_v13, val_main_v12, val_main_v11,
      val_main_v10, val_main_v9, val_main_v8, val_main_v7, val_main_v6, val_main_v5, val_main_v4, val_main_v3, val_main_v2]
    generalize val_main_v1 (F := Ideal) x w = P
    by_cases h0 : n.val < 512
    · rw [dif_pos (by omega), dif_pos (by omega)]
    by_cases h1 : n.val < 1024
    · rw [dif_neg (by omega), dif_pos (by omega), dif_pos (by omega)]
      exact congrArg P ((ix2_inj ..).2 ⟨rfl, Fin.ext (by (try dsimp only) <;> omega)⟩)
    by_cases h2 : n.val < 2048
    · rw [dif_neg (by omega), dif_neg (by omega), dif_pos (by omega), dif_pos (by omega)]
      exact congrArg P ((ix2_inj ..).2 ⟨rfl, Fin.ext (by (try dsimp only) <;> omega)⟩)
    by_cases h3 : n.val < 3072
    · rw [dif_neg (by omega), dif_neg (by omega), dif_neg (by omega), dif_pos (by omega), dif_pos (by omega)]
      exact congrArg P ((ix2_inj ..).2 ⟨rfl, Fin.ext (by (try dsimp only) <;> omega)⟩)
    by_cases h4 : n.val < 4096
    · rw [dif_neg (by omega), dif_neg (by omega), dif_neg (by omega), dif_neg (by omega), dif_pos (by omega), dif_neg (by omega), dif_pos (by omega)]
      exact congrArg P ((ix2_inj ..).2 ⟨rfl, Fin.ext (by (try dsimp only) <;> omega)⟩)
    by_cases h5 : n.val < 4352
    · rw [dif_neg (by omega), dif_neg (by omega), dif_neg (by omega), dif_neg (by omega), dif_neg (by omega), dif_pos (by omega), dif_neg (by omega), dif_pos (by omega)]
      exact congrArg P ((ix2_inj ..).2 ⟨rfl, Fin.ext (by (try dsimp only) <;> omega)⟩)
    by_cases h6 : n.val < 4608
    · rw [dif_neg (by omega), dif_neg (by omega), dif_neg (by omega), dif_neg (by omega), dif_neg (by omega), dif_neg (by omega), dif_pos (by omega), dif_neg (by omega), dif_pos (by omega)]
      exact congrArg P ((ix2_inj ..).2 ⟨rfl, Fin.ext (by (try dsimp only) <;> omega)⟩)
    by_cases h7 : n.val < 5632
    · rw [dif_neg (by omega), dif_neg (by omega), dif_neg (by omega), dif_neg (by omega), dif_neg (by omega), dif_neg (by omega), dif_neg (by omega), dif_pos (by omega), dif_neg (by omega), dif_pos (by omega)]
      exact congrArg P ((ix2_inj ..).2 ⟨rfl, Fin.ext (by (try dsimp only) <;> omega)⟩)
    by_cases h8 : n.val < 6656
    · rw [dif_neg (by omega), dif_neg (by omega), dif_neg (by omega), dif_neg (by omega), dif_neg (by omega), dif_neg (by omega), dif_neg (by omega), dif_neg (by omega), dif_pos (by omega), dif_neg (by omega), dif_pos (by omega)]
      exact congrArg P ((ix2_inj ..).2 ⟨rfl, Fin.ext (by (try dsimp only) <;> omega)⟩)
    by_cases h9 : n.val < 7680
    · rw [dif_neg (by omega), dif_neg (by omega), dif_neg (by omega), dif_neg (by omega), dif_neg (by omega), dif_neg (by omega), dif_neg (by omega), dif_neg (by omega), dif_neg (by omega), dif_pos (by omega), dif_neg (by omega), dif_pos (by omega)]
      exact congrArg P ((ix2_inj ..).2 ⟨rfl, Fin.ext (by (try dsimp only) <;> omega)⟩)
    by_cases h10 : n.val < 7712
    · rw [dif_neg (by omega), dif_neg (by omega), dif_neg (by omega), dif_neg (by omega), dif_neg (by omega), dif_neg (by omega), dif_neg (by omega), dif_neg (by omega), dif_neg (by omega), dif_neg (by omega), dif_pos (by omega), dif_neg (by omega), dif_neg (by omega), dif_pos (by omega)]
      exact congrArg P ((ix2_inj ..).2 ⟨rfl, Fin.ext (by (try dsimp only) <;> omega)⟩)
    by_cases h11 : n.val < 8192
    · rw [dif_neg (by omega), dif_neg (by omega), dif_neg (by omega), dif_neg (by omega), dif_neg (by omega), dif_neg (by omega), dif_neg (by omega), dif_neg (by omega), dif_neg (by omega), dif_neg (by omega), dif_neg (by omega), dif_pos (by omega), dif_neg (by omega), dif_neg (by omega), dif_neg (by omega), dif_pos (by omega)]
    rw [dif_neg (by omega), dif_neg (by omega), dif_neg (by omega), dif_neg (by omega), dif_neg (by omega), dif_neg (by omega), dif_neg (by omega), dif_neg (by omega), dif_neg (by omega), dif_neg (by omega), dif_neg (by omega), dif_neg (by omega), dif_neg (by omega), dif_neg (by omega), dif_neg (by omega), dif_neg (by omega)]
    exact congrArg P ((ix2_inj ..).2 ⟨rfl, Fin.ext (by (try dsimp only) <;> omega)⟩)
  rw [e]
  unfold packed
  split_ifs
  · exact (val_main_v1_apply _ _ _).trans (Finset.sum_congr rfl fun k _ => congrArg₂ (· * ·) (congrArg x (by idx_ext)) (congrArg w (by idx_ext)))
  · exact (val_main_v1_apply _ _ _).trans (Finset.sum_congr rfl fun k _ => congrArg₂ (· * ·) (congrArg x (by idx_ext)) (congrArg w (by idx_ext)))
  · exact (val_main_v1_apply _ _ _).trans (Finset.sum_congr rfl fun k _ => congrArg₂ (· * ·) (congrArg x (by idx_ext)) (congrArg w (by idx_ext)))
  · exact (Finset.sum_eq_zero fun k _ => mul_zero (x (ix2 r k))).symm
  · exact (val_main_v1_apply _ _ _).trans (Finset.sum_congr rfl fun k _ => congrArg₂ (· * ·) (congrArg x (by idx_ext)) (congrArg w (by idx_ext)))

/-- The array the host packs: the parts side by side, the columns between them zero. -/
def packedArr (w : FVec Ideal S4096x20000 .f32) : FVec Ideal S4096x20480 .bf16 :=
  truncf .bf16 (concatenate S4096x20480 1
    [⟨S4096x3072, extractStridedSlice S4096x3072 ![0, 0] w slices_S4096x20000_S4096x3072_0_0⟩,
     ⟨S4096x4608, extractStridedSlice S4096x4608 ![0, 3104] w slices_S4096x20000_S4096x4608_0_3104⟩,
     ⟨S4096x32, extractStridedSlice S4096x32 ![0, 3072] w slices_S4096x20000_S4096x32_0_3072⟩,
     ⟨S4096x480, broadcastInDim S4096x480 ![] bcast_S_S4096x480 (constant S_ .f32 0x00000000#32)⟩,
     ⟨S4096x12288, extractStridedSlice S4096x12288 ![0, 7712] w slices_S4096x20000_S4096x12288_0_7712⟩]
    concatenates_S4096x3072_S4096x4608_S4096x32_S4096x480_S4096x12288_S4096x20480_d1) bitsLt_bf16_f32

/-- It is what the kernel finds as its weights. -/
theorem entry_packed (c : Dev nD) : V m c main_v6 = packedArr (m ((c : Thread nD τ).loc main_arg1)) := by
  show StableHlo.after hostOps0 (fun b => m (c, b)) (Proc.devRef .tc main_v6) = _
  after_results
  rfl

/-- Read at an index. -/
theorem packedArr_apply (w : FVec Ideal S4096x20000 .f32) (k : Fin 4096) (n : Fin 20480) :
    packedArr w (ix2 k n) = packed w k n := by
  pointwise [packedArr, packed]
  by_cases h0 : n.val < 3072
  · rw [dif_pos (by omega), dif_pos (by omega)]
  by_cases h1 : n.val < 7680
  · rw [dif_neg (by omega), dif_pos (by omega), dif_neg (by omega), dif_pos (by omega)]
    exact congrArg w ((ix2_inj ..).2 ⟨rfl, Fin.ext (by (try dsimp only) <;> omega)⟩)
  by_cases h2 : n.val < 7712
  · rw [dif_neg (by omega), dif_neg (by omega), dif_pos (by omega), dif_neg (by omega), dif_neg (by omega), dif_pos (by omega)]
    exact congrArg w ((ix2_inj ..).2 ⟨rfl, Fin.ext (by (try dsimp only) <;> omega)⟩)
  by_cases h3 : n.val < 8192
  · rw [dif_neg (by omega), dif_neg (by omega), dif_neg (by omega), dif_pos (by omega), dif_neg (by omega), dif_neg (by omega),
      dif_neg (by omega), dif_pos (by omega)]
  rw [dif_neg (by omega), dif_neg (by omega), dif_neg (by omega), dif_neg (by omega), dif_neg (by omega), dif_neg (by omega),
    dif_neg (by omega), dif_neg (by omega)]
  exact congrArg w ((ix2_inj ..).2 ⟨rfl, Fin.ext (by (try dsimp only) <;> omega)⟩)

end Cert.ProjIdeal.Whole

end
-- ==== Proof.ProjValue.lean ====
/-
  The layer's input projection, `x · W`: the tiled kernel's result array is the reference's.

  A point multiplies 1024 whole rows of `x` with 1024 whole columns of the packed weights, so an element of its block is
  the inner product `ref_apply` (ProjPacked.lean) states for the reference.
-/
module

public import proofs.«01_k».proof.Proof.ProjPacked

@[expose] public section

set_option maxRecDepth 16384

noncomputable section

open Idealize.ShloMosaic Idealize.ShloMosaic.TcCoe Idealize.SL.Sem
open Idealize.ShloMosaic.Pipeline (Dat)

namespace Cert.ProjIdeal.Whole

open Cert.ProjIdeal Cert.ProjIdeal.Gen Cert.ProjRefIdeal.Read

variable (m : (ℓ : Loc nD τ sig) → Buf (Elt Ideal) ℓ)

/-- The result array after the run is the reference's result. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  rw [eq_ix2 (((View.whole main_v7).slice (win0_2.rect t)).emb y)]
  refine Eq.trans ?_ (ref_apply _ _ _ _).symm
  pointwise [k0_pay1]
  blk_simp [iblk]
  reads_congr
  · rw [V_main_arg0]
    blk_ext [blocksAt t]
  · refine Ideal.mul_congr rfl (Eq.trans ?_ (packedArr_apply _ _ _))
    rw [entry_packed]
    blk_ext [blocksAt t]

end Cert.ProjIdeal.Whole

end
-- ==== Proof.ProjClaim.lean ====
/-
  The five claims about the pair `Proj`: the frames of the three programs, the idealization, and the equality of the results.
-/
module

public import proofs.«01_k».proof.Proof.ProjValue
public import proofs.«01_k».proof.Proof.Gen.Proj.Frame

@[expose] public section

set_option maxRecDepth 16384

noncomputable section

namespace Cert.Proof.ProjClaim

open Idealize.ShloMosaic Idealize.ShloMosaic.TcCoe Idealize.SL.Sem

/-- The kernel's frame, as printed. -/
theorem frameP : Cert.quiescent_Proj := fun m ρ _ => Cert.Proj.Gen.frame m ρ

/-- The kernel's frame, idealized. -/
theorem framePI : Cert.quiescent_ProjIdeal := fun m ρ _ => Cert.ProjIdeal.Gen.frame m ρ

/-- The reference's frame. -/
theorem frameRI : Cert.quiescent_ProjRefIdeal := fun m ρ _ =>
  (θ_run Cert.ProjRefIdeal.defs _ _).mono (fun r h => ⟨fun c => (h c).2, Idealize.ShloMosaic.sem_eq_zero_of_no_sems (by decide) r.2⟩)
    (Cert.ProjRefIdeal.Value.run (F := Ideal) m ρ)

/-- No operation was rewritten. -/
theorem preserves : Cert.preserves_Proj_ProjIdeal := trivial

/-- The kernel's result is the reference's. -/
theorem algebraic : Cert.algebraic_ProjIdeal_ProjRefIdeal := by
  pair_intro
  · run_from Cert.ProjIdeal.Value.run_blocks m g
  · run_from Cert.ProjRefIdeal.Value.run (F := Ideal) m' g'
    rw [Cert.ProjIdeal.Whole.final m c, Cert.ProjRefIdeal.Read.val_main_v16_eq m' c, (hagree c).1, (hagree c).2]
    rfl

end Cert.Proof.ProjClaim

end
-- ==== Proof.ResidValue.lean ====
/-
  The feed-forward's second product with its gated residual, `h + 0.5 · g · (a · W)`.
-/
module

public import proofs.«01_k».proof.Defs
public import proofs.«01_k».proof.Proof.Gen.ResidIdeal.Value
public import proofs.«01_k».proof.Proof.Gen.ResidRefIdeal.Run
public import proofs.«01_k».proof.Proof.Gen.ResidRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ResidIdeal.Whole

open Cert.ResidIdeal Cert.ResidIdeal.Gen Cert.ResidRefIdeal.Read

variable (m : (ℓ : Loc nD τ sig) → Buf (Elt Ideal) ℓ)

/-- The reference's result as a function of its arguments. -/
def ref (x0 : FVec Ideal S9216x4096 .bf16) (x1 : FVec Ideal S4096x4096 .f32)
    (x2 : FVec Ideal S9216x4096 .f32) (x3 : FVec Ideal S288x1x4096 .f32) : FVec Ideal S9216x4096 .f32 :=
  val_main_v29 (F := Ideal) x0 x1 x2 x3

/-- Where each window's block sits, over all points. -/
theorem blocksAt : ∀ t : Fin cfg0.N, win0_0.index t = ![t.val / 4, 0] ∧ win0_1.index t = ![0, t.val % 4]
    ∧ win0_2.index t = ![t.val / 4, t.val % 4] ∧ win0_3.index t = ![16 + t.val / 8, 0, t.val % 4]
    ∧ win0_4.index t = ![t.val / 4, t.val % 4] :=
  (by decide +kernel : ∀ t : Fin grid0.N, _)

/-- The reference at an index: rows below 8192 take the gate of their sequence, the rest the context's, and both are the
    gate row `16 + r / 2048`. -/
theorem ref_apply (x0 : FVec Ideal S9216x4096 .bf16) (x1 : FVec Ideal S4096x4096 .f32)
    (x2 : FVec Ideal S9216x4096 .f32) (x3 : FVec Ideal S288x1x4096 .f32) (r : Fin 9216) (n : Fin 4096) :
    ref x0 x1 x2 x3 (ix2 r n) = x2 (ix2 r n) + Ideal.ofBits FTy.f32 0x3F000000#32 * x3 (ix3 ⟨16 + r.val / 2048, by omega⟩ 0 n)
      * ∑ k : Fin 4096, x0 (ix2 r k) * x1 (ix2 k n) := by
  pointwise [ref, val_main_v29, val_main_v28, val_main_v27, val_main_v26, val_main_v25, val_main_v24,
    val_main_v23, val_main_v22, val_main_v21, val_main_v20, val_main_cst_0, val_main_v19, val_main_v18,
    val_main_v17, val_main_v16, val_main_v15, val_main_v14, val_main_v13, val_main_v12, val_main_v11,
    val_main_v10, val_main_v9, val_main_cst, val_main_v8, val_main_v7, val_main_v6, val_main_v5, val_main_v4,
    val_main_v3, val_main_v2, val_main_v1, val_main_v0]
  have e1 (h : r.val < 8192) : (⟨r.val / 2048 * 2048 + r.val % 2048, by omega⟩ : Fin 9216) = r := Fin.ext (by dsimp only; omega)
  have e2 (h : ¬ r.val < 8192) : (⟨8192 + ((r.val - 8192) / 256 * 256 + (r.val - 8192) % 256), by omega⟩ : Fin 9216) = r :=
    Fin.ext (by dsimp only; omega)
  have e3 (h : ¬ r.val < 8192) : (20 : Fin 288) = ⟨16 + r.val / 2048, by omega⟩ := Fin.ext (by show 20 = 16 + r.val / 2048; omega)
  by_cases h : r.val < 8192
  · rw [dif_pos h]
    simp only [e1 h]
  · rw [dif_neg h]
    simp only [e2 h, e3 h]

/-- The result array after the run is the reference's result. -/
theorem final (c : Dev nD) : (dats m 0 c).arrAt 4 (cfgs 0).N
    = ref (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]; frame_out
  rw [eq_ix2 (((View.whole main_v1).slice (win0_4.rect t)).emb y)]
  refine Eq.trans ?_ (ref_apply _ _ _ _ _ _).symm
  pointwise [k0_pay1]
  blk_point [iblk, V, blocksAt t]

end Cert.ResidIdeal.Whole

end
-- ==== Proof.ResidClaim.lean ====
/-
  The five claims about the pair `Resid`: the frames of the three programs, the idealization, and the equality of the results.
-/
module

public import proofs.«01_k».proof.Proof.ResidValue
public import proofs.«01_k».proof.Proof.Gen.Resid.Frame

@[expose] public section

set_option maxRecDepth 16384

noncomputable section

namespace Cert.Proof.ResidClaim

open Idealize.ShloMosaic Idealize.ShloMosaic.TcCoe Idealize.SL.Sem

/-- The kernel's frame, as printed. -/
theorem frameP : Cert.quiescent_Resid := fun m ρ _ => Cert.Resid.Gen.frame m ρ

/-- The kernel's frame, idealized. -/
theorem framePI : Cert.quiescent_ResidIdeal := fun m ρ _ => Cert.ResidIdeal.Gen.frame m ρ

/-- The reference's frame. -/
theorem frameRI : Cert.quiescent_ResidRefIdeal := fun m ρ _ =>
  (θ_run Cert.ResidRefIdeal.defs _ _).mono (fun r h => ⟨fun c => (h c).2, Idealize.ShloMosaic.sem_eq_zero_of_no_sems (by decide) r.2⟩)
    (Cert.ResidRefIdeal.Value.run (F := Ideal) m ρ)

/-- No operation was rewritten. -/
theorem preserves : Cert.preserves_Resid_ResidIdeal := trivial

/-- The kernel's result is the reference's. -/
theorem algebraic : Cert.algebraic_ResidIdeal_ResidRefIdeal := by
  pair_intro
  · run_from Cert.ResidIdeal.Value.run_blocks m g
  · run_from Cert.ResidRefIdeal.Value.run (F := Ideal) m' g'
    rw [Cert.ResidIdeal.Whole.final m c, (hagree c).2.2.2]
    rfl

end Cert.Proof.ResidClaim

end
-- ==== Proof.OutValue.lean ====
/-
  The output product of the token mixers with its gated residual, `h + g · (y · W)`: the kernel multiplies the gate by 1,
  the reference does not.
-/
module

public import proofs.«01_k».proof.Defs
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutIdeal.Whole

open Cert.OutIdeal Cert.OutIdeal.Gen Cert.OutRefIdeal.Read

variable (m : (ℓ : Loc nD τ sig) → Buf (Elt Ideal) ℓ)

/-- The reference's result as a function of its arguments. -/
def ref (x0 : FVec Ideal S9216x4096 .bf16) (x1 : FVec Ideal S4096x4096 .f32)
    (x2 : FVec Ideal S9216x4096 .f32) (x3 : FVec Ideal S288x1x4096 .f32) : FVec Ideal S9216x4096 .f32 :=
  val_main_v25 (F := Ideal) x0 x1 x2 x3

/-- Where each window's block sits, over all points. -/
theorem blocksAt : ∀ t : Fin cfg0.N, win0_0.index t = ![t.val / 4, 0] ∧ win0_1.index t = ![0, t.val % 4]
    ∧ win0_2.index t = ![t.val / 4, t.val % 4] ∧ win0_3.index t = ![40 + t.val / 8, 0, t.val % 4]
    ∧ win0_4.index t = ![t.val / 4, t.val % 4] :=
  (by decide +kernel : ∀ t : Fin grid0.N, _)

/-- The reference at an index: rows below 8192 take the gate of their sequence, the rest the context's, and both are the
    gate row `40 + r / 2048`. -/
theorem ref_apply (x0 : FVec Ideal S9216x4096 .bf16) (x1 : FVec Ideal S4096x4096 .f32)
    (x2 : FVec Ideal S9216x4096 .f32) (x3 : FVec Ideal S288x1x4096 .f32) (r : Fin 9216) (n : Fin 4096) :
    ref x0 x1 x2 x3 (ix2 r n) = x2 (ix2 r n) + x3 (ix3 ⟨40 + r.val / 2048, by omega⟩ 0 n)
      * ∑ k : Fin 4096, x0 (ix2 r k) * x1 (ix2 k n) := by
  pointwise [ref, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  have e1 (h : r.val < 8192) : (⟨r.val / 2048 * 2048 + r.val % 2048, by omega⟩ : Fin 9216) = r := Fin.ext (by dsimp only; omega)
  have e2 (h : ¬ r.val < 8192) : (⟨8192 + ((r.val - 8192) / 256 * 256 + (r.val - 8192) % 256), by omega⟩ : Fin 9216) = r :=
    Fin.ext (by dsimp only; omega)
  have e3 (h : ¬ r.val < 8192) : (44 : Fin 288) = ⟨40 + r.val / 2048, by omega⟩ := Fin.ext (by show 44 = 40 + r.val / 2048; omega)
  by_cases h : r.val < 8192
  · rw [dif_pos h]
    simp only [e1 h]
  · rw [dif_neg h]
    simp only [e2 h, e3 h]

/-- The result array after the run is the reference's result. -/
theorem final (c : Dev nD) : (dats m 0 c).arrAt 4 (cfgs 0).N
    = ref (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]; frame_out
  rw [eq_ix2 (((View.whole main_v1).slice (win0_4.rect t)).emb y)]
  refine Eq.trans ?_ (ref_apply _ _ _ _ _ _).symm
  pointwise [k0_pay1]
  blk_point [iblk, V, blocksAt t]

end Cert.OutIdeal.Whole

end
-- ==== Proof.OutClaim.lean ====
/-
  The five claims about the pair `Out`: the frames of the three programs, the idealization, and the equality of the results.
-/
module

public import proofs.«01_k».proof.Proof.OutValue
public import proofs.«01_k».proof.Proof.Gen.Out.Frame

@[expose] public section

set_option maxRecDepth 16384

noncomputable section

namespace Cert.Proof.OutClaim

open Idealize.ShloMosaic Idealize.ShloMosaic.TcCoe Idealize.SL.Sem

/-- The kernel's frame, as printed. -/
theorem frameP : Cert.quiescent_Out := fun m ρ _ => Cert.Out.Gen.frame m ρ

/-- The kernel's frame, idealized. -/
theorem framePI : Cert.quiescent_OutIdeal := fun m ρ _ => Cert.OutIdeal.Gen.frame m ρ

/-- The reference's frame. -/
theorem frameRI : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)

/-- No operation was rewritten. -/
theorem preserves : Cert.preserves_Out_OutIdeal := trivial

/-- The kernel's result is the reference's. -/
theorem algebraic : Cert.algebraic_OutIdeal_OutRefIdeal := by
  pair_intro
  · run_from Cert.OutIdeal.Value.run_blocks m g
  · run_from Cert.OutRefIdeal.Value.run (F := Ideal) m' g'
    rw [Cert.OutIdeal.Whole.final m c, (hagree c).2.2.2]
    rfl

end Cert.Proof.OutClaim

end
-- ==== Proof.MergeValue.lean ====
/-
  The gated merge of the three mixers' outputs, `Σᵢ sigmoid(gateᵢ) · (oᵢ · Wᵢ)`.
-/
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Whole

open Cert.MergeIdeal Cert.MergeIdeal.Gen Cert.MergeRefIdeal.Read

variable (m : (ℓ : Loc nD τ sig) → Buf (Elt Ideal) ℓ)

/-- The reference's result as a function of its arguments. -/
def ref (x0 x1 x2 : FVec Ideal S9216x1024 .bf16) (x3 : FVec Ideal S9216x20480 .bf16)
    (x4 : FVec Ideal S3x1024x4096 .f32) : FVec Ideal S9216x4096 .bf16 :=
  val_main_v30 (F := Ideal) x0 x1 x2 x3 x4

/-- Where each window's block sits, over all points. -/
theorem blocksAt : ∀ t : Fin cfg0.N, win0_0.index t = ![t.val / 8, 0] ∧ win0_1.index t = ![t.val / 8, 0] ∧ win0_2.index t = ![t.val / 8, 0]
    ∧ win0_3.index t = ![t.val / 8, 16 + t.val % 8] ∧ win0_4.index t = ![t.val / 8, 24 + t.val % 8]
    ∧ win0_5.index t = ![t.val / 8, 32 + t.val % 8] ∧ win0_6.index t = ![0, 0, t.val % 8]
    ∧ win0_7.index t = ![t.val / 8, t.val % 8] :=
  (by decide +kernel : ∀ t : Fin grid0.N, _)

/-- The result array after the run is the reference's result. -/
theorem final (c : Dev nD) : (dats m 0 c).arrAt 7 (cfgs 0).N
    = ref (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; frame_out
  pointwise [k0_pay1, k0_pay2, k0_pay3, ref, val_main_v30, val_main_v29, val_main_v28, val_main_v27, val_main_v26,
    val_main_v25, val_main_v24, val_main_v23, val_main_v22, val_main_v21, val_main_v20, val_main_v19,
    val_main_v18, val_main_v17, val_main_v16, val_main_cst_1, val_main_v15, val_main_v14, val_main_v13,
    val_main_v12, val_main_v11, val_main_v10, val_main_v9, val_main_v8, val_main_v7, val_main_v6, val_main_cst_0,
    val_main_v5, val_main_v4, val_main_cst, val_main_v3, val_main_v2, val_main_v1, val_main_v0]
  simp only [zero_sub]
  blk_point [iblk, V, blocksAt t]

end Cert.MergeIdeal.Whole

end
-- ==== Proof.MergeClaim.lean ====
/-
  The five claims about the pair `Merge`: the frames of the three programs, the idealization, and the equality of the results.
-/
module

public import proofs.«01_k».proof.Proof.MergeValue
public import proofs.«01_k».proof.Proof.Gen.Merge.Frame

@[expose] public section

set_option maxRecDepth 16384

noncomputable section

namespace Cert.Proof.MergeClaim

open Idealize.ShloMosaic Idealize.ShloMosaic.TcCoe Idealize.SL.Sem

/-- The kernel's frame, as printed. -/
theorem frameP : Cert.quiescent_Merge := fun m ρ _ => Cert.Merge.Gen.frame m ρ

/-- The kernel's frame, idealized. -/
theorem framePI : Cert.quiescent_MergeIdeal := fun m ρ _ => Cert.MergeIdeal.Gen.frame m ρ

/-- The reference's frame. -/
theorem frameRI : Cert.quiescent_MergeRefIdeal := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- No operation was rewritten. -/
theorem preserves : Cert.preserves_Merge_MergeIdeal := trivial

/-- The kernel's result is the reference's. -/
theorem algebraic : Cert.algebraic_MergeIdeal_MergeRefIdeal := by
  pair_intro
  · run_from Cert.MergeIdeal.Value.run_blocks m g
  · run_from Cert.MergeRefIdeal.Value.run (F := Ideal) m' g'
    rw [Cert.MergeIdeal.Whole.final m c]
    rfl

end Cert.Proof.MergeClaim

end
-- ==== Proof.SwaRuns.lean ====
/-
  The windowed attention call: its branches by the grid point, its staging buffers and its two scratch buffers.
-/
module

public import proofs.«01_k».proof.Proof.Gen.SwaIdeal.Frame
public import proofs.«01_k».proof.Proof.Gen.SwaIdeal.Skeleton
public import proofs.«01_k».proof.Proof.Gen.SwaIdeal.Points

@[expose] public section

set_option maxRecDepth 16384

noncomputable section

namespace Cert.SwaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The offsets of the left key block: the block before the query's, or the query's own at the first. -/
theorem k0_off3_eq : ∀ i : grid0.Coords, k0_off3 i = ![128 * ((i 2).val - 1), 0] := by decide +kernel
instance closedOff_k0_off3 (i : grid0.Coords) : ClosedOff (k0_off3 i) := ⟨![128 * ((i 2).val - 1), 0], k0_off3_eq i⟩

/-! ## The body's branch conditions -/

/-- One of the body's three conditions, from the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 18) — by arithmetic of the point. -/
theorem hcond0_0 : ∀ t : Fin cfg0.N, cond0_0 (grid0.coords t) ↔ t.val % 18 = 0 :=
  (fun t => by
    have ht : t.val < 144 := Nat.lt_of_lt_of_eq t.isLt N_0
    have e0 : (grid0.coords t 0).val = t.val / 36 % 4 := Pipeline.Grid.coords_val t 0 (by decide) rfl
    have e1 : (grid0.coords t 1).val = t.val / 18 % 2 := Pipeline.Grid.coords_val t 1 (by decide) rfl
    have e2 : (grid0.coords t 2).val = t.val / 1 % 18 := Pipeline.Grid.coords_val t 2 (by decide) rfl
    simp only [cond0_0, e0, e1, e2]
    word_cmp
   : ∀ t : Fin grid0.N, cond0_0 (grid0.coords t) ↔ t.val % 18 = 0)

/-- One of the body's three conditions, from the grid coordinates. -/
abbrev cond0_1 (i : grid0.Coords) : Prop := k0_cond2 i = 1#1
/-- It holds at the points whose coordinates have i2 ≤ 15 — decided over the grid. -/
theorem hcond0_1 : ∀ t : Fin cfg0.N, cond0_1 (grid0.coords t) ↔ t.val % 18 ≤ 15 :=
  (by decide +kernel : ∀ t : Fin grid0.N, cond0_1 (grid0.coords t) ↔ t.val % 18 ≤ 15)

/-- One of the body's three conditions, from the grid coordinates. -/
abbrev cond0_2 (i : grid0.Coords) : Prop := k0_cond3 i = 1#1
/-- It holds at the points whose coordinates have 16 ≤ i2 — decided over the grid. -/
theorem hcond0_2 : ∀ t : Fin cfg0.N, cond0_2 (grid0.coords t) ↔ 16 ≤ t.val % 18 :=
  (by decide +kernel : ∀ t : Fin grid0.N, cond0_2 (grid0.coords t) ↔ 16 ≤ t.val % 18)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- At the points of this case the output is live. -/
theorem liveAt0_10_A : ∀ t : Fin cfg0.N, cond0_0 (grid0.coords t) → cond0_1 (grid0.coords t) → ¬cond0_2 (grid0.coords t) → cfg0.idle 10 (grid0.coords t) = false := by decide +kernel
/-- At the points of this case the output is live. -/
theorem liveAt0_10_B : ∀ t : Fin cfg0.N, ¬cond0_0 (grid0.coords t) → cond0_1 (grid0.coords t) → ¬cond0_2 (grid0.coords t) → cfg0.idle 10 (grid0.coords t) = false := by decide +kernel
/-- At the points of this case the output is live. -/
theorem liveAt0_10_C : ∀ t : Fin cfg0.N, ¬cond0_0 (grid0.coords t) → ¬cond0_1 (grid0.coords t) → cond0_2 (grid0.coords t) → cfg0.idle 10 (grid0.coords t) = false := by decide +kernel

/-! ## The kernel body on any staging memrefs -/

/-- One staging buffer of the output, through which its contents are stated. -/
abbrev VO0_10 : View sig .tc .vmem S128x512 .bf16 := (Memref.whole cc0_stg10_0 : Memref sig .tc .vmem S128x512 .bf16).view
/-- Each window's current staging memref at point `t`, spelled as the pipeline passes it (`bodyAt0`), and its wholeness. -/
abbrev ms0_0 (t : Fin cfg0.N) : Memref sig .tc .vmem S128x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S8 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x512 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2048x128 .bf16 := Memref.whole cc0_scratch0
abbrev scM0_1 : Memref sig .tc .vmem S256x128 .bf16 := Memref.whole cc0_scratch1
/-- The scratch `arg14` the kernel carries between points, as a view: what it holds is stated through it. -/
abbrev VS0_0 : View sig .tc .vmem S2048x128 .bf16 := scM0_0.view
/-- The scratch `arg15` the kernel carries between points, as a view: what it holds is stated through it. -/
abbrev VS0_1 : View sig .tc .vmem S256x128 .bf16 := scM0_1.view

/-- The scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.SwaIdeal.Gen

end
-- ==== Proof.SwaRunA.lean ====
/-
  One point of the windowed attention call at the first point of a head group: the keys are normalised and rotated into the scratch.
-/
module

public import proofs.«01_k».proof.Proof.SwaRuns

@[expose] public section

set_option maxRecDepth 16384

noncomputable section

namespace Cert.SwaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's buffer and in the scratch, in this case, with the run that shows it. -/
noncomputable def kernelRun0_A (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : cond0_0 i) (hc1 : cond0_1 i) (hc2 : ¬cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) :
    Σ' (L10 : List (View.Piece (Elt F) S128x512 .bf16)), Σ' (LS0 : List (View.Piece (Elt F) S2048x128 .bf16)), { LS1 : List (View.Piece (Elt F) S256x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0_swa i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_swa_eq_skeleton]; unfold cc0_swa_skel
    simp only [k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [HS0]; · iexists _; iexact HS0
    iexists _; iexact HS1

end Cert.SwaIdeal.Gen

end
-- ==== Proof.SwaRunB.lean ====
/-
  One point of the windowed attention call at the other latent points.
-/
module

public import proofs.«01_k».proof.Proof.SwaRunA

@[expose] public section

set_option maxRecDepth 16384

noncomputable section

namespace Cert.SwaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's buffer and in the scratch, in this case, with the run that shows it. -/
noncomputable def kernelRun0_B (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : ¬cond0_0 i) (hc1 : cond0_1 i) (hc2 : ¬cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) (xs0 : Vec F S2048x128 .bf16) (xs1 : Vec F S256x128 .bf16) :
    Σ' (L10 : List (View.Piece (Elt F) S128x512 .bf16)), Σ' (LS0 : List (View.Piece (Elt F) S2048x128 .bf16)), { LS1 : List (View.Piece (Elt F) S256x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare xs0 ∗ owns (c : Thread nD τ) arg15 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ owns (c : Thread nD τ) arg14 fullShare xs0 ∗ owns (c : Thread nD τ) arg15 fullShare xs1) -∗ K ⟨⟩))
          ⊢ wp frame (wpE (defs₀ (F := F)) Variants.none c none) E (cc0_swa i arg3 harg3 arg4 harg4 arg5 harg5 arg6 harg6 arg7 harg7 arg8 harg8 arg9 harg9 arg10 harg10 arg11 harg11 arg12 harg12 arg13 harg13 arg14 harg14 arg15 harg15) K } := by
  refine ⟨?_, [], [], fun E K => ?run⟩
  case run =>
    simp only [cc0_swa_eq_skeleton]; unfold cc0_swa_skel
    simp only [k0_part11_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg14.eq_unread hfs0; obtain rfl := harg15.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [HS0]
    · iexists _; isplitr; · ipureintro; exact harg14.read_unread _
      iexact HS0
    iexists _; isplitr; · ipureintro; exact harg15.read_unread _
    iexact HS1

end Cert.SwaIdeal.Gen

end
-- ==== Proof.SwaRunC.lean ====
/-
  One point of the windowed attention call at the context points.
-/
module

public import proofs.«01_k».proof.Proof.SwaRunB

@[expose] public section

set_option maxRecDepth 16384

noncomputable section

namespace Cert.SwaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's buffer and in the scratch, in this case, with the run that shows it. -/
noncomputable def kernelRun0_C (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : ¬cond0_0 i) (hc1 : ¬cond0_1 i) (hc2 : cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) (xs0 : Vec F S2048x128 .bf16) (xs1 : Vec F S256x128 .bf16) :
    Σ' (L10 : List (View.Piece (Elt F) S128x512 .bf16)), Σ' (LS0 : List (View.Piece (Elt F) S2048x128 .bf16)), { LS1 : List (View.Piece (Elt F) S256x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ owns (c : Thread nD τ) arg14 fullShare xs0 ∗ owns (c : Thread nD τ) arg15 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ owns (c : Thread nD τ) arg14 fullShare xs0 ∗ owns (c : Thread nD τ) arg15 fullShare xs1) -∗ K ⟨⟩))
          ⊢ wp frame (wpE (defs₀ (F := F)) Variants.none c none) E (cc0_swa i arg3 harg3 arg4 harg4 arg5 harg5 arg6 harg6 arg7 harg7 arg8 harg8 arg9 harg9 arg10 harg10 arg11 harg11 arg12 harg12 arg13 harg13 arg14 harg14 arg15 harg15) K } := by
  refine ⟨?_, [], [], fun E K => ?run⟩
  case run =>
    simp only [cc0_swa_eq_skeleton]; unfold cc0_swa_skel
    simp only [k0_part11_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg14.eq_unread hfs0; obtain rfl := harg15.eq_unread hfs1
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [HS0]
    · iexists _; isplitr; · ipureintro; exact harg14.read_unread _
      iexact HS0
    iexists _; isplitr; · ipureintro; exact harg15.read_unread _
    iexact HS1

end Cert.SwaIdeal.Gen

end
-- ==== Proof.SwaFrame.lean ====
/-
  The windowed attention call point by point: what the output block and the two scratch buffers hold after each
  point, and the run of the whole call.
-/
module

public import proofs.«01_k».proof.Proof.SwaRunC
public import Idealize.ShloMosaic.Lib.Claim

@[expose] public section

set_option maxRecDepth 16384

noncomputable section

namespace Cert.SwaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 10 tile its block (four stores of `S128x128`), so they cover it. -/
theorem cover0_A_10 (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : cond0_0 i) (hc1 : cond0_1 i) (hc2 : ¬cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) (y : S128x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).1 S128x128.size (by sl_kernel_rfl) y

/-- What case A leaves in output 10's staging buffer: its pieces read back over junk. -/
def out0_A_10 (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : cond0_0 i) (hc1 : cond0_1 i) (hc2 : ¬cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) : Vec F S128x512 .bf16 :=
  VO0_10.read (Elt F) (VO0_10.writes (Elt F) VO0_10.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).1)

/-- Case A's pieces for scratch `arg14`, which the kernel carries between points, cover it: 1 piece of `S2048x128` tiling it. -/
theorem scover0_A_0 (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : cond0_0 i) (hc1 : cond0_1 i) (hc2 : ¬cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) (y : S2048x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.1 S2048x128.size (by sl_kernel_rfl) y

/-- What case A leaves in scratch `arg14`: its pieces read back over junk. -/
def sout0_A_0 (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : cond0_0 i) (hc1 : cond0_1 i) (hc2 : ¬cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) : Vec F S2048x128 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.1)

/-- Case A's pieces for scratch `arg15`, which the kernel carries between points, cover it: 1 piece of `S256x128` tiling it. -/
theorem scover0_A_1 (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : cond0_0 i) (hc1 : cond0_1 i) (hc2 : ¬cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) (y : S256x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.2.1 S256x128.size (by sl_kernel_rfl) y

/-- What case A leaves in scratch `arg15`: its pieces read back over junk. -/
def sout0_A_1 (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : cond0_0 i) (hc1 : cond0_1 i) (hc2 : ¬cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) : Vec F S256x128 .bf16 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9).2.2.1)

/-- Case B's pieces for output 10 tile its block (four stores of `S128x128`), so they cover it. -/
theorem cover0_B_10 (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : ¬cond0_0 i) (hc1 : cond0_1 i) (hc2 : ¬cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) (xs0 : Vec F S2048x128 .bf16) (xs1 : Vec F S256x128 .bf16) (y : S128x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1 S128x128.size (by sl_kernel_rfl) y

/-- What case B leaves in output 10's staging buffer: its pieces read back over junk. -/
def out0_B_10 (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : ¬cond0_0 i) (hc1 : cond0_1 i) (hc2 : ¬cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) (xs0 : Vec F S2048x128 .bf16) (xs1 : Vec F S256x128 .bf16) : Vec F S128x512 .bf16 :=
  VO0_10.read (Elt F) (VO0_10.writes (Elt F) VO0_10.junk (kernelRun0_B c i arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1)

/-- Case B stores nothing into scratch `arg14`: it holds what the point before left. -/
def sout0_B_0 (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : ¬cond0_0 i) (hc1 : cond0_1 i) (hc2 : ¬cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) (xs0 : Vec F S2048x128 .bf16) (xs1 : Vec F S256x128 .bf16) : Vec F S2048x128 .bf16 := xs0

/-- Case B stores nothing into scratch `arg15`: it holds what the point before left. -/
def sout0_B_1 (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : ¬cond0_0 i) (hc1 : cond0_1 i) (hc2 : ¬cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) (xs0 : Vec F S2048x128 .bf16) (xs1 : Vec F S256x128 .bf16) : Vec F S256x128 .bf16 := xs1

/-- Case C's pieces for output 10 tile its block (four stores of `S128x128`), so they cover it. -/
theorem cover0_C_10 (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : ¬cond0_0 i) (hc1 : ¬cond0_1 i) (hc2 : cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) (xs0 : Vec F S2048x128 .bf16) (xs1 : Vec F S256x128 .bf16) (y : S128x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1 S128x128.size (by sl_kernel_rfl) y

/-- What case C leaves in output 10's staging buffer: its pieces read back over junk. -/
def out0_C_10 (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : ¬cond0_0 i) (hc1 : ¬cond0_1 i) (hc2 : cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) (xs0 : Vec F S2048x128 .bf16) (xs1 : Vec F S256x128 .bf16) : Vec F S128x512 .bf16 :=
  VO0_10.read (Elt F) (VO0_10.writes (Elt F) VO0_10.junk (kernelRun0_C c i arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 x9 xs0 xs1).1)

/-- Case C stores nothing into scratch `arg14`: it holds what the point before left. -/
def sout0_C_0 (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : ¬cond0_0 i) (hc1 : ¬cond0_1 i) (hc2 : cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) (xs0 : Vec F S2048x128 .bf16) (xs1 : Vec F S256x128 .bf16) : Vec F S2048x128 .bf16 := xs0

/-- Case C stores nothing into scratch `arg15`: it holds what the point before left. -/
def sout0_C_1 (c : Dev nD) (i : grid0.Coords) (arg3 : Memref sig .tc .vmem S128x512 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .smem S8 .f32) (harg12 : arg12.IsWhole) (arg13 : Memref sig .tc .vmem S128x512 .bf16) (harg13 : arg13.IsWhole) (arg14 : Memref sig .tc .vmem S2048x128 .bf16) (harg14 : arg14.IsWhole) (arg15 : Memref sig .tc .vmem S256x128 .bf16) (harg15 : arg15.IsWhole) (hc0 : ¬cond0_0 i) (hc1 : ¬cond0_1 i) (hc2 : cond0_2 i)
    (x0 : Vec F S128x512 .bf16) (x1 : Vec F S2048x128 .bf16) (x2 : Vec F S2048x128 .bf16) (x3 : Vec F S256x128 .bf16) (x4 : Vec F S256x128 .bf16) (x5 : Vec F S1x128 .f32) (x6 : Vec F S1x128 .f32) (x7 : Vec F S2048x128 .f32) (x8 : Vec F S2048x128 .f32) (x9 : Vec F S8 .f32) (xs0 : Vec F S2048x128 .bf16) (xs1 : Vec F S256x128 .bf16) : Vec F S256x128 .bf16 := xs1

/-! ## What the outputs hold after each point -/

/-- What the output's staging buffer and the two scratch buffers hold after the body at position `n`: the case the
    point is in, run at its input blocks and at what the point before left in the scratch. -/
def outsAt0 (c : Dev nD) : (n : ℕ) → n < cfg0.N → Vec F S128x512 .bf16 × Vec F S2048x128 .bf16 × Vec F S256x128 .bf16
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (X0_1 m c ⟨0, hn⟩) (X0_2 m c ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (X0_1 m c ⟨0, hn⟩) (X0_2 m c ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (iblk m c 0 ⟨0, hn⟩) (X0_1 m c ⟨0, hn⟩) (X0_2 m c ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 18 = 0 then
      if h1 : (n + 1) % 18 ≤ 15 then
        if h2 : 16 ≤ (n + 1) % 18 then
          False.elim (by have hN : n + 1 < 144 := lt_of_lt_of_eq hn (show cfg0.N = 144 from N_0); omega)
        else
          (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
      else
        False.elim (by have hN : n + 1 < 144 := lt_of_lt_of_eq hn (show cfg0.N = 144 from N_0); omega)
    else
      if h1 : (n + 1) % 18 ≤ 15 then
        if h2 : 16 ≤ (n + 1) % 18 then
          False.elim (by have hN : n + 1 < 144 := lt_of_lt_of_eq hn (show cfg0.N = 144 from N_0); omega)
        else
          (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2)
      else
        if h2 : 16 ≤ (n + 1) % 18 then
          (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.1 (outsAt0 c n (Nat.lt_of_succ_lt hn)).2.2)
        else
          False.elim (by have hN : n + 1 < 144 := lt_of_lt_of_eq hn (show cfg0.N = 144 from N_0); omega)

/-- `outsAt0` at a point of case A: that case's contents. -/
theorem outsAt0_A (c : Dev nD) (t : Fin cfg0.N) (h0 : t.val % 18 = 0) (h1 : t.val % 18 ≤ 15) (h2 : ¬16 ≤ t.val % 18) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (X0_1 m c t) (X0_2 m c t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (X0_1 m c t) (X0_2 m c t) (iblk m c 3 t) (iblk m c 4 t) (iblk m c 5 t) (iblk m c 6 t) (iblk m c 7 t) (iblk m c 8 t) (iblk m c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (X0_1 m c t) (X0_2 m c t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 18 = 0) (h1 : t.val % 18 ≤ 15) (h2 : ¬16 ≤ t.val % 18) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (X0_1 m c t) (X0_2 m c t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (X0_1 m c t) (X0_2 m c t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (X0_1 m c t) (X0_2 m c t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 18 = 0) (h1 : ¬t.val % 18 ≤ 15) (h2 : 16 ≤ t.val % 18) :
    outsAt0 m c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (X0_1 m c t) (X0_2 m c t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (X0_1 m c t) (X0_2 m c t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (X0_1 m c t) (X0_2 m c t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- What holds before position `n`: at the start the scratch is at anything, afterwards at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data: arrays as the region finds them; after each point the input blocks in place and the output at
    `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
  Φ t := PhiS m c t.val (Nat.le_of_lt_succ t.isLt)
  q w := Pipeline.shareOf spec0 w
  owed _ := 0

/-- The proof data's arrays are those the region finds. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
/-- The body at any point: the point is in one of the three cases, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 144 := lt_of_lt_of_eq t.isLt (show cfg0.N = 144 from N_0)
  by_cases h0 : t.val % 18 = 0
  · by_cases h1 : t.val % 18 ≤ 15
    · by_cases h2 : 16 ≤ t.val % 18
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10_A t ((hcond0_0 t).mpr h0) ((hcond0_1 t).mpr h1) (fun h => h2 ((hcond0_2 t).mp h))], after0_10]
        by_cases hz : t.val = 0
        · rw [PhiS_castSucc m c t, PhiS_zero m c _ _ hz, PhiA0_eq]
          rw [outsAt0_A m c t h0 h1 h2]
          unfold out0_A_10 sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c (grid0.coords t) _ _ _ _ _ _ _ _ _ _ _ _ _ _ _ _ _ _ _ _ _ _ _ _ _ _ ((hcond0_0 t).mpr h0) ((hcond0_1 t).mpr h1) (fun h => h2 ((hcond0_2 t).mp h)) (iblk m c 0 t) (X0_1 m c t) (X0_2 m c t) (iblk m c 3 t) (iblk m c 4 t) (iblk m c 5 t) (iblk m c 6 t) (iblk m c 7 t) (iblk m c 8 t) (iblk m c 9 t)).2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [HS0]; · iexact HS0
          isplitl [HS1]; · iexact HS1
          iintro ⟨H0, H1, H2, H3, H4, H5, H6, H7, H8, H9, ⟨%e10, H10⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _ _ _)
        · rw [PhiS_castSucc m c t, PhiS_pos m c _ _ hz]
          rw [outsAt0_A m c t h0 h1 h2]
          unfold out0_A_10 sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c (grid0.coords t) _ _ _ _ _ _ _ _ _ _ _ _ _ _ _ _ _ _ _ _ _ _ _ _ _ _ ((hcond0_0 t).mpr h0) ((hcond0_1 t).mpr h1) (fun h => h2 ((hcond0_2 t).mp h)) (iblk m c 0 t) (X0_1 m c t) (X0_2 m c t) (iblk m c 3 t) (iblk m c 4 t) (iblk m c 5 t) (iblk m c 6 t) (iblk m c 7 t) (iblk m c 8 t) (iblk m c 9 t)).2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [HS0]; · iexists _; iexact HS0
          isplitl [HS1]; · iexists _; iexact HS1
          iintro ⟨H0, H1, H2, H3, H4, H5, H6, H7, H8, H9, ⟨%e10, H10⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _ _ _ _ _ _ _ _)
    · exfalso; omega
  · by_cases h1 : t.val % 18 ≤ 15
    · by_cases h2 : 16 ≤ t.val % 18
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10_B t (fun h => h0 ((hcond0_0 t).mp h)) ((hcond0_1 t).mpr h1) (fun h => h2 ((hcond0_2 t).mp h))], after0_10]
        by_cases hz : t.val = 0
        · exfalso; have hN : t.val < 144 := lt_of_lt_of_eq t.isLt (show cfg0.N = 144 from N_0); omega
        · rw [PhiS_castSucc m c t, PhiS_pos m c _ _ hz]
          rw [outsAt0_B m c t h0 h1 h2]
          unfold out0_B_10 sout0_B_0 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_B c (grid0.coords t) _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (X0_1 m c t) (X0_2 m c t) (iblk m c 3 t) (iblk m c 4 t) (iblk m c 5 t) (iblk m c 6 t) (iblk m c 7 t) (iblk m c 8 t) (iblk m c 9 t) _ _).2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [HS0]; · iexact HS0
          isplitl [HS1]; · iexact HS1
          iintro ⟨H0, H1, H2, H3, H4, H5, H6, H7, H8, H9, ⟨%e10, H10⟩, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _ _ _ _ _ _)
    · by_cases h2 : 16 ≤ t.val % 18
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2)], after0_10]
        by_cases hz : t.val = 0
        · exfalso; have hN : t.val < 144 := lt_of_lt_of_eq t.isLt (show cfg0.N = 144 from N_0); omega
        · rw [PhiS_castSucc m c t, PhiS_pos m c _ _ hz]
          rw [outsAt0_C m c t h0 h1 h2]
          unfold out0_C_10 sout0_C_0 sout0_C_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_C c (grid0.coords t) _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (X0_1 m c t) (X0_2 m c t) (iblk m c 3 t) (iblk m c 4 t) (iblk m c 5 t) (iblk m c 6 t) (iblk m c 7 t) (iblk m c 8 t) (iblk m c 9 t) _ _).2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [HS0]; · iexact HS0
          isplitl [HS1]; · iexact HS1
          iintro ⟨H0, H1, H2, H3, H4, H5, H6, H7, H8, H9, ⟨%e10, H10⟩, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          unfold owns; iexists _; isplitr
          swap; · iexact H10
          ipureintro; exact View.read_writes_of_cover _ _ _ _ _ (cover0_C_10 c _ _ _ _ _ _ _ _ _ _ _ _ _ _ _ _ _ _ _ _ _ _ _ _ _ _ _ _ _ _ _ _ _ _ _ _ _ _ _ _ _ _)
      · exfalso; omega

/-- The body at point `t`. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 144 := N_0; omega)

/-! ## The run and the frame -/

set_option backward.isDefEq.respectTransparency.types false in
/-- The same, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every execution ends, with each array of the pipeline at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: arguments unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.SwaIdeal.Gen

end
-- ==== Proof.SwaFrames.lean ====
/-
  The claims about the pair `Swa` besides the equality of the results: the frames of the three programs and the idealization.
-/
module

public import proofs.«01_k».proof.Defs
public import proofs.«01_k».proof.Proof.SwaBitFrame
public import proofs.«01_k».proof.Proof.SwaFrame
public import proofs.«01_k».proof.Proof.Gen.SwaRefIdeal.Run

@[expose] public section

set_option maxRecDepth 16384

noncomputable section

namespace Cert.Proof.SwaClaim

open Idealize.ShloMosaic Idealize.ShloMosaic.TcCoe Idealize.SL.Sem

/-- The kernel's frame, as printed. -/
theorem frameP : Cert.quiescent_Swa := fun m ρ _ => Cert.Swa.Gen.frame m ρ

/-- The kernel's frame, idealized. -/
theorem framePI : Cert.quiescent_SwaIdeal := fun m ρ _ => Cert.SwaIdeal.Gen.frame m ρ

/-- The reference's frame. -/
theorem frameRI : Cert.quiescent_SwaRefIdeal := fun m ρ _ =>
  (θ_run Cert.SwaRefIdeal.defs _ _).mono (fun r h => ⟨fun c => (h c).2, Idealize.ShloMosaic.sem_eq_zero_of_no_sems (by decide) r.2⟩)
    (Cert.SwaRefIdeal.Value.run (F := Ideal) m ρ)

/-- The one rewrite: the mask constant stands for minus infinity. -/
theorem preserves : Cert.preserves_Swa_SwaIdeal := IdealRules.named_const.statement _ _ _ _ _ rfl

end Cert.Proof.SwaClaim

end
-- ==== Proof.SwaBlocks.lean ====
/-
  The windowed attention call: its result array after the run, by blocks.
-/
module

public import proofs.«01_k».proof.Proof.SwaFrame
public import Idealize.ShloMosaic.Lib.Pipeline.Value

@[expose] public section

set_option maxRecDepth 16384

noncomputable section

namespace Cert.SwaIdeal.Value

open Cert.SwaIdeal Cert.SwaIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- What point `t` writes back to the result: the output's contents after its body. -/
theorem flushed10 (c : Dev nD) (t : Fin cfg0.N) :
    (dats m 0 c).flushed 10 t = (cfg0.win 10).cut (grid0.coords t) ((outsAt0 m c t.val t.isLt).1) := by
  show (cfg0.win 10).cut (grid0.coords t) ((dats m 0 c).after 10 t) = _
  rw [after0_10]

/-- The same at a point of one case, as that case's named contents. -/
theorem flushed10_A (c : Dev nD) (t : Fin cfg0.N) (h0 : t.val % 18 = 0) (h1 : t.val % 18 ≤ 15) (h2 : ¬16 ≤ t.val % 18) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) ((hcond0_1 t).mpr h1) (fun h => h2 ((hcond0_2 t).mp h)) (iblk m c 0 t) (X0_1 m c t) (X0_2 m c t) (iblk m c 3 t) (iblk m c 4 t) (iblk m c 5 t) (iblk m c 6 t) (iblk m c 7 t) (iblk m c 8 t) (iblk m c 9 t)) := by
  simp only [flushed10, outsAt0_A m c t h0 h1 h2]

/-- The same at a point of one case, as that case's named contents. -/
theorem flushed10_B (c : Dev nD) (t : Fin cfg0.N) (h0 : ¬t.val % 18 = 0) (h1 : t.val % 18 ≤ 15) (h2 : ¬16 ≤ t.val % 18) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) ((hcond0_1 t).mpr h1) (fun h => h2 ((hcond0_2 t).mp h)) (iblk m c 0 t) (X0_1 m c t) (X0_2 m c t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed10, outsAt0_B m c t h0 h1 h2]

/-- The same at a point of one case, as that case's named contents. -/
theorem flushed10_C (c : Dev nD) (t : Fin cfg0.N) (h0 : ¬t.val % 18 = 0) (h1 : ¬t.val % 18 ≤ 15) (h2 : 16 ≤ t.val % 18) :
    (dats m 0 c).flushed 10 t = (cfg0.win 10).cut (grid0.coords t) (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (fun h => h1 ((hcond0_1 t).mp h)) ((hcond0_2 t).mpr h2) (iblk m c 0 t) (X0_1 m c t) (X0_2 m c t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed10, outsAt0_C m c t h0 h1 h2]

/-- The index map sends distinct grid points to distinct block indices (decided over the 144 points). -/
theorem idx_inj10 : ∀ t t' : Fin cfg0.N, win0_10.index t = win0_10.index t' → t = t' :=
  (by decide +kernel : ∀ t t' : Fin grid0.N, win0_10.index t = win0_10.index t' → t = t')

/-- So two points' blocks share no index. -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- Block `t` of the final array is what point `t` wrote back. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S9216x1024.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v35) = (dats m 0 c).arrAt 10 cfg0.N :=
  (h c).1 10

/-- After the frame run, argument `main_arg0` is as launched: input window 4 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 4).trans (((dats m 0 c).arrAt_in 4 rfl _).trans ((A_eq m c 4).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 9 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 9).trans (((dats m 0 c).arrAt_in 9 rfl _).trans ((A_eq m c 9).trans (V_main_arg3 m c)))

/-- The run, with the result array named and the arguments unchanged. -/
theorem run_blocks : θ_run defs (onTc (τ := τ) (main (F := F))) ⟨m, fun _ => 0, ρ⟩ fun r => ∀ c : Dev nD,
      r.2.mem ((c : Thread nD τ).loc main_v35) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post10 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in the scratch, over what the point before left in it. -/
def scAt0_0 (c : Dev nD) (n : ℕ) (hb : n < cfg0.N) (acc : Vec F S2048x128 .bf16) : Vec F S2048x128 .bf16 :=
  if h0 : n % 18 = 0 then
    if h1 : n % 18 ≤ 15 then
      if h2 : 16 ≤ n % 18 then
        acc
      else
        sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (X0_1 m c (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N))
    else
      acc
  else
    if h1 : n % 18 ≤ 15 then
      if h2 : 16 ≤ n % 18 then
        acc
      else
        sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (X0_1 m c (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2
    else
      if h2 : 16 ≤ n % 18 then
        sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (X0_1 m c (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2
      else
        acc

/-- What the scratch holds after point `t`: the fold from the first point of its head group. -/
theorem soutsAt0_0_eq (c : Dev nD) (t : Fin cfg0.N) :
    (outsAt0 m c t.val t.isLt).2.1 = Pipeline.accAt (fun n h => scAt0_0 m c n h (VS0_0.read (Elt F) VS0_0.junk)) (scAt0_0 m c) (18 * (t.val / 18)) (t.val % 18)
      (by have h1 := t.isLt; have h2 := Nat.div_add_mod t.val 18; omega) :=
  Pipeline.eq_accAt_of_mod (fun n h => (outsAt0 m c n h).2.1) 18 (fun n h => scAt0_0 m c n h (VS0_0.read (Elt F) VS0_0.junk)) (scAt0_0 m c)
    (fun n h hn => by
      have hN := lt_of_lt_of_eq h (show cfg0.N = 144 from N_0)
      by_cases h0 : n % 18 = 0 <;> by_cases h1 : n % 18 ≤ 15 <;> by_cases h2 : 16 ≤ n % 18
      all_goals first | (exfalso; omega) | (rw [outsAt0_A m c ⟨n, h⟩ h0 h1 h2]; dsimp only; unfold scAt0_0; rw [dif_pos h0, dif_pos h1, dif_neg h2] <;> try rfl) | (rw [outsAt0_B m c ⟨n, h⟩ h0 h1 h2]; dsimp only; unfold scAt0_0; rw [dif_neg h0, dif_pos h1, dif_neg h2] <;> try rfl) | (rw [outsAt0_C m c ⟨n, h⟩ h0 h1 h2]; dsimp only; unfold scAt0_0; rw [dif_neg h0, dif_neg h1, dif_pos h2] <;> try rfl))
    (fun n h hn => by
      have hN := lt_of_lt_of_eq h (show cfg0.N = 144 from N_0)
      by_cases h0 : (n + 1) % 18 = 0 <;> by_cases h1 : (n + 1) % 18 ≤ 15 <;> by_cases h2 : 16 ≤ (n + 1) % 18
      all_goals first | (exfalso; omega) | (rw [outsAt0_A m c ⟨n + 1, h⟩ h0 h1 h2]; dsimp only; unfold scAt0_0; rw [dif_pos h0, dif_pos h1, dif_neg h2] <;> try rfl) | (rw [outsAt0_B m c ⟨n + 1, h⟩ h0 h1 h2]; dsimp only; unfold scAt0_0; rw [dif_neg h0, dif_pos h1, dif_neg h2] <;> try rfl) | (rw [outsAt0_C m c ⟨n + 1, h⟩ h0 h1 h2]; dsimp only; unfold scAt0_0; rw [dif_neg h0, dif_neg h1, dif_pos h2] <;> try rfl))
    (by decide) t.val t.isLt _

/-! ## Carried scratch 1: what each point leaves in it, and its fold -/

/-- What point `n` leaves in the scratch, over what the point before left in it. -/
def scAt0_1 (c : Dev nD) (n : ℕ) (hb : n < cfg0.N) (acc : Vec F S256x128 .bf16) : Vec F S256x128 .bf16 :=
  if h0 : n % 18 = 0 then
    if h1 : n % 18 ≤ 15 then
      if h2 : 16 ≤ n % 18 then
        acc
      else
        sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) ((hcond0_0 (⟨n, hb⟩ : Fin cfg0.N)).mpr h0) ((hcond0_1 (⟨n, hb⟩ : Fin cfg0.N)).mpr h1) (fun h => h2 ((hcond0_2 (⟨n, hb⟩ : Fin cfg0.N)).mp h)) (iblk m c 0 (⟨n, hb⟩ : Fin cfg0.N)) (X0_1 m c (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N))
    else
      acc
  else
    if h1 : n % 18 ≤ 15 then
      if h2 : 16 ≤ n % 18 then
        acc
      else
        sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (X0_1 m c (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc
    else
      if h2 : 16 ≤ n % 18 then
        sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (X0_1 m c (⟨n, hb⟩ : Fin cfg0.N)) (X0_2 m c (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc
      else
        acc

/-- What the scratch holds after point `t`: the fold from the first point of its head group. -/
theorem soutsAt0_1_eq (c : Dev nD) (t : Fin cfg0.N) :
    (outsAt0 m c t.val t.isLt).2.2 = Pipeline.accAt (fun n h => scAt0_1 m c n h (VS0_1.read (Elt F) VS0_1.junk)) (scAt0_1 m c) (18 * (t.val / 18)) (t.val % 18)
      (by have h1 := t.isLt; have h2 := Nat.div_add_mod t.val 18; omega) :=
  Pipeline.eq_accAt_of_mod (fun n h => (outsAt0 m c n h).2.2) 18 (fun n h => scAt0_1 m c n h (VS0_1.read (Elt F) VS0_1.junk)) (scAt0_1 m c)
    (fun n h hn => by
      have hN := lt_of_lt_of_eq h (show cfg0.N = 144 from N_0)
      by_cases h0 : n % 18 = 0 <;> by_cases h1 : n % 18 ≤ 15 <;> by_cases h2 : 16 ≤ n % 18
      all_goals first | (exfalso; omega) | (rw [outsAt0_A m c ⟨n, h⟩ h0 h1 h2]; dsimp only; unfold scAt0_1; rw [dif_pos h0, dif_pos h1, dif_neg h2] <;> try rfl) | (rw [outsAt0_B m c ⟨n, h⟩ h0 h1 h2]; dsimp only; unfold scAt0_1; rw [dif_neg h0, dif_pos h1, dif_neg h2] <;> try rfl) | (rw [outsAt0_C m c ⟨n, h⟩ h0 h1 h2]; dsimp only; unfold scAt0_1; rw [dif_neg h0, dif_neg h1, dif_pos h2] <;> try rfl))
    (fun n h hn => by
      have hN := lt_of_lt_of_eq h (show cfg0.N = 144 from N_0)
      by_cases h0 : (n + 1) % 18 = 0 <;> by_cases h1 : (n + 1) % 18 ≤ 15 <;> by_cases h2 : 16 ≤ (n + 1) % 18
      all_goals first | (exfalso; omega) | (rw [outsAt0_A m c ⟨n + 1, h⟩ h0 h1 h2]; dsimp only; unfold scAt0_1; rw [dif_pos h0, dif_pos h1, dif_neg h2] <;> try rfl) | (rw [outsAt0_B m c ⟨n + 1, h⟩ h0 h1 h2]; dsimp only; unfold scAt0_1; rw [dif_neg h0, dif_pos h1, dif_neg h2] <;> try rfl) | (rw [outsAt0_C m c ⟨n + 1, h⟩ h0 h1 h2]; dsimp only; unfold scAt0_1; rw [dif_neg h0, dif_neg h1, dif_pos h2] <;> try rfl))
    (by decide) t.val t.isLt _

end Cert.SwaIdeal.Value

end
-- ==== Proof.SwaMath.lean ====
/-
  The scalar functions of windowed attention with a sink: a normed row, a rotated row, and one output element, the kernel's
  way (unnormed sums divided by the denominator at the end) and the reference's way (a softmax over the joined keys).
-/
module

public import Idealize.ShloMosaic.Lib.Pointwise

@[expose] public section

set_option maxRecDepth 16384

noncomputable section

namespace Cert.SwaMath

open Idealize.ShloMosaic

/-- A row over the root of its mean square, times the gain. -/
def rmsn (x w : Fin 128 → EReal) (d : Fin 128) : EReal :=
  x d * Ideal.rsqrt (Ideal.div (∑ e : Fin 128, x e * x e) (Ideal.ofBits .f32 0x43000000#32)
    + Ideal.ofBits .f32 0x358637BD#32) * w d

/-- A row rotated by a table of cosines and a table of signed sines: lanes 32 apart within a half of 64 are partners. -/
def rope (x C S : Fin 128 → EReal) (d : Fin 128) : EReal :=
  x d * C d + (if d.val % 64 < 32 then x ⟨(d.val + 128 - 96) % 128, Nat.mod_lt _ (by omega)⟩
    else x ⟨(d.val + 128 - 32) % 128, Nat.mod_lt _ (by omega)⟩) * S d

/-- The score of a query and a key. -/
def score (q k : Fin 128 → EReal) : EReal := (∑ e : Fin 128, q e * k e) * Ideal.ofBits .f32 0x3DB504F3#32

/-- The largest of a row of scores. -/
def top {n : ℕ} (s : Fin n → EReal) : EReal := Finset.univ.fold max ⊥ s

/-- The largest score of three blocks of keys, the context and the sink. -/
def topK (sk : EReal) (sl sm sr : Fin 128 → EReal) (sc : Fin 256 → EReal) : EReal :=
  max (max (max (max sk (top sl)) (top sm)) (top sr)) (top sc)

/-- The kernel's denominator. -/
def denK (sk : EReal) (sl sm sr : Fin 128 → EReal) (sc : Fin 256 → EReal) (M : EReal) : EReal :=
  Ideal.exp (sk - M) + ∑ j, Ideal.exp (sl j - M) + ∑ j, Ideal.exp (sm j - M)
    + ∑ j, Ideal.exp (sr j - M) + ∑ j, Ideal.exp (sc j - M)

/-- The kernel's numerator: the four products one after the other. -/
def numK (sl sm sr : Fin 128 → EReal) (sc : Fin 256 → EReal) (vl vm vr : Fin 128 → EReal) (vc : Fin 256 → EReal)
    (M : EReal) : EReal :=
  ∑ j, Ideal.exp (sl j - M) * vl j + ∑ j, Ideal.exp (sm j - M) * vm j + ∑ j, Ideal.exp (sr j - M) * vr j
    + ∑ j, Ideal.exp (sc j - M) * vc j

/-- One output element of a latent row, the kernel's way. -/
def attK (sk : EReal) (sl sm sr : Fin 128 → EReal) (sc : Fin 256 → EReal) (vl vm vr : Fin 128 → EReal)
    (vc : Fin 256 → EReal) : EReal :=
  Ideal.div (numK sl sm sr sc vl vm vr vc (topK sk sl sm sr sc)) (denK sk sl sm sr sc (topK sk sl sm sr sc))

/-- One output element of a context row, the kernel's way. -/
def attC (sk : EReal) (sc vc : Fin 256 → EReal) : EReal :=
  Ideal.div (∑ j, Ideal.exp (sc j - max sk (top sc)) * vc j)
    (Ideal.exp (sk - max sk (top sc)) + ∑ j, Ideal.exp (sc j - max sk (top sc)))

/-- A softmax weight over the joined row `J`. -/
def soft {n : ℕ} (J : Fin n → EReal) (k : Fin n) : EReal :=
  Ideal.div (Ideal.exp (J k - top J)) (∑ l, Ideal.exp (J l - top J))

theorem top_le {n : ℕ} (s : Fin n → EReal) (x : EReal) : top s ≤ x ↔ ∀ k, s k ≤ x := by
  unfold top
  rw [Finset.fold_max_le]
  simp

theorem exp_nonneg (x : EReal) : 0 ≤ Ideal.exp x := by
  induction x with
  | bot => exact le_refl _
  | coe r => exact EReal.coe_nonneg.2 (Real.exp_pos r).le
  | top => exact le_top

theorem sum_exp_nonneg {n : ℕ} (s : Fin n → EReal) (M : EReal) : 0 ≤ ∑ j, Ideal.exp (s j - M) :=
  Finset.sum_nonneg fun _ _ => exp_nonneg _

/-- A masked key weighs nothing. -/
theorem exp_masked (M : EReal) : Ideal.exp (⊥ - M) = 0 := by
  rw [EReal.bot_sub]
  rfl

theorem inv_ne_top (D : EReal) : D⁻¹ ≠ ⊤ := by
  induction D with
  | bot => simp
  | coe r => rw [← EReal.coe_inv]; exact EReal.coe_ne_top _
  | top => simp

/-- Dividing a sum by a nonnegative denominator divides its terms. -/
theorem add_mul_inv (D a b : EReal) (h : 0 ≤ D) : (a + b) * D⁻¹ = a * D⁻¹ + b * D⁻¹ :=
  EReal.right_distrib_of_nonneg_of_ne_top (EReal.inv_nonneg_of_nonneg h) (inv_ne_top D) a b

theorem sum_mul_inv {n : ℕ} (D : EReal) (h : 0 ≤ D) (f : Fin n → EReal) : (∑ j, f j) * D⁻¹ = ∑ j, f j * D⁻¹ := by
  have key : ∀ s : Finset (Fin n), (∑ j ∈ s, f j) * D⁻¹ = ∑ j ∈ s, f j * D⁻¹ := fun s => by
    induction s using Finset.induction_on with
    | empty => simp
    | insert a s ha ih => rw [Finset.sum_insert ha, Finset.sum_insert ha, add_mul_inv _ _ _ h, ih]
  exact key _

theorem weigh {n : ℕ} (D : EReal) (h : 0 ≤ D) (e v : Fin n → EReal) :
    (∑ j, e j * v j) * D⁻¹ = ∑ j, v j * (e j * D⁻¹) := by
  rw [sum_mul_inv D h]
  exact Finset.sum_congr rfl fun j _ => by rw [mul_comm (e j), mul_assoc]

theorem sum384 (f : Fin 384 → EReal) : ∑ s, f s = ∑ j : Fin 128, f ⟨j.val, by omega⟩
    + ∑ j : Fin 128, f ⟨128 + j.val, by omega⟩ + ∑ j : Fin 128, f ⟨256 + j.val, by omega⟩ := by
  have h1 := Fin.sum_univ_add (a := 256) (b := 128) f
  have h2 := Fin.sum_univ_add (a := 128) (b := 128) fun i => f (Fin.castAdd 128 i)
  rw [h2] at h1
  exact h1

theorem sum641 (f : Fin 641 → EReal) : ∑ s, f s = ∑ s : Fin 384, f ⟨s.val, by omega⟩
    + ∑ j : Fin 256, f ⟨384 + j.val, by omega⟩ + f ⟨640, by omega⟩ := by
  have h1 := Fin.sum_univ_add (a := 640) (b := 1) f
  have h2 := Fin.sum_univ_add (a := 384) (b := 256) fun i => f (Fin.castAdd 1 i)
  rw [h2, Fin.sum_univ_one] at h1
  exact h1

theorem sum257 (f : Fin 257 → EReal) : ∑ s, f s = ∑ s : Fin 256, f ⟨s.val, by omega⟩ + f ⟨256, by omega⟩ := by
  have h1 := Fin.sum_univ_add (a := 256) (b := 1) f
  rw [Fin.sum_univ_one] at h1
  exact h1

/-- The largest score, either way. -/
theorem topK_eq (J : Fin 641 → EReal) : topK (J ⟨640, by omega⟩) (fun j : Fin 128 => J ⟨j.val, by omega⟩)
    (fun j : Fin 128 => J ⟨128 + j.val, by omega⟩) (fun j : Fin 128 => J ⟨256 + j.val, by omega⟩)
    (fun j : Fin 256 => J ⟨384 + j.val, by omega⟩) = top J := by
  refine eq_of_forall_ge_iff fun x => ?_
  simp only [topK, max_le_iff, top_le]
  constructor
  · rintro ⟨⟨⟨⟨h, hl⟩, hm⟩, hr⟩, hc⟩ k
    rcases Nat.lt_or_ge k.val 128 with h1 | h1
    · exact hl ⟨k.val, h1⟩
    rcases Nat.lt_or_ge k.val 256 with h2 | h2
    · have := hm ⟨k.val - 128, by omega⟩
      rwa [show (⟨128 + (k.val - 128), by omega⟩ : Fin 641) = k from Fin.ext (by dsimp only; omega)] at this
    rcases Nat.lt_or_ge k.val 384 with h3 | h3
    · have := hr ⟨k.val - 256, by omega⟩
      rwa [show (⟨256 + (k.val - 256), by omega⟩ : Fin 641) = k from Fin.ext (by dsimp only; omega)] at this
    rcases Nat.lt_or_ge k.val 640 with h4 | h4
    · have := hc ⟨k.val - 384, by omega⟩
      rwa [show (⟨384 + (k.val - 384), by omega⟩ : Fin 641) = k from Fin.ext (by dsimp only; omega)] at this
    · rwa [show (⟨640, by omega⟩ : Fin 641) = k from Fin.ext (by dsimp only; omega)] at h
  · intro h
    exact ⟨⟨⟨⟨h _, fun _ => h _⟩, fun _ => h _⟩, fun _ => h _⟩, fun _ => h _⟩

/-- A real number, not an infinity. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.neg {x : EReal} : IsReal x → IsReal (-x)
  | ⟨a, ha⟩ => ⟨-a, by rw [ha, EReal.coe_neg]⟩

theorem IsReal.sum {n : ℕ} (f : Fin n → EReal) (h : ∀ j, IsReal (f j)) : IsReal (∑ j, f j) := by
  have key : ∀ s : Finset (Fin n), IsReal (∑ j ∈ s, f j) := fun s => by
    induction s using Finset.induction_on with
    | empty => exact ⟨0, by simp⟩
    | insert a s ha ih => rw [Finset.sum_insert ha]; exact (h a).add ih
  exact key _

theorem IsReal.cos {x : EReal} : IsReal x → IsReal (Ideal.cos x)
  | ⟨a, ha⟩ => ⟨Real.cos a, by rw [ha]; rfl⟩

theorem IsReal.sin {x : EReal} : IsReal x → IsReal (Ideal.sin x)
  | ⟨a, ha⟩ => ⟨Real.sin a, by rw [ha]; rfl⟩

theorem IsReal.pow {x y : EReal} : IsReal x → IsReal y → IsReal (Ideal.pow x y)
  | ⟨a, ha⟩, ⟨b, hb⟩ => ⟨Real.rpow a b, by rw [ha, hb]; rfl⟩

theorem IsReal.ne_top {x : EReal} : IsReal x → x ≠ ⊤
  | ⟨a, ha⟩ => by rw [ha]; exact EReal.coe_ne_top _

theorem IsReal.ne_bot {x : EReal} : IsReal x → x ≠ ⊥
  | ⟨a, ha⟩ => by rw [ha]; exact EReal.coe_ne_bot _

/-- A product is never less real for being divided by a real other than zero. -/
theorem IsReal.div {x y : EReal} (h : y ≠ 0) : IsReal x → IsReal y → IsReal (Ideal.div x y)
  | ⟨a, ha⟩, ⟨b, hb⟩ => by
    have hb' : b ≠ 0 := fun e => h (by rw [hb, e]; rfl)
    rw [ha, hb, Ideal.div_coe hb']
    exact IsReal.mul ⟨a, rfl⟩ ⟨_, rfl⟩

/-- The greatest of finitely many scores, one of them real and none ⊤, is one of the scores and real. -/
theorem top_attained {n : ℕ} (J : Fin n → EReal) (k0 : Fin n) (h0 : IsReal (J k0)) (h : ∀ k, J k ≠ ⊤) :
    ∃ k, J k = top J ∧ IsReal (J k) := by
  obtain ⟨k, -, hk⟩ := Finset.exists_max_image Finset.univ J ⟨k0, Finset.mem_univ _⟩
  have e : J k = top J := le_antisymm ((top_le J _).1 le_rfl k) ((top_le J _).2 fun l => hk l (Finset.mem_univ _))
  refine ⟨k, e, ?_⟩
  have hb : J k ≠ ⊥ := fun hb => h0.ne_bot (le_bot_iff.1 (hb ▸ hk k0 (Finset.mem_univ _)))
  exact ⟨(J k).toReal, (EReal.coe_toReal (h k) hb).symm⟩

/-- The denominator of a softmax over scores of which one is real and none ⊤ is not zero. -/
theorem den_ne_zero {n : ℕ} (J : Fin n → EReal) (k0 : Fin n) (h0 : IsReal (J k0)) (h : ∀ k, J k ≠ ⊤) :
    (∑ l, Ideal.exp (J l - top J)) ≠ 0 := by
  obtain ⟨k, hk, r, hr⟩ := top_attained J k0 h0 h
  have h1 : Ideal.exp (J k - top J) = 1 := by
    rw [← hk, hr, ← EReal.coe_sub, sub_self]
    show ((Real.exp 0 : ℝ) : EReal) = 1
    rw [Real.exp_zero]
    rfl
  have h2 : Ideal.exp (J k - top J) ≤ ∑ l, Ideal.exp (J l - top J) :=
    Finset.single_le_sum (f := fun l => Ideal.exp (J l - top J)) (fun _ _ => exp_nonneg _) (Finset.mem_univ k)
  intro h3
  rw [h1, h3] at h2
  exact absurd h2 (by norm_num)

theorem div_eq (x : EReal) {y : EReal} (h : y ≠ 0) : Ideal.div x y = x * y⁻¹ := by
  rw [Ideal.div, if_neg h]

/-- The kernel's element of a latent row is the reference's: a key outside the window has score −∞, so its value, which
    the two read from different places, does not count. -/
theorem attK_eq (J : Fin 641 → EReal) (V : Fin 384 → EReal) (sk : EReal) (sl sm sr : Fin 128 → EReal)
    (sc : Fin 256 → EReal) (vl vm vr : Fin 128 → EReal) (vc : Fin 256 → EReal)
    (h0 : IsReal sk) (hn : ∀ k, J k ≠ ⊤)
    (hs : sk = J ⟨640, by omega⟩) (hl : ∀ j : Fin 128, sl j = J ⟨j.val, by omega⟩)
    (hm : ∀ j : Fin 128, sm j = J ⟨128 + j.val, by omega⟩) (hr : ∀ j : Fin 128, sr j = J ⟨256 + j.val, by omega⟩)
    (hc : ∀ j : Fin 256, sc j = J ⟨384 + j.val, by omega⟩)
    (wl : ∀ j : Fin 128, sl j = ⊥ ∨ vl j = V ⟨j.val, by omega⟩) (wm : ∀ j : Fin 128, vm j = V ⟨128 + j.val, by omega⟩)
    (wr : ∀ j : Fin 128, sr j = ⊥ ∨ vr j = V ⟨256 + j.val, by omega⟩) :
    attK sk sl sm sr sc vl vm vr vc = ∑ s : Fin 384, V s * soft J ⟨s.val, by omega⟩
      + ∑ j : Fin 256, vc j * soft J ⟨384 + j.val, by omega⟩ := by
  have hT : topK sk sl sm sr sc = top J := by
    rw [← topK_eq J, hs, funext hl, funext hm, funext hr, funext hc]
  have hD : denK sk sl sm sr sc (top J) = ∑ l, Ideal.exp (J l - top J) := by
    rw [sum641, sum384, denK, hs]
    simp only [hl, hm, hr, hc]
    ac_rfl
  have nn : 0 ≤ ∑ l, Ideal.exp (J l - top J) := sum_exp_nonneg J _
  have nz := den_ne_zero J ⟨640, by omega⟩ (hs ▸ h0) hn
  have mask (s v w : EReal) (h : s = ⊥ ∨ v = w) : Ideal.exp (s - top J) * v = Ideal.exp (s - top J) * w := by
    rcases h with h | h
    · rw [h, exp_masked, zero_mul, zero_mul]
    · rw [h]
  rw [attK, hT, hD, numK, div_eq _ nz, add_mul_inv _ _ _ nn, add_mul_inv _ _ _ nn, add_mul_inv _ _ _ nn, sum384]
  simp only [soft, div_eq _ nz]
  refine congrArg₂ (· + ·) (congrArg₂ (· + ·) (congrArg₂ (· + ·) ?_ ?_) ?_) ?_
  · rw [Finset.sum_congr rfl fun j _ => mask (sl j) _ _ (wl j), weigh _ nn fun j => Ideal.exp (sl j - top J)]
    exact Finset.sum_congr rfl fun j _ => by rw [hl]
  · rw [Finset.sum_congr rfl fun j _ => mask (sm j) _ _ (.inr (wm j)), weigh _ nn fun j => Ideal.exp (sm j - top J)]
    exact Finset.sum_congr rfl fun j _ => by rw [hm]
  · rw [Finset.sum_congr rfl fun j _ => mask (sr j) _ _ (wr j), weigh _ nn fun j => Ideal.exp (sr j - top J)]
    exact Finset.sum_congr rfl fun j _ => by rw [hr]
  · rw [weigh _ nn fun j => Ideal.exp (sc j - top J)]
    exact Finset.sum_congr rfl fun j _ => by rw [hc]

theorem top257 (J : Fin 257 → EReal) : max (J ⟨256, by omega⟩) (top fun j : Fin 256 => J ⟨j.val, by omega⟩) = top J := by
  refine eq_of_forall_ge_iff fun x => ?_
  simp only [max_le_iff, top_le]
  constructor
  · rintro ⟨h, hc⟩ k
    rcases Nat.lt_or_ge k.val 256 with h1 | h1
    · exact hc ⟨k.val, h1⟩
    · rwa [show (⟨256, by omega⟩ : Fin 257) = k from Fin.ext (by dsimp only; omega)] at h
  · exact fun h => ⟨h _, fun _ => h _⟩

/-- The kernel's element of a context row is the reference's. -/
theorem attC_eq (J : Fin 257 → EReal) (sk : EReal) (sc vc : Fin 256 → EReal) (h0 : IsReal sk) (hn : ∀ k, J k ≠ ⊤)
    (hs : sk = J ⟨256, by omega⟩) (hc : ∀ j : Fin 256, sc j = J ⟨j.val, by omega⟩) :
    attC sk sc vc = ∑ j : Fin 256, vc j * soft J ⟨j.val, by omega⟩ := by
  have hT : max sk (top sc) = top J := by
    rw [← top257 J, hs, funext hc]
  have hD : Ideal.exp (sk - top J) + ∑ j, Ideal.exp (sc j - top J) = ∑ l, Ideal.exp (J l - top J) := by
    rw [sum257, hs]
    simp only [hc]
    rw [add_comm]
  have nn : 0 ≤ ∑ l, Ideal.exp (J l - top J) := sum_exp_nonneg J _
  have nz := den_ne_zero J ⟨256, by omega⟩ (hs ▸ h0) hn
  rw [attC, hT, hD, div_eq _ nz, weigh _ nn fun j => Ideal.exp (sc j - top J)]
  simp only [soft, div_eq _ nz]
  exact Finset.sum_congr rfl fun j _ => by rw [hc]

/-- Normed rows of reals are real: the mean of squares is not negative, and a positive constant is added. -/
theorem IsReal.rmsn {x w : Fin 128 → EReal} (hx : ∀ e, IsReal (x e)) (hw : ∀ e, IsReal (w e)) (d : Fin 128) :
    IsReal (rmsn x w d) := by
  choose a ha using hx
  have h128 : Ideal.ofBits .f32 0x43000000#32 = ((128 : ℝ) : EReal) := by
    simp [Ideal.ofBits, Ideal.ieee, -EReal.coe_mul]; norm_num
  have heps : ∃ r : ℝ, 0 < r ∧ Ideal.ofBits .f32 0x358637BD#32 = (r : EReal) := by
    simp [Ideal.ofBits, Ideal.ieee, -EReal.coe_mul]
  obtain ⟨r, hr, hr'⟩ := heps
  have hs : ∑ e : Fin 128, x e * x e = ((∑ e : Fin 128, a e * a e : ℝ) : EReal) := by
    have key : ∀ s : Finset (Fin 128), ∑ e ∈ s, x e * x e = ((∑ e ∈ s, a e * a e : ℝ) : EReal) := fun s => by
      induction s using Finset.induction_on with
      | empty => simp
      | insert b s hb ih => rw [Finset.sum_insert hb, Finset.sum_insert hb, ih, ha, EReal.coe_add, EReal.coe_mul]
    exact key _
  have hq : 0 ≤ ∑ e : Fin 128, a e * a e := Finset.sum_nonneg fun e _ => mul_self_nonneg _
  have hp : 0 < (∑ e : Fin 128, a e * a e) * (1 / 128) + r := by positivity
  rw [SwaMath.rmsn, hs, h128, hr', Ideal.div_coe (by norm_num), ← EReal.coe_mul, ← EReal.coe_add]
  refine IsReal.mul (IsReal.mul ⟨_, ha d⟩ ?_) (hw d)
  show IsReal (if _ < 0 then _ else if _ = 0 then _ else _)
  rw [if_neg (not_lt.2 hp.le), if_neg hp.ne']
  exact ⟨_, rfl⟩

theorem IsReal.rope {x C S : Fin 128 → EReal} (hx : ∀ e, IsReal (x e)) (hC : ∀ e, IsReal (C e)) (hS : ∀ e, IsReal (S e))
    (d : Fin 128) : IsReal (rope x C S d) := by
  refine ((hx d).mul (hC d)).add (IsReal.mul ?_ (hS d))
  split
  · exact hx _
  · exact hx _

theorem IsReal.score {q k : Fin 128 → EReal} (hq : ∀ e, IsReal (q e)) (hk : ∀ e, IsReal (k e)) : IsReal (score q k) := by
  refine (IsReal.sum _ fun e => (hq e).mul (hk e)).mul ?_
  simp [IsReal, Ideal.ofBits, Ideal.ieee, -EReal.coe_mul]

end Cert.SwaMath

end
-- ==== Proof.SwaKernel.lean ====
/-
  The windowed attention kernel's tensors at an index, over variables: normed rows, rotated rows, masked scores, and the
  output element as the scalar functions of the module before.
-/
module

public import proofs.«01_k».proof.Proof.Gen.SwaIdeal.Skeleton
public import proofs.«01_k».proof.Proof.SwaMath
public import Idealize.ShloMosaic.Lib.Pointwise

@[expose] public section

set_option maxRecDepth 16384

noncomputable section

namespace Cert.SwaIdeal.Whole

open Cert.SwaIdeal Cert.SwaIdeal.Gen Cert.SwaMath Idealize.ShloMosaic Idealize.ShloMosaic.TcCoe Idealize.SL.Sem

theorem negInf : Ideal.ofBits .f32 0xFF800000#32 = ⊥ := by simp [Ideal.ofBits, Ideal.ieee]

theorem masked : (Named.named κ "mask" 0xF149F2CA#32 : Ideal .f32) = ⊥ := rfl

/-! Rows normed. -/

theorem pay8_at (x : FVec Ideal S2048x128 .bf16) (w : FVec Ideal S1x128 .f32) (i : Fin 2048) (d : Fin 128) :
    k0_pay8 (F := Ideal) x w (ix2 i d) = rmsn (fun e => x (ix2 i e)) (fun e => w (ix2 0 e)) d := by
  pointwise [k0_pay8, rmsn]

theorem pay15_at (x : FVec Ideal S128x128 .bf16) (w : FVec Ideal S1x128 .f32) (i d : Fin 128) :
    k0_pay15 (F := Ideal) x w (ix2 i d) = rmsn (fun e => x (ix2 i e)) (fun e => w (ix2 0 e)) d := by
  pointwise [k0_pay15, rmsn]

theorem pay18_at (x : FVec Ideal S128x128 .bf16) (w : FVec Ideal S1x128 .f32) (i d : Fin 128) :
    k0_pay18 (F := Ideal) x w (ix2 i d) = rmsn (fun e => x (ix2 i e)) (fun e => w (ix2 0 e)) d := by
  pointwise [k0_pay18, rmsn]

theorem pay22_at (x : FVec Ideal S128x128 .bf16) (w : FVec Ideal S1x128 .f32) (i d : Fin 128) :
    k0_pay22 (F := Ideal) x w (ix2 i d) = rmsn (fun e => x (ix2 i e)) (fun e => w (ix2 0 e)) d := by
  pointwise [k0_pay22, rmsn]

theorem pay40_at (x : FVec Ideal S128x128 .bf16) (w : FVec Ideal S1x128 .f32) (i d : Fin 128) :
    k0_pay40 (F := Ideal) x w (ix2 i d) = rmsn (fun e => x (ix2 i e)) (fun e => w (ix2 0 e)) d := by
  pointwise [k0_pay40, rmsn]

theorem pay41_at (x : FVec Ideal S128x128 .bf16) (w : FVec Ideal S1x128 .f32) (i d : Fin 128) :
    k0_pay41 (F := Ideal) x w (ix2 i d) = rmsn (fun e => x (ix2 i e)) (fun e => w (ix2 0 e)) d := by
  pointwise [k0_pay41, rmsn]

theorem pay52_at (x : FVec Ideal S256x128 .bf16) (w : FVec Ideal S1x128 .f32) (i : Fin 256) (d : Fin 128) :
    k0_pay52 (F := Ideal) x w (ix2 i d) = rmsn (fun e => x (ix2 i e)) (fun e => w (ix2 0 e)) d := by
  pointwise [k0_pay52, rmsn]

/-! The lane's half, and the rotation. -/

theorem pay16_at (i d : Fin 128) : k0_pay16 (ix2 i d) = if d.val % 64 < 32 then 1#1 else 0#1 := by
  pointwise [k0_pay16]
  revert d; decide +kernel

theorem pay19_at (i d : Fin 128) : k0_pay19 (ix2 i d) = if d.val % 64 < 32 then 1#1 else 0#1 := by
  pointwise [k0_pay19]
  revert d; decide +kernel

theorem pay11_at (i : Fin 2048) (d : Fin 128) : k0_pay11 (ix2 i d) = if d.val % 64 < 32 then 1#1 else 0#1 := by
  pointwise [k0_pay11]
  revert d; decide +kernel

theorem select_half (p : Prop) [Decidable p] (a b : EReal) :
    Scalar.select (if p then 1#1 else 0#1) a b = if p then a else b := by
  split <;> rfl

theorem pay17_at (C S x : FVec Ideal S128x128 .f32) (i d : Fin 128) :
    k0_pay17 (F := Ideal) C S x k0_pay16 (ix2 i d)
      = rope (fun e => x (ix2 i e)) (fun e => C (ix2 i e)) (fun e => S (ix2 i e)) d := by
  pointwise [k0_pay17, pay16_at, rope, select_half]

theorem pay21_at (C S : FVec Ideal S128x128 .f32) (x : FVec Ideal S128x128 .bf16) (w : FVec Ideal S1x128 .f32) (i d : Fin 128) :
    k0_pay21 (F := Ideal) C S (k0_pay18 x w) k0_pay19 (k0_pay20 x w) 32#32 (ix2 i d)
      = rope (rmsn (fun e => x (ix2 i e)) (fun e => w (ix2 0 e))) (fun e => C (ix2 i e)) (fun e => S (ix2 i e)) d := by
  pointwise [k0_pay21, k0_pay20, pay18_at, pay19_at, rope, select_half]

theorem pay51_at (C S : FVec Ideal S2048x128 .f32) (x : FVec Ideal S2048x128 .bf16) (w : FVec Ideal S1x128 .f32)
    (i : Fin 2048) (d : Fin 128) :
    k0_pay51 (F := Ideal) (k0_pay8 x w) C S k0_pay11 (k0_pay12 x w) 32#32 (ix2 i d)
      = rope (rmsn (fun e => x (ix2 i e)) (fun e => w (ix2 0 e))) (fun e => C (ix2 i e)) (fun e => S (ix2 i e)) d := by
  pointwise [k0_pay51, k0_pay12, pay8_at, pay11_at, rope, select_half]

/-- Which of the four heads' blocks of 128 rows a row of 512 is in. -/
def pick {α : Type} (q0 q1 q2 q3 : α) (ρ : Fin 512) : α :=
  if ρ.val < 128 then q0 else if ρ.val < 256 then q1 else if ρ.val < 384 then q2 else q3

/-- The test of a lane's half as it comes written out. -/
theorem lane_half : ∀ d : Fin 128, IntOp.cmpi .slt (Scalar.select (IntOp.andi
      (IntOp.xori (IntOp.cmpi .slt (IntOp.remsi .vector (BitVec.ofNat 32 d.val)
        (Scalar.select (Scalar.cmpi .eq 64#32 0#32) 1#32 64#32)) 0#32)
        (Scalar.cmpi .slt (Scalar.select (Scalar.cmpi .eq 64#32 0#32) 1#32 64#32) 0#32))
      (IntOp.cmpi .ne (IntOp.remsi .vector (BitVec.ofNat 32 d.val)
        (Scalar.select (Scalar.cmpi .eq 64#32 0#32) 1#32 64#32)) 0#32))
      (IntOp.addi (IntOp.remsi .vector (BitVec.ofNat 32 d.val)
        (Scalar.select (Scalar.cmpi .eq 64#32 0#32) 1#32 64#32)) (Scalar.select (Scalar.cmpi .eq 64#32 0#32) 1#32 64#32))
      (IntOp.remsi .vector (BitVec.ofNat 32 d.val) (Scalar.select (Scalar.cmpi .eq 64#32 0#32) 1#32 64#32))) 32#32
    = if d.val % 64 < 32 then 1#1 else 0#1 := by decide +kernel

theorem pick0 {α : Type} (a b c e : α) {ρ : Fin 512} (h : ρ.val < 128) : pick a b c e ρ = a := if_pos h
theorem pick1 {α : Type} (a b c e : α) {ρ : Fin 512} (h : ¬ρ.val < 128) (h' : ρ.val - 128 < 128) : pick a b c e ρ = b := by
  unfold pick; rw [if_neg h, if_pos (by omega)]
theorem pick2 {α : Type} (a b c e : α) {ρ : Fin 512} (h : ¬ρ.val < 128) (h' : ¬ρ.val - 128 < 128)
    (h'' : ρ.val - 128 - 128 < 128) : pick a b c e ρ = c := by
  unfold pick; rw [if_neg h, if_neg (by omega), if_pos (by omega)]
theorem pick3 {α : Type} (a b c e : α) {ρ : Fin 512} (h : ¬ρ.val < 128) (h' : ¬ρ.val - 128 < 128)
    (h'' : ¬ρ.val - 128 - 128 < 128) : pick a b c e ρ = e := by
  unfold pick; rw [if_neg h, if_neg (by omega), if_neg (by omega)]

/-- The rotated queries of the four heads, one below the other. -/
theorem pay25_at (C S : FVec Ideal S128x128 .f32) (q0 q1 q2 q3 : FVec Ideal S128x128 .bf16) (w : FVec Ideal S1x128 .f32)
    (ρ : Fin 512) (d : Fin 128) :
    k0_pay25 (F := Ideal) C S (k0_pay17 C S (k0_pay15 q0 w) k0_pay16) (k0_pay21 C S (k0_pay18 q1 w) k0_pay19 (k0_pay20 q1 w) 32#32)
        (k0_pay23 q2 w) (k0_pay24 C q2 w) q3 w (ix2 ρ d)
      = rope (rmsn (fun e => pick q0 q1 q2 q3 ρ (ix2 ⟨ρ.val % 128, by omega⟩ e)) (fun e => w (ix2 0 e)))
          (fun e => C (ix2 ⟨ρ.val % 128, by omega⟩ e)) (fun e => S (ix2 ⟨ρ.val % 128, by omega⟩ e)) d := by
  pointwise [k0_pay25, pay17_at, pay21_at, pay15_at, k0_pay23, k0_pay24, pay22_at]
  split
  · rename_i h0
    simp only [pick0 _ _ _ _ h0, lane_half, select_half, rope, rmsn, (Fin.ext (by show ρ.val = ρ.val % 128; omega) : (⟨ρ.val, by omega⟩ : Fin 128) = ⟨ρ.val % 128, by omega⟩)]
  rename_i h0
  split
  · rename_i h1
    simp only [pick1 _ _ _ _ h0 h1, lane_half, select_half, rope, rmsn, (Fin.ext (by show ρ.val - 128 = ρ.val % 128; omega) : (⟨ρ.val - 128, by omega⟩ : Fin 128) = ⟨ρ.val % 128, by omega⟩)]
  rename_i h1
  split
  · rename_i h2
    simp only [pick2 _ _ _ _ h0 h1 h2, lane_half, select_half, rope, rmsn, (Fin.ext (by show ρ.val - 128 - 128 = ρ.val % 128; omega) : (⟨ρ.val - 128 - 128, by omega⟩ : Fin 128) = ⟨ρ.val % 128, by omega⟩)]
  · rename_i h2
    simp only [pick3 _ _ _ _ h0 h1 h2, lane_half, select_half, rope, rmsn, (Fin.ext (by show ρ.val - 128 - 128 - 128 = ρ.val % 128; omega) : (⟨ρ.val - 128 - 128 - 128, by omega⟩ : Fin 128) = ⟨ρ.val % 128, by omega⟩)]

/-! Scores. -/

theorem pay27_at (ρ : Fin 512) (j : Fin 128) : k0_pay27 (ix2 ρ j) = BitVec.ofNat 32 (ρ.val % 128) := by
  pointwise [k0_pay27]
  revert ρ; decide +kernel

theorem and_mask (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem ge_mask : ∀ (i j : Fin 128), IntOp.cmpi .sge (BitVec.ofNat 32 j.val) (BitVec.ofNat 32 i.val)
    = if i.val ≤ j.val then 1#1 else 0#1 := by decide +kernel

theorem le_mask : ∀ (i j : Fin 128), IntOp.cmpi .sle (BitVec.ofNat 32 j.val) (BitVec.ofNat 32 i.val)
    = if j.val ≤ i.val then 1#1 else 0#1 := by decide +kernel

theorem pay28_at (n : Fin 18) (Q : FVec Ideal S512x128 .f32) (k : FVec Ideal S128x128 .bf16) (ρ : Fin 512) (j : Fin 128) :
    k0_pay28 (F := Ideal) (BitVec.ofNat 32 n.val) Q k (ix2 ρ j)
      = if ρ.val % 128 ≤ j.val ∧ 0 < n.val then score (fun e => Q (ix2 ρ e)) (fun e => k (ix2 j e)) else ⊥ := by
  have hn : Scalar.cmpi .sgt (BitVec.ofNat 32 n.val) 0#32 = if 0 < n.val then 1#1 else 0#1 := by revert n; decide +kernel
  have hj := ge_mask ⟨ρ.val % 128, by omega⟩ j
  pointwise [k0_pay28, pay27_at, k0_pay26, score, masked, hn, hj]
  simp only [and_mask, select_half]

theorem pay30_at (Q : FVec Ideal S512x128 .f32) (k : FVec Ideal S128x128 .bf16) (ρ : Fin 512) (j : Fin 128) :
    k0_pay30 (F := Ideal) (k0_pay29 Q k) (ix2 ρ j) = score (fun e => Q (ix2 ρ e)) (fun e => k (ix2 j e)) := by
  pointwise [k0_pay30, k0_pay29, k0_pay26, score]

theorem pay31_at (n : Fin 18) (Q : FVec Ideal S512x128 .f32) (k : FVec Ideal S128x128 .bf16) (ρ : Fin 512) (j : Fin 128) (h) :
    k0_pay31 (F := Ideal) (BitVec.ofNat 32 n.val) (k0_pay26 Q) k0_pay27 (iota .tc S512x128 32 [1] h) k (ix2 ρ j)
      = if j.val ≤ ρ.val % 128 ∧ n.val < 15 then score (fun e => Q (ix2 ρ e)) (fun e => k (ix2 j e)) else ⊥ := by
  have hn : Scalar.cmpi .slt (BitVec.ofNat 32 n.val) 15#32 = if n.val < 15 then 1#1 else 0#1 := by revert n; decide +kernel
  have hj := le_mask ⟨ρ.val % 128, by omega⟩ j
  pointwise [k0_pay31, pay27_at, k0_pay26, score, masked, hn, hj]
  simp only [and_mask, select_half]

theorem pay32_at (Q : FVec Ideal S512x128 .f32) (k : FVec Ideal S256x128 .bf16) (ρ : Fin 512) (j : Fin 256) :
    k0_pay32 (F := Ideal) (k0_pay26 Q) k (ix2 ρ j) = score (fun e => Q (ix2 ρ e)) (fun e => k (ix2 j e)) := by
  pointwise [k0_pay32, k0_pay26, score]

/-- The sink of the row's head. -/
theorem pay1_at (a b c e : EReal) (ρ : Fin 512) :
    k0_pay1 (F := Ideal) k0_pay53 (k0_pay54 (F := Ideal) a) k0_pay55 b c e (ix2 ρ 0) = pick a b c e ρ := by
  have h : ∀ ρ : Fin 512, k0_pay53 (ix2 ρ 0) = BitVec.ofNat 32 (ρ.val / 128) := fun ρ => by
    pointwise [k0_pay53]
    revert ρ; decide +kernel
  pointwise [k0_pay1, k0_pay54, k0_pay55, h]
  have hc : ∀ (r : Fin 4) (c : Fin 4), IntOp.cmpi .eq (BitVec.ofNat 32 r.val) (BitVec.ofNat 32 c.val)
      = if r = c then 1#1 else 0#1 := by decide +kernel
  have e0 := hc ⟨ρ.val / 128, by omega⟩ 0
  have e1 := hc ⟨ρ.val / 128, by omega⟩ 1
  have e2 := hc ⟨ρ.val / 128, by omega⟩ 2
  have e3 := hc ⟨ρ.val / 128, by omega⟩ 3
  simp only [Fin.ext_iff] at e0 e1 e2 e3
  erw [e0, e1, e2, e3]
  simp only [select_half]
  by_cases h0 : ρ.val < 128
  · rw [pick0 _ _ _ _ h0, if_neg (by show ¬ρ.val / 128 = 3; omega), if_neg (by show ¬ρ.val / 128 = 2; omega),
      if_neg (by show ¬ρ.val / 128 = 1; omega), if_pos (by show ρ.val / 128 = 0; omega)]
  by_cases h1 : ρ.val - 128 < 128
  · rw [pick1 _ _ _ _ h0 h1, if_neg (by show ¬ρ.val / 128 = 3; omega), if_neg (by show ¬ρ.val / 128 = 2; omega),
      if_pos (by show ρ.val / 128 = 1; omega)]
  by_cases h2 : ρ.val - 128 - 128 < 128
  · rw [pick2 _ _ _ _ h0 h1 h2, if_neg (by show ¬ρ.val / 128 = 3; omega), if_pos (by show ρ.val / 128 = 2; omega)]
  · rw [pick3 _ _ _ _ h0 h1 h2, if_pos (by show ρ.val / 128 = 3; omega)]

theorem pay33_at (arg2 : BitVec 32) (v60 : FVec Ideal S512x1 .f32) (v240 : FVec Ideal S512x128 .bf16)
    (v265 v266 : IVec S512x128 32) (v277 v280 : FVec Ideal S512x128 .f32) (v284 : FVec Ideal S128x128 .bf16)
    (v294 : FVec Ideal S256x128 .bf16) (ρ : Fin 512) :
    k0_pay33 arg2 v60 v240 v265 v266 v277 v280 v284 v294 (ix2 ρ 0) = topK (v60 (ix2 ρ 0)) (fun j => v277 (ix2 ρ j))
      (fun j => k0_pay30 v280 (ix2 ρ j)) (fun j => k0_pay31 arg2 v240 v265 v266 v284 (ix2 ρ j))
      (fun j => k0_pay32 v240 v294 (ix2 ρ j)) := by
  pointwise [k0_pay33, topK, top, negInf]

theorem pay36_at (arg2 : BitVec 32) (v60 : FVec Ideal S512x1 .f32) (v240 : FVec Ideal S512x128 .bf16)
    (v265 v266 : IVec S512x128 32) (v277 v280 : FVec Ideal S512x128 .f32) (v284 : FVec Ideal S128x128 .bf16)
    (v294 : FVec Ideal S256x128 .bf16) (v299 v301 v303 : FVec Ideal S128x128 .bf16) (v304 : FVec Ideal S256x128 .bf16)
    (ρ : Fin 512) (d : Fin 128) :
    k0_pay36 (k0_pay30 v280) (k0_pay31 arg2 v240 v265 v266 v284) (k0_pay32 v240 v294) v299 v301 v303 v304
        (k0_pay33 arg2 v60 v240 v265 v266 v277 v280 v284 v294) (k0_pay34 arg2 v60 v240 v265 v266 v277 v280 v284 v294)
        (k0_pay35 arg2 v60 v240 v265 v266 v277 v280 v284 v294) (ix2 ρ d)
      = attK (v60 (ix2 ρ 0)) (fun j => v277 (ix2 ρ j))
          (fun j => k0_pay30 v280 (ix2 ρ j)) (fun j => k0_pay31 arg2 v240 v265 v266 v284 (ix2 ρ j))
          (fun j => k0_pay32 v240 v294 (ix2 ρ j)) (fun j => v299 (ix2 j d)) (fun j => v301 (ix2 j d))
          (fun j => v303 (ix2 j d)) (fun j => v304 (ix2 j d)) := by
  pointwise [k0_pay36, k0_pay34, k0_pay35, pay33_at, attK, numK, denK]

/-! The context rows. -/

/-- The scores of the context's queries, which are normed and not rotated. -/
theorem pay46_at (q0 q1 q2 q3 : FVec Ideal S128x128 .bf16) (w : FVec Ideal S1x128 .f32) (k : FVec Ideal S256x128 .bf16)
    (ρ : Fin 512) (j : Fin 256) :
    k0_pay46 (F := Ideal) (k0_pay40 q0 w) (k0_pay41 q1 w) (k0_pay42 q2) (k0_pay43 w) (k0_pay44 q2) k0_pay45 q3 w k (ix2 ρ j)
      = score (rmsn (fun e => pick q0 q1 q2 q3 ρ (ix2 ⟨ρ.val % 128, by omega⟩ e)) (fun e => w (ix2 0 e)))
          (fun e => k (ix2 j e)) := by
  pointwise [k0_pay46, pay40_at, pay41_at, k0_pay42, k0_pay43, k0_pay44, k0_pay45, score]
  congr 1
  refine Finset.sum_congr rfl fun x _ => ?_
  congr 1
  split
  · rename_i h0
    simp only [pick0 _ _ _ _ h0, rmsn, (Fin.ext (by show ρ.val = ρ.val % 128; omega) : (⟨ρ.val, by omega⟩ : Fin 128) = ⟨ρ.val % 128, by omega⟩)]
  rename_i h0
  split
  · rename_i h1
    simp only [pick1 _ _ _ _ h0 h1, rmsn, (Fin.ext (by show ρ.val - 128 = ρ.val % 128; omega) : (⟨ρ.val - 128, by omega⟩ : Fin 128) = ⟨ρ.val % 128, by omega⟩)]
  rename_i h1
  split
  · rename_i h2
    simp only [pick2 _ _ _ _ h0 h1 h2, rmsn, (Fin.ext (by show ρ.val - 128 - 128 = ρ.val % 128; omega) : (⟨ρ.val - 128 - 128, by omega⟩ : Fin 128) = ⟨ρ.val % 128, by omega⟩)]
  · rename_i h2
    simp only [pick3 _ _ _ _ h0 h1 h2, rmsn, (Fin.ext (by show ρ.val - 128 - 128 - 128 = ρ.val % 128; omega) : (⟨ρ.val - 128 - 128 - 128, by omega⟩ : Fin 128) = ⟨ρ.val % 128, by omega⟩)]

end Cert.SwaIdeal.Whole

end
-- ==== Proof.SwaSpec.lean ====
/-
  The windowed attention written row by row, over variables: normed heads, the rotation's table, the joined scores of a
  query row, and that they are real numbers when the arguments are.
-/
module

public import proofs.«01_k».proof.Proof.SwaMath

@[expose] public section

set_option maxRecDepth 16384

noncomputable section

namespace Cert.SwaMath

open Idealize.ShloMosaic

/-- The rotation's frequencies. -/
def inv (e : Fin 32) : EReal :=
  Ideal.pow (Ideal.ofBits .f32 0x461C4000#32)
    (Ideal.div (-(FloatOps.sitofp (F := Ideal) .f32 (BitVec.ofNat 32 e.val) : EReal)) (Ideal.ofBits .f32 0x42000000#32))

/-- A lane's angle at a row of the grid: the row's own coordinate in the lower half of the lanes, the column's in the upper. -/
def ang (t : Fin 2048) (e : Fin 128) : EReal :=
  (FloatOps.sitofp (F := Ideal) .f32 (BitVec.ofNat 32 (if e.val < 64 then t.val / 64 else t.val % 64)) : EReal)
    * inv ⟨e.val % 32, Nat.mod_lt _ (by omega)⟩

def cosT (t : Fin 2048) (e : Fin 128) : EReal := Ideal.cos (ang t e)

/-- The sine with the sign the lane takes it with. -/
def sinT (t : Fin 2048) (e : Fin 128) : EReal :=
  if e.val % 64 < 32 then -Ideal.sin (ang t e) else Ideal.sin (ang t e)

variable (X : Fin 9216 → Fin 20480 → EReal) (w1 w2 : Fin 128 → EReal) (sk : Fin 8 → EReal)

def qrow (r : Fin 9216) (h : Fin 8) : Fin 128 → EReal := rmsn (fun e => X r ⟨3072 + (h.val * 128 + e.val), by omega⟩) w1
def krow (r : Fin 9216) (g : Fin 2) : Fin 128 → EReal := rmsn (fun e => X r ⟨4096 + (g.val * 128 + e.val), by omega⟩) w2
def vrow (r : Fin 9216) (g : Fin 2) (d : Fin 128) : EReal := X r ⟨4352 + (g.val * 128 + d.val), by omega⟩

def qrot (b : Fin 4) (t : Fin 2048) (h : Fin 8) : Fin 128 → EReal :=
  rope (qrow X w1 ⟨b.val * 2048 + t.val, by omega⟩ h) (cosT t) (sinT t)
def krot (b : Fin 4) (t : Fin 2048) (g : Fin 2) : Fin 128 → EReal :=
  rope (krow X w2 ⟨b.val * 2048 + t.val, by omega⟩ g) (cosT t) (sinT t)

/-- The score of row `i` of block `n` with place `s` of its band of three blocks: outside the window, or the sequence, −∞. -/
def bandScore (b : Fin 4) (n : Fin 16) (i : Fin 128) (g : Fin 2) (h : Fin 8) (s : Fin 384) : EReal :=
  if hs : (i.val ≤ s.val ∧ s.val ≤ i.val + 256) ∧ 128 ≤ n.val * 128 + s.val ∧ n.val * 128 + s.val - 128 < 2048 then
    score (qrot X w1 b ⟨n.val * 128 + i.val, by omega⟩ h) (krot X w2 b ⟨n.val * 128 + s.val - 128, hs.2.2⟩ g)
  else ⊥

/-- The value at place `s` of a band, with zero outside the sequence. -/
def bandVal (b : Fin 4) (n : Fin 16) (g : Fin 2) (s : Fin 384) (d : Fin 128) : EReal :=
  if hs : 128 ≤ n.val * 128 + s.val ∧ n.val * 128 + s.val - 128 < 2048 then
    vrow X ⟨b.val * 2048 + (n.val * 128 + s.val - 128), by omega⟩ g d
  else 0

/-- A latent row's scores: its band, the context, the head's sink. -/
def J641 (b : Fin 4) (n : Fin 16) (i : Fin 128) (g : Fin 2) (h : Fin 8) (s : Fin 641) : EReal :=
  if h1 : s.val < 640 then
    if h2 : s.val < 384 then bandScore X w1 w2 b n i g h ⟨s.val, h2⟩
    else score (qrot X w1 b ⟨n.val * 128 + i.val, by omega⟩ h) (krow X w2 ⟨8192 + (b.val * 256 + (s.val - 384)), by omega⟩ g)
  else sk h

/-- A context row's scores: the context and the head's sink. -/
def J257 (b : Fin 4) (i : Fin 256) (g : Fin 2) (h : Fin 8) (s : Fin 257) : EReal :=
  if h1 : s.val < 256 then
    score (qrow X w1 ⟨8192 + (b.val * 256 + i.val), by omega⟩ h) (krow X w2 ⟨8192 + (b.val * 256 + s.val), by omega⟩ g)
  else sk h

/-- The output at a latent row. -/
def outLat (b : Fin 4) (n : Fin 16) (i : Fin 128) (g : Fin 2) (h : Fin 8) (d : Fin 128) : EReal :=
  ∑ s : Fin 384, bandVal X b n g s d * soft (J641 X w1 w2 sk b n i g h) ⟨s.val, by omega⟩
    + ∑ j : Fin 256, vrow X ⟨8192 + (b.val * 256 + j.val), by omega⟩ g d * soft (J641 X w1 w2 sk b n i g h) ⟨384 + j.val, by omega⟩

/-- The output at a context row. -/
def outCtx (b : Fin 4) (i : Fin 256) (g : Fin 2) (h : Fin 8) (d : Fin 128) : EReal :=
  ∑ j : Fin 256, vrow X ⟨8192 + (b.val * 256 + j.val), by omega⟩ g d * soft (J257 X w1 w2 sk b i g h) ⟨j.val, by omega⟩

section Real
variable {X w1 w2 sk}
variable (hX : ∀ r c, IsReal (X r c)) (h1 : ∀ e, IsReal (w1 e)) (h2 : ∀ e, IsReal (w2 e)) (hs : ∀ h, IsReal (sk h))
include hX h1 h2 hs

theorem inv_real (e : Fin 32) : IsReal (inv e) := by
  have a : IsReal (Ideal.ofBits .f32 0x461C4000#32) := ⟨10000, by simp [Ideal.ofBits, Ideal.ieee, -EReal.coe_mul]; norm_num⟩
  have b : Ideal.ofBits .f32 0x42000000#32 = ((32 : ℝ) : EReal) := by simp [Ideal.ofBits, Ideal.ieee, -EReal.coe_mul]; norm_num
  have c : IsReal (FloatOps.sitofp (F := Ideal) .f32 (BitVec.ofNat 32 e.val) : EReal) := ⟨_, rfl⟩
  refine IsReal.pow a ?_
  rw [b]
  exact IsReal.div (by norm_num) c.neg ⟨32, rfl⟩

theorem ang_real (t : Fin 2048) (e : Fin 128) : IsReal (ang t e) :=
  IsReal.mul ⟨_, rfl⟩ (inv_real hX h1 h2 hs _)

theorem sinT_real (t : Fin 2048) (e : Fin 128) : IsReal (sinT t e) := by
  unfold sinT
  split
  · exact (ang_real hX h1 h2 hs t e).sin.neg
  · exact (ang_real hX h1 h2 hs t e).sin

theorem qrow_real (r h) (e) : IsReal (qrow X w1 r h e) := IsReal.rmsn (fun _ => hX _ _) h1 e
theorem krow_real (r g) (e) : IsReal (krow X w2 r g e) := IsReal.rmsn (fun _ => hX _ _) h2 e
theorem qrot_real (b t h) (e) : IsReal (qrot X w1 b t h e) :=
  IsReal.rope (qrow_real hX h1 h2 hs _ _) (fun e => (ang_real hX h1 h2 hs t e).cos) (sinT_real hX h1 h2 hs t) e
theorem krot_real (b t g) (e) : IsReal (krot X w2 b t g e) :=
  IsReal.rope (krow_real hX h1 h2 hs _ _) (fun e => (ang_real hX h1 h2 hs t e).cos) (sinT_real hX h1 h2 hs t) e

theorem J641_ne_top (b n i g h s) : J641 X w1 w2 sk b n i g h s ≠ ⊤ := by
  unfold J641 bandScore
  split
  · split
    · split
      · exact (IsReal.score (qrot_real hX h1 h2 hs _ _ _) (krot_real hX h1 h2 hs _ _ _)).ne_top
      · exact bot_ne_top
    · exact (IsReal.score (qrot_real hX h1 h2 hs _ _ _) (krow_real hX h1 h2 hs _ _)).ne_top
  · exact (hs h).ne_top

theorem J257_ne_top (b i g h s) : J257 X w1 w2 sk b i g h s ≠ ⊤ := by
  unfold J257
  split
  · exact (IsReal.score (qrow_real hX h1 h2 hs _ _) (krow_real hX h1 h2 hs _ _)).ne_top
  · exact (hs h).ne_top

/-- The kernel's sums over a latent row are the reference's. A block it masks may hold anything. -/
theorem attK_lat (b : Fin 4) (n : Fin 16) (i : Fin 128) (g : Fin 2) (h : Fin 8) (d : Fin 128) (l r : Fin 16)
    (hl : 0 < n.val → l.val + 1 = n.val) (hr : n.val < 15 → r.val = n.val + 1) :
    attK (sk h)
      (fun j => if i.val ≤ j.val ∧ 0 < n.val then score (qrot X w1 b ⟨n.val * 128 + i.val, by omega⟩ h)
        (krot X w2 b ⟨l.val * 128 + j.val, by omega⟩ g) else ⊥)
      (fun j => score (qrot X w1 b ⟨n.val * 128 + i.val, by omega⟩ h) (krot X w2 b ⟨n.val * 128 + j.val, by omega⟩ g))
      (fun j => if j.val ≤ i.val ∧ n.val < 15 then score (qrot X w1 b ⟨n.val * 128 + i.val, by omega⟩ h)
        (krot X w2 b ⟨r.val * 128 + j.val, by omega⟩ g) else ⊥)
      (fun j => score (qrot X w1 b ⟨n.val * 128 + i.val, by omega⟩ h) (krow X w2 ⟨8192 + (b.val * 256 + j.val), by omega⟩ g))
      (fun j => vrow X ⟨b.val * 2048 + (l.val * 128 + j.val), by omega⟩ g d)
      (fun j => vrow X ⟨b.val * 2048 + (n.val * 128 + j.val), by omega⟩ g d)
      (fun j => vrow X ⟨b.val * 2048 + (r.val * 128 + j.val), by omega⟩ g d)
      (fun j => vrow X ⟨8192 + (b.val * 256 + j.val), by omega⟩ g d)
    = outLat X w1 w2 sk b n i g h d := by
  have hi := i.isLt
  have hn := n.isLt
  refine attK_eq (J641 X w1 w2 sk b n i g h) (fun s => bandVal X b n g s d) _ _ _ _ _ _ _ _ _ (hs h)
    (J641_ne_top hX h1 h2 hs b n i g h) ?_ ?_ ?_ ?_ ?_ ?_ ?_ ?_
  · unfold J641
    rw [dif_neg (by dsimp only; omega)]
  · intro j
    have hj := j.isLt
    unfold J641
    rw [dif_pos (by dsimp only; omega), dif_pos (by dsimp only; omega)]
    unfold bandScore
    by_cases c : i.val ≤ j.val ∧ 0 < n.val
    · have e := hl c.2
      rw [if_pos c, dif_pos (⟨⟨c.1, by show j.val ≤ _; omega⟩, by show 128 ≤ n.val * 128 + j.val; omega, by show n.val * 128 + j.val - 128 < 2048; omega⟩)]
      congr 2
      exact Fin.ext (by show l.val * 128 + j.val = n.val * 128 + j.val - 128; omega)
    · rw [if_neg c, dif_neg]
      rintro ⟨⟨a, -⟩, a', -⟩
      exact c ⟨a, by dsimp only at a'; omega⟩
  · intro j
    have hj := j.isLt
    unfold J641
    rw [dif_pos (by dsimp only; omega), dif_pos (by dsimp only; omega)]
    unfold bandScore
    rw [dif_pos (⟨⟨by show i.val ≤ 128 + j.val; omega, by show 128 + j.val ≤ _; omega⟩, by show 128 ≤ n.val * 128 + (128 + j.val); omega, by show n.val * 128 + (128 + j.val) - 128 < 2048; omega⟩)]
    congr 2
    exact Fin.ext (by show n.val * 128 + j.val = n.val * 128 + (128 + j.val) - 128; omega)
  · intro j
    have hj := j.isLt
    unfold J641
    rw [dif_pos (by dsimp only; omega), dif_pos (by dsimp only; omega)]
    unfold bandScore
    by_cases c : j.val ≤ i.val ∧ n.val < 15
    · have e := hr c.2
      rw [if_pos c, dif_pos (⟨⟨by show i.val ≤ 256 + j.val; omega, by show 256 + j.val ≤ _; omega⟩, by show 128 ≤ n.val * 128 + (256 + j.val); omega, by show n.val * 128 + (256 + j.val) - 128 < 2048; omega⟩)]
      congr 2
      exact Fin.ext (by show r.val * 128 + j.val = n.val * 128 + (256 + j.val) - 128; omega)
    · rw [if_neg c, dif_neg]
      rintro ⟨⟨-, a⟩, -, a'⟩
      exact c ⟨by dsimp only at a; omega, by dsimp only at a'; omega⟩
  · intro j
    have hj := j.isLt
    unfold J641
    rw [dif_pos (by dsimp only; omega), dif_neg (by dsimp only; omega)]
    congr 2
    exact Fin.ext (by show 8192 + (b.val * 256 + j.val) = 8192 + (b.val * 256 + (384 + j.val - 384)); omega)
  · intro j
    have hj := j.isLt
    by_cases c : i.val ≤ j.val ∧ 0 < n.val
    · refine .inr ?_
      have e := hl c.2
      refine Eq.trans ?_ (dif_pos ⟨by show 128 ≤ n.val * 128 + j.val; omega, by show n.val * 128 + j.val - 128 < 2048; omega⟩).symm
      congr 1
      exact Fin.ext (by show b.val * 2048 + (l.val * 128 + j.val) = b.val * 2048 + (n.val * 128 + j.val - 128); omega)
    · exact .inl (if_neg c)
  · intro j
    have hj := j.isLt
    refine Eq.trans ?_ (dif_pos ⟨by show 128 ≤ n.val * 128 + (128 + j.val); omega, by show n.val * 128 + (128 + j.val) - 128 < 2048; omega⟩).symm
    congr 1
    exact Fin.ext (by show b.val * 2048 + (n.val * 128 + j.val) = b.val * 2048 + (n.val * 128 + (128 + j.val) - 128); omega)
  · intro j
    have hj := j.isLt
    by_cases c : j.val ≤ i.val ∧ n.val < 15
    · refine .inr ?_
      have e := hr c.2
      refine Eq.trans ?_ (dif_pos ⟨by show 128 ≤ n.val * 128 + (256 + j.val); omega, by show n.val * 128 + (256 + j.val) - 128 < 2048; omega⟩).symm
      congr 1
      exact Fin.ext (by show b.val * 2048 + (r.val * 128 + j.val) = b.val * 2048 + (n.val * 128 + (256 + j.val) - 128); omega)
    · exact .inl (if_neg c)

theorem attC_ctx (b : Fin 4) (i : Fin 256) (g : Fin 2) (h : Fin 8) (d : Fin 128) :
    attC (sk h) (fun j : Fin 256 => score (qrow X w1 ⟨8192 + (b.val * 256 + i.val), by omega⟩ h)
        (krow X w2 ⟨8192 + (b.val * 256 + j.val), by omega⟩ g))
      (fun j => vrow X ⟨8192 + (b.val * 256 + j.val), by omega⟩ g d) = outCtx X w1 w2 sk b i g h d := by
  refine attC_eq (J257 X w1 w2 sk b i g h) _ _ _ (hs h) (J257_ne_top hX h1 h2 hs b i g h) ?_ ?_
  · unfold J257
    rw [dif_neg (by dsimp only; omega)]
  · intro j
    unfold J257
    rw [dif_pos (by dsimp only; omega)]

end Real

end Cert.SwaMath

end
-- ==== Proof.SwaTables.lean ====
/-
  What the windowed attention kernel finds in the operands its host prepares: the rotation's tables and the norms' weights.
-/
module

public import proofs.«01_k».proof.Proof.SwaBlocks
public import Idealize.ShloMosaic.Lib.Pipeline.ValueKit
public import Idealize.ShloMosaic.Lib.Claim
public import proofs.«01_k».proof.Proof.SwaKernel
public import proofs.«01_k».proof.Proof.SwaSpec
public import Idealize.ShloMosaic.Lib.Pointwise

@[expose] public section

set_option maxRecDepth 16384

noncomputable section

namespace Cert.SwaIdeal.Whole

open Cert.SwaIdeal Cert.SwaIdeal.Gen Cert.SwaMath Idealize.ShloMosaic Idealize.ShloMosaic.TcCoe Idealize.SL.Sem
open Idealize.ShloMosaic.Pipeline (Dat)

variable (m : (ℓ : Loc nD τ sig) → Buf (Elt Ideal) ℓ)

/-- Two lines of operations one after the other. -/
theorem after_two (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

/-- The buffers after the integer part of the host's line. -/
def mid (c : Dev nD) : Valuation τ sig (Elt Ideal) :=
  StableHlo.after hostOps0_3 (StableHlo.after hostOps0_2 (StableHlo.after hostOps0_1 (StableHlo.after hostOps0 (fun b => m (c, b)))))

theorem V_mid (c : Dev nD) (b : Ref sig .tc) : V m c b = StableHlo.after hostOps0_4 (mid m c) (Proc.devRef .tc b) := by
  show StableHlo.after (hostOps0 ++ (hostOps0_1 ++ (hostOps0_2 ++ (hostOps0_3 ++ (hostOps0_4 ++ []))))) (fun b => m (c, b)) (Proc.devRef .tc b) = _
  rw [after_two, after_two, after_two, after_two, after_two]
  rfl

/-- The quotient rounded down, as the host computes it. -/
def floorArr (x : IVec S2048 32) (y : IVec S_ 32) : IVec S2048 32 :=
  select (andi (cmpi .ne (signi x) (broadcastInDim S2048 ![] bcast_S_S2048 (signi y)))
      (cmpi .ne (Host.remsi x (broadcastInDim S2048 ![] bcast_S_S2048 y)) (broadcastInDim S2048 ![] bcast_S_S2048 (constantI S_ 32 0#32))))
    (subi (Host.divsi x (broadcastInDim S2048 ![] bcast_S_S2048 y)) (broadcastInDim S2048 ![] bcast_S_S2048 (constantI S_ 32 1#32)))
    (Host.divsi x (broadcastInDim S2048 ![] bcast_S_S2048 y))

/-- The divisor with zero replaced by one. -/
def modArr (y : IVec S_ 32) : IVec S_ 32 := select (cmpi .eq y (constantI S_ 32 0#32)) (constantI S_ 32 1#32) y

/-- The remainder with the divisor's sign, as the host computes it. -/
def remArr (x : IVec S2048 32) (y : IVec S_ 32) : IVec S2048 32 :=
  select (andi (cmpi .ne (cmpi .slt (Host.remsi x (broadcastInDim S2048 ![] bcast_S_S2048 (modArr y))) (broadcastInDim S2048 ![] bcast_S_S2048 (constantI S_ 32 0#32)))
        (broadcastInDim S2048 ![] bcast_S_S2048 (cmpi .slt (modArr y) (constantI S_ 32 0#32))))
      (cmpi .ne (Host.remsi x (broadcastInDim S2048 ![] bcast_S_S2048 (modArr y))) (broadcastInDim S2048 ![] bcast_S_S2048 (constantI S_ 32 0#32))))
    (addi (Host.remsi x (broadcastInDim S2048 ![] bcast_S_S2048 (modArr y))) (broadcastInDim S2048 ![] bcast_S_S2048 (modArr y)))
    (Host.remsi x (broadcastInDim S2048 ![] bcast_S_S2048 (modArr y)))

theorem floorArr_at (t : Fin 2048) : floorArr (iotaInDim S2048 32 0) (constantI S_ 32 64#32) (ix1 t) = BitVec.ofNat 32 (t.val / 64) := by
  revert t; decide +kernel

theorem remArr_at (t : Fin 2048) : remArr (iotaInDim S2048 32 0) (constantI S_ 32 64#32) (ix1 t) = BitVec.ofNat 32 (t.val % 64) := by
  revert t; decide +kernel

theorem mid_v2 (c : Dev nD) : mid m c (Proc.devRef .tc main_v2)
    = sitofp (F := Ideal) .f32 (floorArr (iotaInDim S2048 32 0) (constantI S_ 32 64#32)) := by
  unfold mid
  generalize e1 : StableHlo.after hostOps0_1 (StableHlo.after hostOps0 (fun b => m (c, b))) = σ
  have a : StableHlo.after hostOps0_3 (StableHlo.after hostOps0_2 σ) (Proc.devRef .tc main_v2)
      = sitofp (F := Ideal) .f32 (σ (Proc.devRef .tc main_v1) : IVec S2048 32) := by
    after_results
    try rfl
  rw [a, ← e1]
  refine congrArg (sitofp (F := Ideal) .f32) ?_
  after_results
  rfl

theorem mid_v3 (c : Dev nD) : mid m c (Proc.devRef .tc main_v3)
    = remArr (iotaInDim S2048 32 0) (constantI S_ 32 64#32) := by
  unfold mid
  have e1 : StableHlo.after hostOps0_1 (StableHlo.after hostOps0 (fun b => m (c, b))) (Proc.devRef .tc main_v0) = (iotaInDim S2048 32 0 : IVec S2048 32) := by
    after_results
  generalize StableHlo.after hostOps0_1 (StableHlo.after hostOps0 (fun b => m (c, b))) = σ at e1
  rw [← e1]
  after_results
  rfl

/-- A table's angles, from the rows' or columns' coordinates. -/
def angArr (y : FVec Ideal S2048 .f32) : FVec Ideal S2048x32 .f32 :=
  mulf (broadcastInDim S2048x32 ![0, 1] bcast_S2048x1_S2048x32_0_1 (broadcastInDim S2048x1 ![0] bcast_S2048_S2048x1_0 y))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

theorem angArr_at (y : FVec Ideal S2048 .f32) (t : Fin 2048) (k : Fin 32) : angArr y (ix2 t k) = y (ix1 t) * SwaMath.inv k := by
  pointwise [angArr]
  unfold SwaMath.inv
  rfl

def cosArr (a b : FVec Ideal S2048x32 .f32) : FVec Ideal S2048x128 .f32 :=
  concatenate S2048x128 1 [⟨S2048x32, Host.cos a⟩, ⟨S2048x32, Host.cos a⟩, ⟨S2048x32, Host.cos b⟩, ⟨S2048x32, Host.cos b⟩]
    concatenates_S2048x32_S2048x32_S2048x32_S2048x32_S2048x128_d1

def sinArr (a b : FVec Ideal S2048x32 .f32) : FVec Ideal S2048x128 .f32 :=
  concatenate S2048x128 1 [⟨S2048x32, Host.negf (Host.sin a)⟩, ⟨S2048x32, Host.sin a⟩, ⟨S2048x32, Host.negf (Host.sin b)⟩, ⟨S2048x32, Host.sin b⟩]
    concatenates_S2048x32_S2048x32_S2048x32_S2048x32_S2048x128_d1

theorem entry_cos (c : Dev nD) : V m c main_v25 = cosArr (angArr (mid m c (Proc.devRef .tc main_v2)))
    (angArr (sitofp (F := Ideal) .f32 (mid m c (Proc.devRef .tc main_v3) : IVec S2048 32))) := by
  rw [V_mid]
  generalize mid m c = σ
  after_results
  dsimp only [Matrix.cons_val]
  after_results_loop
  rfl

theorem entry_sin (c : Dev nD) : V m c main_v32 = sinArr (angArr (mid m c (Proc.devRef .tc main_v2)))
    (angArr (sitofp (F := Ideal) .f32 (mid m c (Proc.devRef .tc main_v3) : IVec S2048 32))) := by
  rw [V_mid]
  generalize mid m c = σ
  after_results
  dsimp only [Matrix.cons_val]
  after_results_loop
  rfl

theorem ang_lo (c : Dev nD) (t : Fin 2048) (k : Fin 32) (e : Fin 128) (h : e.val < 64) (hk : e.val % 32 = k.val) :
    angArr (mid m c (Proc.devRef .tc main_v2)) (ix2 t k) = ang t e := by
  rw [angArr_at, mid_v2]
  unfold ang
  rw [if_pos h, ← floorArr_at]
  exact congrArg (_ * SwaMath.inv ·) (Fin.ext hk.symm)

theorem ang_hi (c : Dev nD) (t : Fin 2048) (k : Fin 32) (e : Fin 128) (h : ¬e.val < 64) (hk : e.val % 32 = k.val) :
    angArr (sitofp (F := Ideal) .f32 (mid m c (Proc.devRef .tc main_v3) : IVec S2048 32)) (ix2 t k) = ang t e := by
  rw [angArr_at, mid_v3]
  unfold ang
  rw [if_neg h, ← remArr_at]
  exact congrArg (_ * SwaMath.inv ·) (Fin.ext hk.symm)

theorem cosArr_at (a b : FVec Ideal S2048x32 .f32) (t : Fin 2048) (e : Fin 128) : cosArr a b (ix2 t e)
    = Ideal.cos (if h : e.val < 64 then a (ix2 t ⟨e.val % 32, by omega⟩) else b (ix2 t ⟨e.val % 32, by omega⟩)) := by
  have hd := e.isLt
  have at' (a : FVec Ideal S2048x32 .f32) {k k' : Fin 32} (h : k.val = k'.val) : a (ix2 t k) = a (ix2 t k') :=
    congrArg (fun k => a (ix2 t k)) (Fin.ext h)
  pointwise [cosArr]
  split_ifs
  all_goals try (exfalso; omega)
  all_goals first | rw [dif_pos (show e.val < 64 by omega)] | rw [dif_neg (show ¬e.val < 64 by omega)]
  all_goals (apply congrArg Ideal.cos; apply at'; dsimp only; omega)

theorem sinArr_at (a b : FVec Ideal S2048x32 .f32) (t : Fin 2048) (e : Fin 128) : sinArr a b (ix2 t e)
    = if e.val % 64 < 32 then -Ideal.sin (if h : e.val < 64 then a (ix2 t ⟨e.val % 32, by omega⟩) else b (ix2 t ⟨e.val % 32, by omega⟩))
      else Ideal.sin (if h : e.val < 64 then a (ix2 t ⟨e.val % 32, by omega⟩) else b (ix2 t ⟨e.val % 32, by omega⟩)) := by
  have hd := e.isLt
  have at' (a : FVec Ideal S2048x32 .f32) {k k' : Fin 32} (h : k.val = k'.val) : a (ix2 t k) = a (ix2 t k') :=
    congrArg (fun k => a (ix2 t k)) (Fin.ext h)
  pointwise [sinArr]
  split_ifs
  all_goals try (exfalso; omega)
  all_goals first | rw [if_pos (show e.val % 64 < 32 by omega)] | rw [if_neg (show ¬e.val % 64 < 32 by omega)]
  all_goals first | rw [dif_pos (show e.val < 64 by omega)] | rw [dif_neg (show ¬e.val < 64 by omega)]
  all_goals first | apply congrArg Ideal.sin | (apply congrArg Neg.neg; apply congrArg Ideal.sin)
  all_goals (apply at'; dsimp only; omega)

theorem cos_at (c : Dev nD) (t : Fin 2048) (e : Fin 128) : V m c main_v25 (ix2 t e) = cosT t e := by
  rw [entry_cos, cosArr_at]
  unfold cosT
  refine congrArg Ideal.cos ?_
  split
  · rename_i h; exact ang_lo m c t _ e h rfl
  · rename_i h; exact ang_hi m c t _ e h rfl

theorem sin_at (c : Dev nD) (t : Fin 2048) (e : Fin 128) : V m c main_v32 (ix2 t e) = sinT t e := by
  have k : (if h : e.val < 64 then angArr (mid m c (Proc.devRef .tc main_v2)) (ix2 t ⟨e.val % 32, by omega⟩)
      else angArr (sitofp (F := Ideal) .f32 (mid m c (Proc.devRef .tc main_v3) : IVec S2048 32)) (ix2 t ⟨e.val % 32, by omega⟩)) = ang t e := by
    split
    · rename_i h; exact ang_lo m c t _ e h rfl
    · rename_i h; exact ang_hi m c t _ e h rfl
  rw [entry_sin, sinArr_at, k]
  rfl

theorem wq_at (c : Dev nD) (e : Fin 128) : V m c main_v33 (ix2 0 e) = m ((c : Thread nD τ).loc main_arg1) (ix1 e) := by
  have a : V m c main_v33 = shapeCast S1x128 (V m c main_arg1 : FVec Ideal S128 .f32) shapeCasts_S128_S1x128 := by
    rw [V_mid, V_mid]
    generalize mid m c = σ
    after_results
    rfl
  rw [a, V_main_arg1]
  generalize (m ((c : Thread nD τ).loc main_arg1) : FVec Ideal S128 .f32) = y
  pointwise []

theorem wk_at (c : Dev nD) (e : Fin 128) : V m c main_v34 (ix2 0 e) = m ((c : Thread nD τ).loc main_arg2) (ix1 e) := by
  have a : V m c main_v34 = shapeCast S1x128 (V m c main_arg2 : FVec Ideal S128 .f32) shapeCasts_S128_S1x128 := by
    rw [V_mid, V_mid]
    generalize mid m c = σ
    after_results
    rfl
  rw [a, V_main_arg2]
  generalize (m ((c : Thread nD τ).loc main_arg2) : FVec Ideal S128 .f32) = y
  pointwise []

end Cert.SwaIdeal.Whole

end
-- ==== Proof.SwaPoints.lean ====
/-
  The blocks of the windowed attention kernel at a point, and the scratch it carries.
-/
module

public import proofs.«01_k».proof.Proof.SwaTables
public import proofs.«01_k».proof.Proof.SwaKernel

@[expose] public section

set_option maxRecDepth 16384

noncomputable section

namespace Cert.SwaIdeal.Whole

open Cert.SwaIdeal Cert.SwaIdeal.Gen Cert.SwaMath Idealize.ShloMosaic Idealize.ShloMosaic.TcCoe Idealize.SL.Sem
open Idealize.ShloMosaic.Pipeline (Dat)

variable (m : (ℓ : Loc nD τ sig) → Buf (Elt Ideal) ℓ)

/-- Where each window's block sits, over all points. -/
theorem blocksAt : ∀ t : Fin cfg0.N, win0_0.index t = ![if t.val % 18 < 16 then t.val / 36 * 16 + t.val % 18 else 64 + t.val / 36 * 2 + (t.val % 18 - 16), 6 + t.val / 18 % 2]
    ∧ win0_1.index t = ![t.val / 36, 32 + t.val / 18 % 2] ∧ win0_2.index t = ![t.val / 36, 34 + t.val / 18 % 2]
    ∧ win0_3.index t = ![32 + t.val / 36, 32 + t.val / 18 % 2] ∧ win0_4.index t = ![32 + t.val / 36, 34 + t.val / 18 % 2]
    ∧ win0_5.index t = ![0, 0] ∧ win0_6.index t = ![0, 0] ∧ win0_7.index t = ![0, 0] ∧ win0_8.index t = ![0, 0] ∧ win0_9.index t = ![0]
    ∧ win0_10.index t = ![if t.val % 18 < 16 then t.val / 36 * 16 + t.val % 18 else 64 + t.val / 36 * 2 + (t.val % 18 - 16), t.val / 18 % 2] :=
  (by decide +kernel : ∀ t : Fin grid0.N, _)

theorem lt_N (t : Fin cfg0.N) : t.val < 144 := lt_of_lt_of_eq t.isLt (show cfg0.N = 144 from N_0)

/-- The row of the activations a point's query row is. -/
def qr (t : Fin cfg0.N) (i : Fin 128) : Fin 9216 :=
  ⟨(if t.val % 18 < 16 then t.val / 36 * 16 + t.val % 18 else 64 + t.val / 36 * 2 + (t.val % 18 - 16)) * 128 + i.val, by
    have := lt_N t; split <;> omega⟩

/-- The activations. -/
abbrev A (c : Dev nD) (r : Fin 9216) (e : Fin 20480) : EReal := (m ((c : Thread nD τ).loc main_arg0) : FVec Ideal S9216x20480 .bf16) (ix2 r e)
/-- The norms' weights. -/
abbrev W1 (c : Dev nD) (e : Fin 128) : EReal := (m ((c : Thread nD τ).loc main_arg1) : FVec Ideal S128 .f32) (ix1 e)
abbrev W2 (c : Dev nD) (e : Fin 128) : EReal := (m ((c : Thread nD τ).loc main_arg2) : FVec Ideal S128 .f32) (ix1 e)
/-- The sinks. -/
abbrev SK (c : Dev nD) (h : Fin 8) : EReal := (m ((c : Thread nD τ).loc main_arg3) : FVec Ideal S8 .f32) (ix1 h)

theorem b0_at (c : Dev nD) (t : Fin cfg0.N) (i : Fin 128) (e : Fin 512) :
    (iblk m c 0 t : FVec Ideal S128x512 .bf16) (ix2 i e) = A m c (qr t i) ⟨3072 + t.val / 18 % 2 * 512 + e.val, by omega⟩ := by
  blk_simp [iblk]
  rw [V_main_arg0]
  unfold A qr
  blk_ext [blocksAt t]

theorem b1_at (c : Dev nD) (t : Fin cfg0.N) (i : Fin 2048) (e : Fin 128) :
    (X0_1 m c t : FVec Ideal S2048x128 .bf16) (ix2 i e) = A m c ⟨t.val / 36 * 2048 + i.val, by have := lt_N t; omega⟩ ⟨4096 + t.val / 18 % 2 * 128 + e.val, by omega⟩ := by
  unfold X0_1 Pipeline.Window.fill
  rw [dif_pos (moved0_1 t _)]
  blk_simp [iblk]
  rw [V_main_arg0]
  blk_ext [blocksAt t]

theorem b2_at (c : Dev nD) (t : Fin cfg0.N) (i : Fin 2048) (e : Fin 128) :
    (X0_2 m c t : FVec Ideal S2048x128 .bf16) (ix2 i e) = A m c ⟨t.val / 36 * 2048 + i.val, by have := lt_N t; omega⟩ ⟨4352 + t.val / 18 % 2 * 128 + e.val, by omega⟩ := by
  unfold X0_2 Pipeline.Window.fill
  rw [dif_pos (moved0_2 t _)]
  blk_simp [iblk]
  rw [V_main_arg0]
  blk_ext [blocksAt t]

theorem b3_at (c : Dev nD) (t : Fin cfg0.N) (i : Fin 256) (e : Fin 128) :
    (iblk m c 3 t : FVec Ideal S256x128 .bf16) (ix2 i e) = A m c ⟨8192 + (t.val / 36 * 256 + i.val), by have := lt_N t; omega⟩ ⟨4096 + t.val / 18 % 2 * 128 + e.val, by omega⟩ := by
  blk_simp [iblk]
  rw [V_main_arg0]
  blk_ext [blocksAt t]

theorem b4_at (c : Dev nD) (t : Fin cfg0.N) (i : Fin 256) (e : Fin 128) :
    (iblk m c 4 t : FVec Ideal S256x128 .bf16) (ix2 i e) = A m c ⟨8192 + (t.val / 36 * 256 + i.val), by have := lt_N t; omega⟩ ⟨4352 + t.val / 18 % 2 * 128 + e.val, by omega⟩ := by
  blk_simp [iblk]
  rw [V_main_arg0]
  blk_ext [blocksAt t]

theorem b5_at (c : Dev nD) (t : Fin cfg0.N) (e : Fin 128) : (iblk m c 5 t : FVec Ideal S1x128 .f32) (ix2 0 e) = W1 m c e := by
  refine Eq.trans ?_ (wq_at m c e)
  blk_simp [iblk]
  blk_ext [blocksAt t]

theorem b6_at (c : Dev nD) (t : Fin cfg0.N) (e : Fin 128) : (iblk m c 6 t : FVec Ideal S1x128 .f32) (ix2 0 e) = W2 m c e := by
  refine Eq.trans ?_ (wk_at m c e)
  blk_simp [iblk]
  blk_ext [blocksAt t]

theorem b7_at (c : Dev nD) (t : Fin cfg0.N) (i : Fin 2048) (e : Fin 128) : (iblk m c 7 t : FVec Ideal S2048x128 .f32) (ix2 i e) = cosT i e := by
  refine Eq.trans ?_ (cos_at m c i e)
  blk_simp [iblk]
  blk_ext [blocksAt t]

theorem b8_at (c : Dev nD) (t : Fin cfg0.N) (i : Fin 2048) (e : Fin 128) : (iblk m c 8 t : FVec Ideal S2048x128 .f32) (ix2 i e) = sinT i e := by
  refine Eq.trans ?_ (sin_at m c i e)
  blk_simp [iblk]
  blk_ext [blocksAt t]

theorem b9_at (c : Dev nD) (t : Fin cfg0.N) (h : Fin 8) : (iblk m c 9 t : FVec Ideal S8 .f32) (ix1 h) = SK m c h := by
  blk_simp [iblk]
  rw [V_main_arg3]
  blk_ext [blocksAt t]

/-! The kernel's loads. -/

theorem ld_q (Y : FVec Ideal S128x512 .bf16) (off : Fin 2 → ℕ) (inb) (i e : Fin 128) (e' : Fin 512)
    (h0 : off 0 = 0) (h1 : off 1 + e.val = e'.val) :
    View.ld (Val := Elt Ideal) (e' := .bf16) Y (Rect.unit (s := S128x512) off ![128, 128] inb) (ix2 i e) = Y (ix2 i e') :=
  congrArg Y (funext fun a => Fin.ext (by
    match a with
    | ⟨0, _⟩ => show off 0 + 1 * i.val = i.val; omega
    | ⟨1, _⟩ => show off 1 + 1 * e.val = e'.val; omega))

theorem ld_k (φ : EltTy) (Y : Vec Ideal S2048x128 φ) (off : Fin 2 → ℕ) (inb) (j e : Fin 128) (r : Fin 2048)
    (h0 : off 0 + j.val = r.val) (h1 : off 1 = 0) :
    View.ld (Val := Elt Ideal) (e' := φ) Y (Rect.unit (s := S2048x128) off ![128, 128] inb) (ix2 j e) = Y (ix2 r e) :=
  congrArg Y (funext fun a => Fin.ext (by
    match a with
    | ⟨0, _⟩ => show off 0 + 1 * j.val = r.val; omega
    | ⟨1, _⟩ => show off 1 + 1 * e.val = e.val; omega))

theorem ld_s (Y : FVec Ideal S8 .f32) (off : Fin 1 → ℕ) (inb) (hf) (h : Fin 8) (h0 : off 0 = h.val) :
    View.ld (Val := Elt Ideal) (e' := .f32) Y (Rect.unit (s := S8) off ![1] inb) (Shape.Idx.first hf) = Y (ix1 h) :=
  congrArg Y (funext fun a => Fin.ext (by
    match a with
    | ⟨0, _⟩ => show off 0 + 1 * 0 = h.val; omega))

/-- Where the loads start. -/
theorem off1 : ∀ (t : Fin cfg0.N) (r : Fin 4), k0_off1 (grid0.coords t) (BitVec.ofNat 32 r.val) 0 = t.val / 18 % 2 * 4 + r.val :=
  (by decide +kernel : ∀ (t : Fin grid0.N) (r : Fin 4), _)
theorem off2 : ∀ t : Fin cfg0.N, t.val % 18 < 16 → k0_off2 (grid0.coords t) 0 = t.val % 18 * 128 ∧ k0_off2 (grid0.coords t) 1 = 0 :=
  (by decide +kernel : ∀ t : Fin grid0.N, _)
theorem off3 : ∀ t : Fin cfg0.N, t.val % 18 < 16 → k0_off3 (grid0.coords t) 0 = (t.val % 18 - 1) * 128 ∧ k0_off3 (grid0.coords t) 1 = 0 :=
  (by decide +kernel : ∀ t : Fin grid0.N, _)
theorem off4 : ∀ t : Fin cfg0.N, t.val % 18 < 16 → k0_off4 (grid0.coords t) 0 = min (t.val % 18 + 1) 15 * 128 ∧ k0_off4 (grid0.coords t) 1 = 0 :=
  (by decide +kernel : ∀ t : Fin grid0.N, _)
theorem coord2 : ∀ t : Fin cfg0.N, (grid0.coords t 2).val = t.val % 18 :=
  (by decide +kernel : ∀ t : Fin grid0.N, _)

/-! The scratch: the normed and rotated keys, the normed context keys. -/

/-- The sequence and the key head of a point. -/
def tb (t : Fin cfg0.N) : Fin 4 := ⟨t.val / 36, by have := lt_N t; omega⟩
def tg (t : Fin cfg0.N) : Fin 2 := ⟨t.val / 18 % 2, by omega⟩

theorem pay9_at (x : FVec Ideal S2048x128 .f32) (i : Fin 2048) (d : Fin 128) : k0_pay9 x (ix2 i d) = x (ix2 i d) := by
  pointwise [k0_pay9]

theorem pay10_at (x : FVec Ideal S2048x128 .f32) (i : Fin 2048) (d : Fin 128) : k0_pay10 x (ix2 i d) = x (ix2 i d) := by
  pointwise [k0_pay10]

theorem sixtyfour : Scalar.select (Scalar.cmpi CmpIPredicate.eq 64#32 0#32) 1#32 64#32 = 64#32 := by decide
theorem notneg : Scalar.cmpi CmpIPredicate.slt 64#32 0#32 = 0#1 := by decide

/-- What a first point stores. -/
theorem first0 (c : Dev nD) (t : Fin cfg0.N) (r : Fin 2048) (e : Fin 128) :
    k0_pay51 (F := Ideal) (k0_pay8 (X0_1 m c t) (iblk m c 6 t)) (k0_pay9 (iblk m c 7 t)) (k0_pay10 (iblk m c 8 t)) k0_pay11 (k0_pay12 (X0_1 m c t) (iblk m c 6 t)) 32#32 (ix2 r e)
      = krot (A m c) (W2 m c) (tb t) r (tg t) e := by
  refine (pay51_at _ _ _ _ r e).trans ?_
  unfold krot krow
  simp only [pay9_at, pay10_at]
  rw [funext fun e => b1_at m c t r e, funext fun e => b6_at m c t e, funext fun e => b7_at m c t r e, funext fun e => b8_at m c t r e]
  refine congrFun (congrArg (fun x => rope (rmsn x (W2 m c)) (cosT r) (sinT r)) (funext fun e => ?_)) e
  exact congrArg (A m c _) (Fin.ext (by simp only [tg]; omega))

theorem first1 (c : Dev nD) (t : Fin cfg0.N) (r : Fin 256) (e : Fin 128) :
    k0_pay52 (F := Ideal) (iblk m c 3 t) (iblk m c 6 t) (ix2 r e)
      = krow (A m c) (W2 m c) ⟨8192 + ((tb t).val * 256 + r.val), by omega⟩ (tg t) e := by
  refine (pay52_at _ _ r e).trans ?_
  unfold krow
  rw [funext fun e => b3_at m c t r e, funext fun e => b6_at m c t e]
  refine congrFun (congrArg (fun x => rmsn x (W2 m c)) (funext fun e => ?_)) e
  exact congrArg (A m c _) (Fin.ext (by simp only [tg]; omega))

theorem scratch (c : Dev nD) (k : ℕ) : ∀ (t : Fin cfg0.N), t.val % 18 = k →
    (∀ (r : Fin 2048) (e : Fin 128), ((outsAt0 m c t.val t.isLt).2.1 : FVec Ideal S2048x128 .bf16) (ix2 r e)
        = krot (A m c) (W2 m c) (tb t) r (tg t) e)
    ∧ ∀ (j : Fin 256) (e : Fin 128), ((outsAt0 m c t.val t.isLt).2.2 : FVec Ideal S256x128 .bf16) (ix2 j e)
        = krow (A m c) (W2 m c) ⟨8192 + ((tb t).val * 256 + j.val), by omega⟩ (tg t) e := by
  induction k with
  | zero =>
    intro t ht
    refine ⟨fun r e => ?_, fun j e => ?_⟩
    · rw [outsAt0_A m c t ht (by omega) (by omega)]; frame_out
      have f := first0 m c t r e
      unfold k0_pay12 k0_pay8 k0_pay11 k0_pay9 k0_pay10 at f
      dsimp only at f
      simp only [sixtyfour, notneg] at f
      exact f
    · rw [outsAt0_A m c t ht (by omega) (by omega)]; frame_out
      exact first1 m c t j e
  | succ k ih =>
    intro t ht
    have hp : t.val - 1 < cfg0.N := lt_of_le_of_lt (Nat.sub_le _ _) t.isLt
    have q := ih ⟨t.val - 1, hp⟩ (by dsimp only; omega)
    have eb : tb ⟨t.val - 1, hp⟩ = tb t := Fin.ext (by simp only [tb]; omega)
    have eg : tg ⟨t.val - 1, hp⟩ = tg t := Fin.ext (by simp only [tg]; omega)
    simp only [eb, eg] at q
    have e1 : (outsAt0 m c t.val t.isLt).2.1 = (outsAt0 m c (t.val - 1) hp).2.1 ∧ (outsAt0 m c t.val t.isLt).2.2 = (outsAt0 m c (t.val - 1) hp).2.2 := by
      by_cases h1 : t.val % 18 ≤ 15
      · rw [outsAt0_B m c t (by omega) h1 (by omega)]
        dsimp only
        unfold sout0_B_0 sout0_B_1
        exact ⟨rfl, rfl⟩
      · rw [outsAt0_C m c t (by omega) h1 (by omega)]
        dsimp only
        unfold sout0_C_0 sout0_C_1
        exact ⟨rfl, rfl⟩
    rw [e1.1, e1.2]
    exact q

end Cert.SwaIdeal.Whole

end
-- ==== Proof.SwaContext.lean ====
/-
  The windowed attention kernel's payloads read at an index: a context row's softmax, and the heads' blocks of rows.
-/
module

public import proofs.«01_k».proof.Proof.SwaKernel

@[expose] public section

set_option maxRecDepth 16384

noncomputable section

namespace Cert.SwaIdeal.Whole

open Cert.SwaIdeal Cert.SwaIdeal.Gen Cert.SwaMath Idealize.ShloMosaic Idealize.ShloMosaic.TcCoe Idealize.SL.Sem

theorem pay47_at (v60 : FVec Ideal S512x1 .f32) (v82 v98 v100 : FVec Ideal S128x128 .f32) (v102 : FVec Ideal S1x128 .f32)
    (v105 v106 : FVec Ideal S128x1 .f32) (v115 : FVec Ideal S128x128 .bf16) (v117 : FVec Ideal S1x128 .f32)
    (v133 : FVec Ideal S256x128 .bf16) (ρ : Fin 512) :
    k0_pay47 v60 v82 v98 v100 v102 v105 v106 v115 v117 v133 (ix2 ρ 0)
      = max (v60 (ix2 ρ 0)) (top (fun j => k0_pay46 v82 v98 v100 v102 v105 v106 v115 v117 v133 (ix2 ρ j))) := by
  pointwise [k0_pay47, top, negInf]

/-- A context row's element: the softmax of its scores, its sink added to the denominator. -/
theorem pay3_at (v60 : FVec Ideal S512x1 .f32) (v82 v98 v100 : FVec Ideal S128x128 .f32) (v102 : FVec Ideal S1x128 .f32)
    (v105 v106 : FVec Ideal S128x1 .f32) (v115 : FVec Ideal S128x128 .bf16) (v117 : FVec Ideal S1x128 .f32)
    (v133 v137 : FVec Ideal S256x128 .bf16) (ρ : Fin 512) (d : Fin 128) :
    k0_pay3 v137 (k0_pay49 v60 v82 v98 v100 v102 v105 v106 v115 v117 v133) (k0_pay50 v60 v82 v98 v100 v102 v105 v106 v115 v117 v133)
        (constant (F := Ideal) S512x128 .f32 0x00000000#32) (ix2 ρ d)
      = attC (v60 (ix2 ρ 0)) (fun j => k0_pay46 v82 v98 v100 v102 v105 v106 v115 v117 v133 (ix2 ρ j)) (fun j => v137 (ix2 j d)) := by
  pointwise [k0_pay3, k0_pay49, k0_pay50, k0_pay48, pay47_at, attC]

/-! The four heads' rows. -/

theorem ctx_row (a b c e : EReal) (q0 q1 q2 q3 : FVec Ideal S128x128 .bf16) (w : FVec Ideal S1x128 .f32) (k v : FVec Ideal S256x128 .bf16)
    (ρ : Fin 512) (d : Fin 128) :
    k0_pay3 v (k0_pay49 (k0_pay1 k0_pay53 (k0_pay54 (F := Ideal) a) k0_pay55 b c e) (k0_pay40 q0 w) (k0_pay41 q1 w) (k0_pay42 q2) (k0_pay43 w) (k0_pay44 q2) k0_pay45 q3 w k)
        (k0_pay50 (k0_pay1 k0_pay53 (k0_pay54 (F := Ideal) a) k0_pay55 b c e) (k0_pay40 q0 w) (k0_pay41 q1 w) (k0_pay42 q2) (k0_pay43 w) (k0_pay44 q2) k0_pay45 q3 w k)
        (constant (F := Ideal) S512x128 .f32 0x00000000#32) (ix2 ρ d)
      = attC (pick a b c e ρ) (fun j => score (rmsn (fun e => pick q0 q1 q2 q3 ρ (ix2 ⟨ρ.val % 128, by omega⟩ e)) (fun e => w (ix2 0 e)))
          (fun e => k (ix2 j e))) (fun j => v (ix2 j d)) := by
  refine (pay3_at _ _ _ _ _ _ _ _ _ _ _ _ _).trans ?_
  rw [pay1_at]
  simp only [pay46_at]

theorem slice0 (v : FVec Ideal S256x128 .bf16) (p : FVec Ideal S512x1 .f32) (q : FVec Ideal S512x256 .bf16) (z : FVec Ideal S512x128 .f32)
    (i d : Fin 128) : k0_pay4 (F := Ideal) v p q z (ix2 i d) = k0_pay3 (F := Ideal) v p q z (ix2 ⟨0 + i.val, by omega⟩ d) :=
  congrArg (k0_pay3 (F := Ideal) v p q z) (funext fun a => Fin.ext (by
    match a with
    | ⟨0, _⟩ => rfl
    | ⟨1, _⟩ => show 0 + d.val = d.val; omega))

theorem slice1 (v : FVec Ideal S256x128 .bf16) (p : FVec Ideal S512x1 .f32) (q : FVec Ideal S512x256 .bf16) (z : FVec Ideal S512x128 .f32)
    (i d : Fin 128) : k0_pay5 (F := Ideal) v p q z (ix2 i d) = k0_pay3 (F := Ideal) v p q z (ix2 ⟨128 + i.val, by omega⟩ d) :=
  congrArg (k0_pay3 (F := Ideal) v p q z) (funext fun a => Fin.ext (by
    match a with
    | ⟨0, _⟩ => rfl
    | ⟨1, _⟩ => show 0 + d.val = d.val; omega))

theorem slice2 (v : FVec Ideal S256x128 .bf16) (p : FVec Ideal S512x1 .f32) (q : FVec Ideal S512x256 .bf16) (z : FVec Ideal S512x128 .f32)
    (i d : Fin 128) : k0_pay6 (F := Ideal) v p q z (ix2 i d) = k0_pay3 (F := Ideal) v p q z (ix2 ⟨256 + i.val, by omega⟩ d) :=
  congrArg (k0_pay3 (F := Ideal) v p q z) (funext fun a => Fin.ext (by
    match a with
    | ⟨0, _⟩ => rfl
    | ⟨1, _⟩ => show 0 + d.val = d.val; omega))

theorem slice3 (v : FVec Ideal S256x128 .bf16) (p : FVec Ideal S512x1 .f32) (q : FVec Ideal S512x256 .bf16) (z : FVec Ideal S512x128 .f32)
    (i d : Fin 128) : k0_pay7 (F := Ideal) v p q z (ix2 i d) = k0_pay3 (F := Ideal) v p q z (ix2 ⟨384 + i.val, by omega⟩ d) :=
  congrArg (k0_pay3 (F := Ideal) v p q z) (funext fun a => Fin.ext (by
    match a with
    | ⟨0, _⟩ => rfl
    | ⟨1, _⟩ => show 0 + d.val = d.val; omega))

theorem sliceL0 (v282 v293 : FVec Ideal S512x128 .f32) (v297 : FVec Ideal S512x256 .f32) (v299 v301 v303 : FVec Ideal S128x128 .bf16)
    (v304 : FVec Ideal S256x128 .bf16) (v316 v318 : FVec Ideal S512x1 .f32) (v321 : FVec Ideal S512x128 .f32)
    (i d : Fin 128) : k0_pay37 v282 v293 v297 v299 v301 v303 v304 v316 v318 v321 (ix2 i d) = k0_pay36 v282 v293 v297 v299 v301 v303 v304 v316 v318 v321 (ix2 ⟨0 + i.val, by omega⟩ d) :=
  congrArg (k0_pay36 v282 v293 v297 v299 v301 v303 v304 v316 v318 v321) (funext fun a => Fin.ext (by
    match a with
    | ⟨0, _⟩ => rfl
    | ⟨1, _⟩ => show 0 + d.val = d.val; omega))

theorem sliceL1 (v282 v293 : FVec Ideal S512x128 .f32) (v297 : FVec Ideal S512x256 .f32) (v299 v301 v303 : FVec Ideal S128x128 .bf16)
    (v304 : FVec Ideal S256x128 .bf16) (v316 v318 : FVec Ideal S512x1 .f32) (v321 : FVec Ideal S512x128 .f32)
    (i d : Fin 128) : k0_pay38 v282 v293 v297 v299 v301 v303 v304 v316 v318 v321 (ix2 i d) = k0_pay36 v282 v293 v297 v299 v301 v303 v304 v316 v318 v321 (ix2 ⟨128 + i.val, by omega⟩ d) :=
  congrArg (k0_pay36 v282 v293 v297 v299 v301 v303 v304 v316 v318 v321) (funext fun a => Fin.ext (by
    match a with
    | ⟨0, _⟩ => rfl
    | ⟨1, _⟩ => show 0 + d.val = d.val; omega))

theorem sliceL2 (v282 v293 : FVec Ideal S512x128 .f32) (v297 : FVec Ideal S512x256 .f32) (v299 v301 v303 : FVec Ideal S128x128 .bf16)
    (v304 : FVec Ideal S256x128 .bf16) (v316 v318 : FVec Ideal S512x1 .f32) (v321 : FVec Ideal S512x128 .f32)
    (i d : Fin 128) : k0_pay39 v282 v293 v297 v299 v301 v303 v304 v316 v318 v321 (ix2 i d) = k0_pay36 v282 v293 v297 v299 v301 v303 v304 v316 v318 v321 (ix2 ⟨256 + i.val, by omega⟩ d) :=
  congrArg (k0_pay36 v282 v293 v297 v299 v301 v303 v304 v316 v318 v321) (funext fun a => Fin.ext (by
    match a with
    | ⟨0, _⟩ => rfl
    | ⟨1, _⟩ => show 0 + d.val = d.val; omega))

theorem sliceL3 (v : FVec Ideal S512x128 .f32) (i d : Fin 128) : k0_pay2 v (ix2 i d) = v (ix2 ⟨384 + i.val, by omega⟩ d) :=
  congrArg v (funext fun a => Fin.ext (by
    match a with
    | ⟨0, _⟩ => rfl
    | ⟨1, _⟩ => show 0 + d.val = d.val; omega))

theorem rowmod (r : ℕ) (i : Fin 128) (h : 128 * r + i.val < 512) : (⟨(128 * r + i.val) % 128, by omega⟩ : Fin 128) = i :=
  Fin.ext (by show (128 * r + i.val) % 128 = i.val; omega)

theorem ctx0 (a b c e : EReal) (q0 q1 q2 q3 : FVec Ideal S128x128 .bf16) (w : FVec Ideal S1x128 .f32) (k v : FVec Ideal S256x128 .bf16)
    (i d : Fin 128) (s : EReal) (Q Wt : Fin 128 → EReal) (K : Fin 256 → Fin 128 → EReal) (Vv : Fin 256 → EReal)
    (hs : a = s) (hq : ∀ e : Fin 128, q0 (ix2 i e) = Q e) (hw : ∀ e : Fin 128, w (ix2 0 e) = Wt e)
    (hk : ∀ (j : Fin 256) (e : Fin 128), k (ix2 j e) = K j e) (hv : ∀ j : Fin 256, v (ix2 j d) = Vv j) :
    k0_pay4 v (k0_pay49 (k0_pay1 k0_pay53 (k0_pay54 (F := Ideal) a) k0_pay55 b c e) (k0_pay40 q0 w) (k0_pay41 q1 w) (k0_pay42 q2) (k0_pay43 w) (k0_pay44 q2) k0_pay45 q3 w k)
        (k0_pay50 (k0_pay1 k0_pay53 (k0_pay54 (F := Ideal) a) k0_pay55 b c e) (k0_pay40 q0 w) (k0_pay41 q1 w) (k0_pay42 q2) (k0_pay43 w) (k0_pay44 q2) k0_pay45 q3 w k)
        (constant (F := Ideal) S512x128 .f32 0x00000000#32) (ix2 i d)
      = attC s (fun j => score (rmsn Q Wt) (K j)) Vv := by
  rw [slice0, ctx_row, pick0 a b c e (by dsimp only; omega)]
  simp only [pick0 q0 q1 q2 q3 (ρ := ⟨0 + i.val, by omega⟩) (by dsimp only; omega)]
  rw [rowmod 0 i (by omega), hs, funext hv, funext hq, funext hw]
  simp only [hk]

theorem ctx1 (a b c e : EReal) (q0 q1 q2 q3 : FVec Ideal S128x128 .bf16) (w : FVec Ideal S1x128 .f32) (k v : FVec Ideal S256x128 .bf16)
    (i d : Fin 128) (s : EReal) (Q Wt : Fin 128 → EReal) (K : Fin 256 → Fin 128 → EReal) (Vv : Fin 256 → EReal)
    (hs : b = s) (hq : ∀ e : Fin 128, q1 (ix2 i e) = Q e) (hw : ∀ e : Fin 128, w (ix2 0 e) = Wt e)
    (hk : ∀ (j : Fin 256) (e : Fin 128), k (ix2 j e) = K j e) (hv : ∀ j : Fin 256, v (ix2 j d) = Vv j) :
    k0_pay5 v (k0_pay49 (k0_pay1 k0_pay53 (k0_pay54 (F := Ideal) a) k0_pay55 b c e) (k0_pay40 q0 w) (k0_pay41 q1 w) (k0_pay42 q2) (k0_pay43 w) (k0_pay44 q2) k0_pay45 q3 w k)
        (k0_pay50 (k0_pay1 k0_pay53 (k0_pay54 (F := Ideal) a) k0_pay55 b c e) (k0_pay40 q0 w) (k0_pay41 q1 w) (k0_pay42 q2) (k0_pay43 w) (k0_pay44 q2) k0_pay45 q3 w k)
        (constant (F := Ideal) S512x128 .f32 0x00000000#32) (ix2 i d)
      = attC s (fun j => score (rmsn Q Wt) (K j)) Vv := by
  rw [slice1, ctx_row, pick1 a b c e (by dsimp only; omega) (by dsimp only; omega)]
  simp only [pick1 q0 q1 q2 q3 (ρ := ⟨128 + i.val, by omega⟩) (by dsimp only; omega) (by dsimp only; omega)]
  rw [rowmod 1 i (by omega), hs, funext hv, funext hq, funext hw]
  simp only [hk]

theorem ctx2 (a b c e : EReal) (q0 q1 q2 q3 : FVec Ideal S128x128 .bf16) (w : FVec Ideal S1x128 .f32) (k v : FVec Ideal S256x128 .bf16)
    (i d : Fin 128) (s : EReal) (Q Wt : Fin 128 → EReal) (K : Fin 256 → Fin 128 → EReal) (Vv : Fin 256 → EReal)
    (hs : c = s) (hq : ∀ e : Fin 128, q2 (ix2 i e) = Q e) (hw : ∀ e : Fin 128, w (ix2 0 e) = Wt e)
    (hk : ∀ (j : Fin 256) (e : Fin 128), k (ix2 j e) = K j e) (hv : ∀ j : Fin 256, v (ix2 j d) = Vv j) :
    k0_pay6 v (k0_pay49 (k0_pay1 k0_pay53 (k0_pay54 (F := Ideal) a) k0_pay55 b c e) (k0_pay40 q0 w) (k0_pay41 q1 w) (k0_pay42 q2) (k0_pay43 w) (k0_pay44 q2) k0_pay45 q3 w k)
        (k0_pay50 (k0_pay1 k0_pay53 (k0_pay54 (F := Ideal) a) k0_pay55 b c e) (k0_pay40 q0 w) (k0_pay41 q1 w) (k0_pay42 q2) (k0_pay43 w) (k0_pay44 q2) k0_pay45 q3 w k)
        (constant (F := Ideal) S512x128 .f32 0x00000000#32) (ix2 i d)
      = attC s (fun j => score (rmsn Q Wt) (K j)) Vv := by
  rw [slice2, ctx_row, pick2 a b c e (by dsimp only; omega) (by dsimp only; omega) (by dsimp only; omega)]
  simp only [pick2 q0 q1 q2 q3 (ρ := ⟨256 + i.val, by omega⟩) (by dsimp only; omega) (by dsimp only; omega) (by dsimp only; omega)]
  rw [rowmod 2 i (by omega), hs, funext hv, funext hq, funext hw]
  simp only [hk]

theorem ctx3 (a b c e : EReal) (q0 q1 q2 q3 : FVec Ideal S128x128 .bf16) (w : FVec Ideal S1x128 .f32) (k v : FVec Ideal S256x128 .bf16)
    (i d : Fin 128) (s : EReal) (Q Wt : Fin 128 → EReal) (K : Fin 256 → Fin 128 → EReal) (Vv : Fin 256 → EReal)
    (hs : e = s) (hq : ∀ e : Fin 128, q3 (ix2 i e) = Q e) (hw : ∀ e : Fin 128, w (ix2 0 e) = Wt e)
    (hk : ∀ (j : Fin 256) (e : Fin 128), k (ix2 j e) = K j e) (hv : ∀ j : Fin 256, v (ix2 j d) = Vv j) :
    k0_pay7 v (k0_pay49 (k0_pay1 k0_pay53 (k0_pay54 (F := Ideal) a) k0_pay55 b c e) (k0_pay40 q0 w) (k0_pay41 q1 w) (k0_pay42 q2) (k0_pay43 w) (k0_pay44 q2) k0_pay45 q3 w k)
        (k0_pay50 (k0_pay1 k0_pay53 (k0_pay54 (F := Ideal) a) k0_pay55 b c e) (k0_pay40 q0 w) (k0_pay41 q1 w) (k0_pay42 q2) (k0_pay43 w) (k0_pay44 q2) k0_pay45 q3 w k)
        (constant (F := Ideal) S512x128 .f32 0x00000000#32) (ix2 i d)
      = attC s (fun j => score (rmsn Q Wt) (K j)) Vv := by
  rw [slice3, ctx_row, pick3 a b c e (by dsimp only; omega) (by dsimp only; omega) (by dsimp only; omega)]
  simp only [pick3 q0 q1 q2 q3 (ρ := ⟨384 + i.val, by omega⟩) (by dsimp only; omega) (by dsimp only; omega) (by dsimp only; omega)]
  rw [rowmod 3 i (by omega), hs, funext hv, funext hq, funext hw]
  simp only [hk]

/-- A latent row's element, over its queries' rows `Y`. -/
theorem lat_row (n : Fin 18) (hi) (u : FVec Ideal S512x1 .f32) (Y : FVec Ideal S512x128 .f32) (kl km kr : FVec Ideal S128x128 .bf16) (kc : FVec Ideal S256x128 .bf16) (vl vm vr : FVec Ideal S128x128 .bf16) (vc : FVec Ideal S256x128 .bf16)
    (ρ : Fin 512) (d : Fin 128) :
    k0_pay36 (k0_pay30 (k0_pay29 Y km)) (k0_pay31 (BitVec.ofNat 32 n.val) (k0_pay26 Y) k0_pay27 (iota .tc S512x128 32 [1] hi) kr) (k0_pay32 (k0_pay26 Y) kc) vl vm vr vc
        (k0_pay33 (BitVec.ofNat 32 n.val) u (k0_pay26 Y) k0_pay27 (iota .tc S512x128 32 [1] hi) (k0_pay28 (BitVec.ofNat 32 n.val) Y kl) (k0_pay29 Y km) kr kc)
        (k0_pay34 (BitVec.ofNat 32 n.val) u (k0_pay26 Y) k0_pay27 (iota .tc S512x128 32 [1] hi) (k0_pay28 (BitVec.ofNat 32 n.val) Y kl) (k0_pay29 Y km) kr kc)
        (k0_pay35 (BitVec.ofNat 32 n.val) u (k0_pay26 Y) k0_pay27 (iota .tc S512x128 32 [1] hi) (k0_pay28 (BitVec.ofNat 32 n.val) Y kl) (k0_pay29 Y km) kr kc) (ix2 ρ d)
      = attK (u (ix2 ρ 0))
          (fun j => if ρ.val % 128 ≤ j.val ∧ 0 < n.val then score (fun e => Y (ix2 ρ e)) (fun e => kl (ix2 j e)) else ⊥)
          (fun j => score (fun e => Y (ix2 ρ e)) (fun e => km (ix2 j e)))
          (fun j => if j.val ≤ ρ.val % 128 ∧ n.val < 15 then score (fun e => Y (ix2 ρ e)) (fun e => kr (ix2 j e)) else ⊥)
          (fun j => score (fun e => Y (ix2 ρ e)) (fun e => kc (ix2 j e)))
          (fun j => vl (ix2 j d)) (fun j => vm (ix2 j d)) (fun j => vr (ix2 j d)) (fun j => vc (ix2 j d)) := by
  refine (pay36_at _ _ _ _ _ _ _ _ _ _ _ _ _ _ _).trans ?_
  simp only [pay28_at, pay30_at, fun j => pay31_at n Y kr ρ j hi, pay32_at]

theorem pay13_at (x : FVec Ideal S128x128 .f32) (i d : Fin 128) : k0_pay13 x (ix2 i d) = x (ix2 i d) := by
  pointwise [k0_pay13]

theorem pay14_at (x : FVec Ideal S128x128 .f32) (i d : Fin 128) : k0_pay14 x (ix2 i d) = x (ix2 i d) := by
  pointwise [k0_pay14]

theorem lat0 (n : Fin 18) (hi) (a b c e : EReal) (C S : FVec Ideal S128x128 .f32) (q0 q1 q2 q3 : FVec Ideal S128x128 .bf16) (w : FVec Ideal S1x128 .f32)
    (kl km kr : FVec Ideal S128x128 .bf16) (kc : FVec Ideal S256x128 .bf16) (vl vm vr : FVec Ideal S128x128 .bf16) (vc : FVec Ideal S256x128 .bf16)
    (i d : Fin 128) (s : EReal) (q Wt C' S' : Fin 128 → EReal) (Kl Km Kr : Fin 128 → Fin 128 → EReal) (Kc : Fin 256 → Fin 128 → EReal)
    (Vl Vm Vr : Fin 128 → EReal) (Vc : Fin 256 → EReal)
    (hs : a = s) (hq : ∀ e : Fin 128, q0 (ix2 i e) = q e) (hw : ∀ e : Fin 128, w (ix2 0 e) = Wt e)
    (hC : ∀ e : Fin 128, C (ix2 i e) = C' e) (hS : ∀ e : Fin 128, S (ix2 i e) = S' e)
    (hkl : ∀ j e : Fin 128, kl (ix2 j e) = Kl j e) (hkm : ∀ j e : Fin 128, km (ix2 j e) = Km j e)
    (hkr : ∀ j e : Fin 128, kr (ix2 j e) = Kr j e) (hkc : ∀ (j : Fin 256) (e : Fin 128), kc (ix2 j e) = Kc j e)
    (hvl : ∀ j : Fin 128, vl (ix2 j d) = Vl j) (hvm : ∀ j : Fin 128, vm (ix2 j d) = Vm j)
    (hvr : ∀ j : Fin 128, vr (ix2 j d) = Vr j) (hvc : ∀ j : Fin 256, vc (ix2 j d) = Vc j) :
    k0_pay37 (k0_pay30 (k0_pay29 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) km)) (k0_pay31 (BitVec.ofNat 32 n.val) (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) k0_pay27 (iota .tc S512x128 32 [1] hi) kr) (k0_pay32 (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) kc) vl vm vr vc
        (k0_pay33 (BitVec.ofNat 32 n.val) (k0_pay1 k0_pay53 (k0_pay54 (F := Ideal) a) k0_pay55 b c e) (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) k0_pay27 (iota .tc S512x128 32 [1] hi) (k0_pay28 (BitVec.ofNat 32 n.val) (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) kl) (k0_pay29 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) km) kr kc)
        (k0_pay34 (BitVec.ofNat 32 n.val) (k0_pay1 k0_pay53 (k0_pay54 (F := Ideal) a) k0_pay55 b c e) (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) k0_pay27 (iota .tc S512x128 32 [1] hi) (k0_pay28 (BitVec.ofNat 32 n.val) (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) kl) (k0_pay29 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) km) kr kc)
        (k0_pay35 (BitVec.ofNat 32 n.val) (k0_pay1 k0_pay53 (k0_pay54 (F := Ideal) a) k0_pay55 b c e) (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) k0_pay27 (iota .tc S512x128 32 [1] hi) (k0_pay28 (BitVec.ofNat 32 n.val) (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) kl) (k0_pay29 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) km) kr kc) (ix2 i d)
      = attK s (fun j => if i.val ≤ j.val ∧ 0 < n.val then score (rope (rmsn q Wt) C' S') (Kl j) else ⊥)
          (fun j => score (rope (rmsn q Wt) C' S') (Km j))
          (fun j => if j.val ≤ i.val ∧ n.val < 15 then score (rope (rmsn q Wt) C' S') (Kr j) else ⊥)
          (fun j => score (rope (rmsn q Wt) C' S') (Kc j)) Vl Vm Vr Vc := by
  have hρ : (0 + i.val) % 128 = i.val := by omega
  have hY : ∀ e' : Fin 128, (k0_pay25 (F := Ideal) (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) (ix2 ⟨0 + i.val, by omega⟩ e') = rope (rmsn q Wt) C' S' e' := fun e' => by
    rw [pay25_at]
    simp only [pick0 q0 q1 q2 q3 (ρ := ⟨0 + i.val, by omega⟩) (by dsimp only; omega), pay13_at, pay14_at]
    rw [rowmod 0 i (by omega), funext hq, funext hw, funext hC, funext hS]
  rw [sliceL0, lat_row, pay1_at, pick0 a b c e (by dsimp only; omega), hs, funext hvl, funext hvm, funext hvr, funext hvc]
  simp only [funext hY, hkl, hkm, hkr, hkc, hρ]

theorem lat1 (n : Fin 18) (hi) (a b c e : EReal) (C S : FVec Ideal S128x128 .f32) (q0 q1 q2 q3 : FVec Ideal S128x128 .bf16) (w : FVec Ideal S1x128 .f32)
    (kl km kr : FVec Ideal S128x128 .bf16) (kc : FVec Ideal S256x128 .bf16) (vl vm vr : FVec Ideal S128x128 .bf16) (vc : FVec Ideal S256x128 .bf16)
    (i d : Fin 128) (s : EReal) (q Wt C' S' : Fin 128 → EReal) (Kl Km Kr : Fin 128 → Fin 128 → EReal) (Kc : Fin 256 → Fin 128 → EReal)
    (Vl Vm Vr : Fin 128 → EReal) (Vc : Fin 256 → EReal)
    (hs : b = s) (hq : ∀ e : Fin 128, q1 (ix2 i e) = q e) (hw : ∀ e : Fin 128, w (ix2 0 e) = Wt e)
    (hC : ∀ e : Fin 128, C (ix2 i e) = C' e) (hS : ∀ e : Fin 128, S (ix2 i e) = S' e)
    (hkl : ∀ j e : Fin 128, kl (ix2 j e) = Kl j e) (hkm : ∀ j e : Fin 128, km (ix2 j e) = Km j e)
    (hkr : ∀ j e : Fin 128, kr (ix2 j e) = Kr j e) (hkc : ∀ (j : Fin 256) (e : Fin 128), kc (ix2 j e) = Kc j e)
    (hvl : ∀ j : Fin 128, vl (ix2 j d) = Vl j) (hvm : ∀ j : Fin 128, vm (ix2 j d) = Vm j)
    (hvr : ∀ j : Fin 128, vr (ix2 j d) = Vr j) (hvc : ∀ j : Fin 256, vc (ix2 j d) = Vc j) :
    k0_pay38 (k0_pay30 (k0_pay29 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) km)) (k0_pay31 (BitVec.ofNat 32 n.val) (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) k0_pay27 (iota .tc S512x128 32 [1] hi) kr) (k0_pay32 (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) kc) vl vm vr vc
        (k0_pay33 (BitVec.ofNat 32 n.val) (k0_pay1 k0_pay53 (k0_pay54 (F := Ideal) a) k0_pay55 b c e) (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) k0_pay27 (iota .tc S512x128 32 [1] hi) (k0_pay28 (BitVec.ofNat 32 n.val) (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) kl) (k0_pay29 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) km) kr kc)
        (k0_pay34 (BitVec.ofNat 32 n.val) (k0_pay1 k0_pay53 (k0_pay54 (F := Ideal) a) k0_pay55 b c e) (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) k0_pay27 (iota .tc S512x128 32 [1] hi) (k0_pay28 (BitVec.ofNat 32 n.val) (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) kl) (k0_pay29 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) km) kr kc)
        (k0_pay35 (BitVec.ofNat 32 n.val) (k0_pay1 k0_pay53 (k0_pay54 (F := Ideal) a) k0_pay55 b c e) (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) k0_pay27 (iota .tc S512x128 32 [1] hi) (k0_pay28 (BitVec.ofNat 32 n.val) (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) kl) (k0_pay29 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) km) kr kc) (ix2 i d)
      = attK s (fun j => if i.val ≤ j.val ∧ 0 < n.val then score (rope (rmsn q Wt) C' S') (Kl j) else ⊥)
          (fun j => score (rope (rmsn q Wt) C' S') (Km j))
          (fun j => if j.val ≤ i.val ∧ n.val < 15 then score (rope (rmsn q Wt) C' S') (Kr j) else ⊥)
          (fun j => score (rope (rmsn q Wt) C' S') (Kc j)) Vl Vm Vr Vc := by
  have hρ : (128 + i.val) % 128 = i.val := by omega
  have hY : ∀ e' : Fin 128, (k0_pay25 (F := Ideal) (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) (ix2 ⟨128 + i.val, by omega⟩ e') = rope (rmsn q Wt) C' S' e' := fun e' => by
    rw [pay25_at]
    simp only [pick1 q0 q1 q2 q3 (ρ := ⟨128 + i.val, by omega⟩) (by dsimp only; omega) (by dsimp only; omega), pay13_at, pay14_at]
    rw [rowmod 1 i (by omega), funext hq, funext hw, funext hC, funext hS]
  rw [sliceL1, lat_row, pay1_at, pick1 a b c e (by dsimp only; omega) (by dsimp only; omega), hs, funext hvl, funext hvm, funext hvr, funext hvc]
  simp only [funext hY, hkl, hkm, hkr, hkc, hρ]

theorem lat2 (n : Fin 18) (hi) (a b c e : EReal) (C S : FVec Ideal S128x128 .f32) (q0 q1 q2 q3 : FVec Ideal S128x128 .bf16) (w : FVec Ideal S1x128 .f32)
    (kl km kr : FVec Ideal S128x128 .bf16) (kc : FVec Ideal S256x128 .bf16) (vl vm vr : FVec Ideal S128x128 .bf16) (vc : FVec Ideal S256x128 .bf16)
    (i d : Fin 128) (s : EReal) (q Wt C' S' : Fin 128 → EReal) (Kl Km Kr : Fin 128 → Fin 128 → EReal) (Kc : Fin 256 → Fin 128 → EReal)
    (Vl Vm Vr : Fin 128 → EReal) (Vc : Fin 256 → EReal)
    (hs : c = s) (hq : ∀ e : Fin 128, q2 (ix2 i e) = q e) (hw : ∀ e : Fin 128, w (ix2 0 e) = Wt e)
    (hC : ∀ e : Fin 128, C (ix2 i e) = C' e) (hS : ∀ e : Fin 128, S (ix2 i e) = S' e)
    (hkl : ∀ j e : Fin 128, kl (ix2 j e) = Kl j e) (hkm : ∀ j e : Fin 128, km (ix2 j e) = Km j e)
    (hkr : ∀ j e : Fin 128, kr (ix2 j e) = Kr j e) (hkc : ∀ (j : Fin 256) (e : Fin 128), kc (ix2 j e) = Kc j e)
    (hvl : ∀ j : Fin 128, vl (ix2 j d) = Vl j) (hvm : ∀ j : Fin 128, vm (ix2 j d) = Vm j)
    (hvr : ∀ j : Fin 128, vr (ix2 j d) = Vr j) (hvc : ∀ j : Fin 256, vc (ix2 j d) = Vc j) :
    k0_pay39 (k0_pay30 (k0_pay29 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) km)) (k0_pay31 (BitVec.ofNat 32 n.val) (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) k0_pay27 (iota .tc S512x128 32 [1] hi) kr) (k0_pay32 (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) kc) vl vm vr vc
        (k0_pay33 (BitVec.ofNat 32 n.val) (k0_pay1 k0_pay53 (k0_pay54 (F := Ideal) a) k0_pay55 b c e) (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) k0_pay27 (iota .tc S512x128 32 [1] hi) (k0_pay28 (BitVec.ofNat 32 n.val) (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) kl) (k0_pay29 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) km) kr kc)
        (k0_pay34 (BitVec.ofNat 32 n.val) (k0_pay1 k0_pay53 (k0_pay54 (F := Ideal) a) k0_pay55 b c e) (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) k0_pay27 (iota .tc S512x128 32 [1] hi) (k0_pay28 (BitVec.ofNat 32 n.val) (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) kl) (k0_pay29 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) km) kr kc)
        (k0_pay35 (BitVec.ofNat 32 n.val) (k0_pay1 k0_pay53 (k0_pay54 (F := Ideal) a) k0_pay55 b c e) (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) k0_pay27 (iota .tc S512x128 32 [1] hi) (k0_pay28 (BitVec.ofNat 32 n.val) (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) kl) (k0_pay29 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) km) kr kc) (ix2 i d)
      = attK s (fun j => if i.val ≤ j.val ∧ 0 < n.val then score (rope (rmsn q Wt) C' S') (Kl j) else ⊥)
          (fun j => score (rope (rmsn q Wt) C' S') (Km j))
          (fun j => if j.val ≤ i.val ∧ n.val < 15 then score (rope (rmsn q Wt) C' S') (Kr j) else ⊥)
          (fun j => score (rope (rmsn q Wt) C' S') (Kc j)) Vl Vm Vr Vc := by
  have hρ : (256 + i.val) % 128 = i.val := by omega
  have hY : ∀ e' : Fin 128, (k0_pay25 (F := Ideal) (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) (ix2 ⟨256 + i.val, by omega⟩ e') = rope (rmsn q Wt) C' S' e' := fun e' => by
    rw [pay25_at]
    simp only [pick2 q0 q1 q2 q3 (ρ := ⟨256 + i.val, by omega⟩) (by dsimp only; omega) (by dsimp only; omega) (by dsimp only; omega), pay13_at, pay14_at]
    rw [rowmod 2 i (by omega), funext hq, funext hw, funext hC, funext hS]
  rw [sliceL2, lat_row, pay1_at, pick2 a b c e (by dsimp only; omega) (by dsimp only; omega) (by dsimp only; omega), hs, funext hvl, funext hvm, funext hvr, funext hvc]
  simp only [funext hY, hkl, hkm, hkr, hkc, hρ]

theorem lat3 (n : Fin 18) (hi) (a b c e : EReal) (C S : FVec Ideal S128x128 .f32) (q0 q1 q2 q3 : FVec Ideal S128x128 .bf16) (w : FVec Ideal S1x128 .f32)
    (kl km kr : FVec Ideal S128x128 .bf16) (kc : FVec Ideal S256x128 .bf16) (vl vm vr : FVec Ideal S128x128 .bf16) (vc : FVec Ideal S256x128 .bf16)
    (i d : Fin 128) (s : EReal) (q Wt C' S' : Fin 128 → EReal) (Kl Km Kr : Fin 128 → Fin 128 → EReal) (Kc : Fin 256 → Fin 128 → EReal)
    (Vl Vm Vr : Fin 128 → EReal) (Vc : Fin 256 → EReal)
    (hs : e = s) (hq : ∀ e : Fin 128, q3 (ix2 i e) = q e) (hw : ∀ e : Fin 128, w (ix2 0 e) = Wt e)
    (hC : ∀ e : Fin 128, C (ix2 i e) = C' e) (hS : ∀ e : Fin 128, S (ix2 i e) = S' e)
    (hkl : ∀ j e : Fin 128, kl (ix2 j e) = Kl j e) (hkm : ∀ j e : Fin 128, km (ix2 j e) = Km j e)
    (hkr : ∀ j e : Fin 128, kr (ix2 j e) = Kr j e) (hkc : ∀ (j : Fin 256) (e : Fin 128), kc (ix2 j e) = Kc j e)
    (hvl : ∀ j : Fin 128, vl (ix2 j d) = Vl j) (hvm : ∀ j : Fin 128, vm (ix2 j d) = Vm j)
    (hvr : ∀ j : Fin 128, vr (ix2 j d) = Vr j) (hvc : ∀ j : Fin 256, vc (ix2 j d) = Vc j) :
    k0_pay2 (k0_pay36 (k0_pay30 (k0_pay29 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) km)) (k0_pay31 (BitVec.ofNat 32 n.val) (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) k0_pay27 (iota .tc S512x128 32 [1] hi) kr) (k0_pay32 (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) kc) vl vm vr vc
        (k0_pay33 (BitVec.ofNat 32 n.val) (k0_pay1 k0_pay53 (k0_pay54 (F := Ideal) a) k0_pay55 b c e) (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) k0_pay27 (iota .tc S512x128 32 [1] hi) (k0_pay28 (BitVec.ofNat 32 n.val) (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) kl) (k0_pay29 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) km) kr kc)
        (k0_pay34 (BitVec.ofNat 32 n.val) (k0_pay1 k0_pay53 (k0_pay54 (F := Ideal) a) k0_pay55 b c e) (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) k0_pay27 (iota .tc S512x128 32 [1] hi) (k0_pay28 (BitVec.ofNat 32 n.val) (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) kl) (k0_pay29 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) km) kr kc)
        (k0_pay35 (BitVec.ofNat 32 n.val) (k0_pay1 k0_pay53 (k0_pay54 (F := Ideal) a) k0_pay55 b c e) (k0_pay26 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w)) k0_pay27 (iota .tc S512x128 32 [1] hi) (k0_pay28 (BitVec.ofNat 32 n.val) (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) kl) (k0_pay29 (k0_pay25 (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) km) kr kc)) (ix2 i d)
      = attK s (fun j => if i.val ≤ j.val ∧ 0 < n.val then score (rope (rmsn q Wt) C' S') (Kl j) else ⊥)
          (fun j => score (rope (rmsn q Wt) C' S') (Km j))
          (fun j => if j.val ≤ i.val ∧ n.val < 15 then score (rope (rmsn q Wt) C' S') (Kr j) else ⊥)
          (fun j => score (rope (rmsn q Wt) C' S') (Kc j)) Vl Vm Vr Vc := by
  have hρ : (384 + i.val) % 128 = i.val := by omega
  have hY : ∀ e' : Fin 128, (k0_pay25 (F := Ideal) (k0_pay13 C) (k0_pay14 S) (k0_pay17 (k0_pay13 C) (k0_pay14 S) (k0_pay15 q0 w) k0_pay16) (k0_pay21 (k0_pay13 C) (k0_pay14 S) (k0_pay18 q1 w) k0_pay19 (k0_pay20 q1 w) 32#32) (k0_pay23 q2 w) (k0_pay24 (k0_pay13 C) q2 w) q3 w) (ix2 ⟨384 + i.val, by omega⟩ e') = rope (rmsn q Wt) C' S' e' := fun e' => by
    rw [pay25_at]
    simp only [pick3 q0 q1 q2 q3 (ρ := ⟨384 + i.val, by omega⟩) (by dsimp only; omega) (by dsimp only; omega) (by dsimp only; omega), pay13_at, pay14_at]
    rw [rowmod 3 i (by omega), funext hq, funext hw, funext hC, funext hS]
  rw [sliceL3, lat_row, pay1_at, pick3 a b c e (by dsimp only; omega) (by dsimp only; omega) (by dsimp only; omega), hs, funext hvl, funext hvm, funext hvr, funext hvc]
  simp only [funext hY, hkl, hkm, hkr, hkc, hρ]

end Cert.SwaIdeal.Whole

end
-- ==== Proof.SwaPointC.lean ====
/-
  A context point of the windowed attention kernel stores the specification's rows.
-/
module

public import proofs.«01_k».proof.Proof.SwaPoints
public import proofs.«01_k».proof.Proof.SwaContext

@[expose] public section

set_option maxRecDepth 16384

noncomputable section

namespace Cert.SwaIdeal.Whole

open Cert.SwaIdeal Cert.SwaIdeal.Gen Cert.SwaMath Idealize.ShloMosaic Idealize.ShloMosaic.TcCoe Idealize.SL.Sem
open Idealize.ShloMosaic.Pipeline (Dat)

variable (m : (ℓ : Loc nD τ sig) → Buf (Elt Ideal) ℓ)

variable {m} {c : Dev nD} (hX : ∀ r e, IsReal (A m c r e)) (h1 : ∀ e, IsReal (W1 m c e)) (h2 : ∀ e, IsReal (W2 m c e))
  (hs : ∀ h, IsReal (SK m c h))

theorem row_lt (y : S128x512.Idx) : (y 0).val < 128 := (y 0).isLt
theorem col_lt (y : S128x512.Idx) : (y 1).val < 512 := (y 1).isLt

/-- The scratch a point finds, on its way through the body. -/
theorem back (t : Fin cfg0.N) (h : ¬t.val % 18 = 0) :
    (∀ (r : Fin 2048) (e : Fin 128), ((outsAt0 m c (t.val - 1) (Nat.lt_of_le_of_lt (Nat.sub_le _ _) t.isLt)).2.1 : FVec Ideal S2048x128 .bf16) (ix2 r e)
        = krot (A m c) (W2 m c) (tb t) r (tg t) e)
    ∧ ∀ (j : Fin 256) (e : Fin 128), ((outsAt0 m c (t.val - 1) (Nat.lt_of_le_of_lt (Nat.sub_le _ _) t.isLt)).2.2 : FVec Ideal S256x128 .bf16) (ix2 j e)
        = krow (A m c) (W2 m c) ⟨8192 + ((tb t).val * 256 + j.val), by omega⟩ (tg t) e := by
  have hp : t.val - 1 < cfg0.N := lt_of_le_of_lt (Nat.sub_le _ _) t.isLt
  have q := scratch m c _ ⟨t.val - 1, hp⟩ rfl
  have eb : tb ⟨t.val - 1, hp⟩ = tb t := Fin.ext (by simp only [tb]; omega)
  have eg : tg ⟨t.val - 1, hp⟩ = tg t := Fin.ext (by simp only [tg]; omega)
  simp only [eb, eg] at q
  exact q

include hX h1 h2 hs in
theorem point_C (t : Fin cfg0.N) (h0 : ¬t.val % 18 = 0) (h1' : ¬t.val % 18 ≤ 15) (h2' : 16 ≤ t.val % 18) (y : S128x512.Idx) :
    ((outsAt0 m c t.val t.isLt).1 : FVec Ideal S128x512 .bf16) y
      = outCtx (A m c) (W1 m c) (W2 m c) (SK m c) (tb t) ⟨(t.val % 18 - 16) * 128 + (y 0).val, by have := row_lt y; omega⟩ (tg t)
          ⟨(tg t).val * 4 + (y 1).val / 128, by have := col_lt y; omega⟩ ⟨(y 1).val % 128, by omega⟩ := by
  have hN := lt_N t
  obtain ⟨sc0, sc1⟩ := back (m := m) (c := c) t h0
  rw [outsAt0_C m c t h0 h1' h2']; frame_out; canon_tiles x hx
  · have x0l : (x 0).val < 128 := x0_lt
    rw [eq_ix2 x]
    refine (ctx3 _ _ _ _ _ _ _ _ _ _ _ (x 0) (x 1) (SK m c ⟨(tg t).val * 4 + 3, by omega⟩)
      (fun e => A m c ⟨8192 + ((tb t).val * 256 + ((t.val % 18 - 16) * 128 + (x 0).val)), by omega⟩ ⟨3072 + (((tg t).val * 4 + 3) * 128 + e.val), by omega⟩)
      (W1 m c) (fun j => krow (A m c) (W2 m c) ⟨8192 + ((tb t).val * 256 + j.val), by omega⟩ (tg t))
      (fun j => vrow (A m c) ⟨8192 + ((tb t).val * 256 + j.val), by omega⟩ (tg t) (x 1))
      ?_ ?_ (fun e => b5_at m c t e) (fun j e => ?_) (fun j => ?_)).trans ?_
    · exact (ld_s _ _ _ _ ⟨(tg t).val * 4 + 3, by omega⟩ (off1 t 3)).trans (b9_at m c t _)
    · intro e
      refine (ld_q _ _ _ (x 0) e ⟨384 + e.val, by omega⟩ rfl rfl).trans ((b0_at m c t (x 0) _).trans ?_)
      refine congr (congrArg (A m c) (Fin.ext ?_)) (Fin.ext ?_)
      · simp only [qr, tb]; rw [if_neg (by omega)]; omega
      · simp only [tg]; omega
    · exact (congrFun ((Memref.isWhole_whole _).read_unread _) _).trans (sc1 j e)
    · refine (b4_at m c t j (x 1)).trans ?_
      refine congr (congrArg (A m c) (Fin.ext ?_)) (Fin.ext ?_)
      · simp only [tb]
      · simp only [tg]; omega
    · refine (attC_ctx hX h1 h2 hs (tb t) ⟨(t.val % 18 - 16) * 128 + (x 0).val, by omega⟩ (tg t) ⟨(tg t).val * 4 + 3, by omega⟩ (x 1)).trans ?_
      congr 1 <;> exact Fin.ext (by dsimp only; omega)
  · have x0l : (x 0).val < 128 := x0_lt
    rw [eq_ix2 x]
    refine (ctx2 _ _ _ _ _ _ _ _ _ _ _ (x 0) (x 1) (SK m c ⟨(tg t).val * 4 + 2, by omega⟩)
      (fun e => A m c ⟨8192 + ((tb t).val * 256 + ((t.val % 18 - 16) * 128 + (x 0).val)), by omega⟩ ⟨3072 + (((tg t).val * 4 + 2) * 128 + e.val), by omega⟩)
      (W1 m c) (fun j => krow (A m c) (W2 m c) ⟨8192 + ((tb t).val * 256 + j.val), by omega⟩ (tg t))
      (fun j => vrow (A m c) ⟨8192 + ((tb t).val * 256 + j.val), by omega⟩ (tg t) (x 1))
      ?_ ?_ (fun e => b5_at m c t e) (fun j e => ?_) (fun j => ?_)).trans ?_
    · exact (ld_s _ _ _ _ ⟨(tg t).val * 4 + 2, by omega⟩ (off1 t 2)).trans (b9_at m c t _)
    · intro e
      refine (ld_q _ _ _ (x 0) e ⟨256 + e.val, by omega⟩ rfl rfl).trans ((b0_at m c t (x 0) _).trans ?_)
      refine congr (congrArg (A m c) (Fin.ext ?_)) (Fin.ext ?_)
      · simp only [qr, tb]; rw [if_neg (by omega)]; omega
      · simp only [tg]; omega
    · exact (congrFun ((Memref.isWhole_whole _).read_unread _) _).trans (sc1 j e)
    · refine (b4_at m c t j (x 1)).trans ?_
      refine congr (congrArg (A m c) (Fin.ext ?_)) (Fin.ext ?_)
      · simp only [tb]
      · simp only [tg]; omega
    · refine (attC_ctx hX h1 h2 hs (tb t) ⟨(t.val % 18 - 16) * 128 + (x 0).val, by omega⟩ (tg t) ⟨(tg t).val * 4 + 2, by omega⟩ (x 1)).trans ?_
      congr 1 <;> exact Fin.ext (by dsimp only; omega)
  · have x0l : (x 0).val < 128 := x0_lt
    rw [eq_ix2 x]
    refine (ctx1 _ _ _ _ _ _ _ _ _ _ _ (x 0) (x 1) (SK m c ⟨(tg t).val * 4 + 1, by omega⟩)
      (fun e => A m c ⟨8192 + ((tb t).val * 256 + ((t.val % 18 - 16) * 128 + (x 0).val)), by omega⟩ ⟨3072 + (((tg t).val * 4 + 1) * 128 + e.val), by omega⟩)
      (W1 m c) (fun j => krow (A m c) (W2 m c) ⟨8192 + ((tb t).val * 256 + j.val), by omega⟩ (tg t))
      (fun j => vrow (A m c) ⟨8192 + ((tb t).val * 256 + j.val), by omega⟩ (tg t) (x 1))
      ?_ ?_ (fun e => b5_at m c t e) (fun j e => ?_) (fun j => ?_)).trans ?_
    · exact (ld_s _ _ _ _ ⟨(tg t).val * 4 + 1, by omega⟩ (off1 t 1)).trans (b9_at m c t _)
    · intro e
      refine (ld_q _ _ _ (x 0) e ⟨128 + e.val, by omega⟩ rfl rfl).trans ((b0_at m c t (x 0) _).trans ?_)
      refine congr (congrArg (A m c) (Fin.ext ?_)) (Fin.ext ?_)
      · simp only [qr, tb]; rw [if_neg (by omega)]; omega
      · simp only [tg]; omega
    · exact (congrFun ((Memref.isWhole_whole _).read_unread _) _).trans (sc1 j e)
    · refine (b4_at m c t j (x 1)).trans ?_
      refine congr (congrArg (A m c) (Fin.ext ?_)) (Fin.ext ?_)
      · simp only [tb]
      · simp only [tg]; omega
    · refine (attC_ctx hX h1 h2 hs (tb t) ⟨(t.val % 18 - 16) * 128 + (x 0).val, by omega⟩ (tg t) ⟨(tg t).val * 4 + 1, by omega⟩ (x 1)).trans ?_
      congr 1 <;> exact Fin.ext (by dsimp only; omega)
  · have x0l : (x 0).val < 128 := x0_lt
    rw [eq_ix2 x]
    refine (ctx0 _ _ _ _ _ _ _ _ _ _ _ (x 0) (x 1) (SK m c ⟨(tg t).val * 4 + 0, by omega⟩)
      (fun e => A m c ⟨8192 + ((tb t).val * 256 + ((t.val % 18 - 16) * 128 + (x 0).val)), by omega⟩ ⟨3072 + (((tg t).val * 4 + 0) * 128 + e.val), by omega⟩)
      (W1 m c) (fun j => krow (A m c) (W2 m c) ⟨8192 + ((tb t).val * 256 + j.val), by omega⟩ (tg t))
      (fun j => vrow (A m c) ⟨8192 + ((tb t).val * 256 + j.val), by omega⟩ (tg t) (x 1))
      ?_ ?_ (fun e => b5_at m c t e) (fun j e => ?_) (fun j => ?_)).trans ?_
    · exact (ld_s _ _ _ _ ⟨(tg t).val * 4 + 0, by omega⟩ (off1 t 0)).trans (b9_at m c t _)
    · intro e
      refine (ld_q _ _ _ (x 0) e ⟨0 + e.val, by omega⟩ rfl rfl).trans ((b0_at m c t (x 0) _).trans ?_)
      refine congr (congrArg (A m c) (Fin.ext ?_)) (Fin.ext ?_)
      · simp only [qr, tb]; rw [if_neg (by omega)]; omega
      · simp only [tg]; omega
    · exact (congrFun ((Memref.isWhole_whole _).read_unread _) _).trans (sc1 j e)
    · refine (b4_at m c t j (x 1)).trans ?_
      refine congr (congrArg (A m c) (Fin.ext ?_)) (Fin.ext ?_)
      · simp only [tb]
      · simp only [tg]; omega
    · refine (attC_ctx hX h1 h2 hs (tb t) ⟨(t.val % 18 - 16) * 128 + (x 0).val, by omega⟩ (tg t) ⟨(tg t).val * 4 + 0, by omega⟩ (x 1)).trans ?_
      congr 1 <;> exact Fin.ext (by dsimp only; omega)

end Cert.SwaIdeal.Whole

end
-- ==== Proof.SwaPointA.lean ====
/-
  A first latent point of the windowed attention kernel stores the specification's rows.
-/
module

public import proofs.«01_k».proof.Proof.SwaPoints
public import proofs.«01_k».proof.Proof.SwaPointC

@[expose] public section

set_option maxRecDepth 16384

noncomputable section

namespace Cert.SwaIdeal.Whole

open Cert.SwaIdeal Cert.SwaIdeal.Gen Cert.SwaMath Idealize.ShloMosaic Idealize.ShloMosaic.TcCoe Idealize.SL.Sem
open Idealize.ShloMosaic.Pipeline (Dat)

variable (m : (ℓ : Loc nD τ sig) → Buf (Elt Ideal) ℓ)

variable {m} {c : Dev nD} (hX : ∀ r e, IsReal (A m c r e)) (h1 : ∀ e, IsReal (W1 m c e)) (h2 : ∀ e, IsReal (W2 m c e))
  (hs : ∀ h, IsReal (SK m c h))

include hX h1 h2 hs in
theorem point_A (t : Fin cfg0.N) (h0 : t.val % 18 = 0) (y : S128x512.Idx) :
    ((outsAt0 m c t.val t.isLt).1 : FVec Ideal S128x512 .bf16) y
      = outLat (A m c) (W1 m c) (W2 m c) (SK m c) (tb t) ⟨t.val % 18, by omega⟩ ⟨(y 0).val, row_lt y⟩ (tg t)
          ⟨(tg t).val * 4 + (y 1).val / 128, by have := col_lt y; omega⟩ ⟨(y 1).val % 128, by omega⟩ := by
  have hN := lt_N t
  have hl : t.val % 18 ≤ 15 := by omega
  have f := first0 m c t
  unfold k0_pay12 k0_pay8 k0_pay11 k0_pay9 k0_pay10 at f
  dsimp only at f
  simp only [sixtyfour, notneg] at f
  have hn : t.val % 18 < 16 := by omega
  have cn := coord2 t
  rw [outsAt0_A m c t h0 (by omega) (by omega)]; frame_out; canon_tiles x hx
  · have x0l : (x 0).val < 128 := x0_lt
    rw [eq_ix2 x]
    refine (lat3 (grid0.coords t 2) _ _ _ _ _ _ _ _ _ _ _ _ _ _ _ _ _ _ _ _ (x 0) (x 1) (SK m c ⟨(tg t).val * 4 + 3, by omega⟩)
      (fun e => A m c ⟨(tb t).val * 2048 + (t.val % 18 * 128 + (x 0).val), by omega⟩ ⟨3072 + (((tg t).val * 4 + 3) * 128 + e.val), by omega⟩)
      (W1 m c) (cosT ⟨t.val % 18 * 128 + (x 0).val, by omega⟩) (sinT ⟨t.val % 18 * 128 + (x 0).val, by omega⟩)
      (fun j => krot (A m c) (W2 m c) (tb t) ⟨(t.val % 18 - 1) * 128 + j.val, by omega⟩ (tg t)) (fun j => krot (A m c) (W2 m c) (tb t) ⟨t.val % 18 * 128 + j.val, by omega⟩ (tg t))
      (fun j => krot (A m c) (W2 m c) (tb t) ⟨min (t.val % 18 + 1) 15 * 128 + j.val, by omega⟩ (tg t)) (fun j => krow (A m c) (W2 m c) ⟨8192 + ((tb t).val * 256 + j.val), by omega⟩ (tg t))
      (fun j => vrow (A m c) ⟨(tb t).val * 2048 + ((t.val % 18 - 1) * 128 + j.val), by omega⟩ (tg t) (x 1)) (fun j => vrow (A m c) ⟨(tb t).val * 2048 + (t.val % 18 * 128 + j.val), by omega⟩ (tg t) (x 1))
      (fun j => vrow (A m c) ⟨(tb t).val * 2048 + (min (t.val % 18 + 1) 15 * 128 + j.val), by omega⟩ (tg t) (x 1)) (fun j => vrow (A m c) ⟨8192 + ((tb t).val * 256 + j.val), by omega⟩ (tg t) (x 1))
      ?_ ?_ (fun e => b5_at m c t e) (fun e => ?_) (fun e => ?_) (fun j e => ?_) (fun j e => ?_) (fun j e => ?_) (fun j e => ?_)
      (fun j => ?_) (fun j => ?_) (fun j => ?_) (fun j => ?_)).trans ?_
    · exact (ld_s _ _ _ _ ⟨(tg t).val * 4 + 3, by omega⟩ (off1 t 3)).trans (b9_at m c t _)
    · intro e
      refine (ld_q _ _ _ (x 0) e ⟨384 + e.val, by omega⟩ rfl rfl).trans ((b0_at m c t (x 0) _).trans ?_)
      refine congr (congrArg (A m c) (Fin.ext ?_)) (Fin.ext ?_)
      · simp only [qr, tb]; rw [if_pos (by omega)]; omega
      · simp only [tg]; omega
    · exact (ld_k .f32 _ _ _ (x 0) e ⟨t.val % 18 * 128 + (x 0).val, by omega⟩ (by rw [(off2 t hn).1]) (off2 t hn).2).trans (b7_at m c t _ e)
    · exact (ld_k .f32 _ _ _ (x 0) e ⟨t.val % 18 * 128 + (x 0).val, by omega⟩ (by rw [(off2 t hn).1]) (off2 t hn).2).trans (b8_at m c t _ e)
    · exact (ld_k .bf16 _ _ _ j e ⟨(t.val % 18 - 1) * 128 + j.val, by omega⟩ (by rw [(off3 t hn).1]) (off3 t hn).2).trans (f _ _)
    · exact (ld_k .bf16 _ _ _ j e ⟨t.val % 18 * 128 + j.val, by omega⟩ (by rw [(off2 t hn).1]) (off2 t hn).2).trans (f _ _)
    · exact (ld_k .bf16 _ _ _ j e ⟨min (t.val % 18 + 1) 15 * 128 + j.val, by omega⟩ (by rw [(off4 t hn).1]) (off4 t hn).2).trans (f _ _)
    · exact first1 m c t j e
    · refine (ld_k .bf16 _ _ _ j (x 1) ⟨(t.val % 18 - 1) * 128 + j.val, by omega⟩ (by rw [(off3 t hn).1]) (off3 t hn).2).trans ((b2_at m c t _ (x 1)).trans ?_)
      refine congr (congrArg (A m c) (Fin.ext ?_)) (Fin.ext ?_)
      · simp only [tb]
      · simp only [tg]; omega
    · refine (ld_k .bf16 _ _ _ j (x 1) ⟨t.val % 18 * 128 + j.val, by omega⟩ (by rw [(off2 t hn).1]) (off2 t hn).2).trans ((b2_at m c t _ (x 1)).trans ?_)
      refine congr (congrArg (A m c) (Fin.ext ?_)) (Fin.ext ?_)
      · simp only [tb]
      · simp only [tg]; omega
    · refine (ld_k .bf16 _ _ _ j (x 1) ⟨min (t.val % 18 + 1) 15 * 128 + j.val, by omega⟩ (by rw [(off4 t hn).1]) (off4 t hn).2).trans ((b2_at m c t _ (x 1)).trans ?_)
      refine congr (congrArg (A m c) (Fin.ext ?_)) (Fin.ext ?_)
      · simp only [tb]
      · simp only [tg]; omega
    · refine (b4_at m c t j (x 1)).trans ?_
      refine congr (congrArg (A m c) (Fin.ext ?_)) (Fin.ext ?_)
      · simp only [tb]
      · simp only [tg]; omega
    · refine Eq.trans ?_ ((attK_lat hX h1 h2 hs (tb t) ⟨t.val % 18, by omega⟩ (x 0) (tg t) ⟨(tg t).val * 4 + 3, by omega⟩ (x 1)
        ⟨t.val % 18 - 1, by omega⟩ ⟨min (t.val % 18 + 1) 15, by omega⟩ (by dsimp only; omega) (by dsimp only; omega)).trans ?_)
      · simp only [cn]
        rfl
      · congr 1 <;> exact Fin.ext (by dsimp only; omega)
  · have x0l : (x 0).val < 128 := x0_lt
    rw [eq_ix2 x]
    refine (lat2 (grid0.coords t 2) _ _ _ _ _ _ _ _ _ _ _ _ _ _ _ _ _ _ _ _ (x 0) (x 1) (SK m c ⟨(tg t).val * 4 + 2, by omega⟩)
      (fun e => A m c ⟨(tb t).val * 2048 + (t.val % 18 * 128 + (x 0).val), by omega⟩ ⟨3072 + (((tg t).val * 4 + 2) * 128 + e.val), by omega⟩)
      (W1 m c) (cosT ⟨t.val % 18 * 128 + (x 0).val, by omega⟩) (sinT ⟨t.val % 18 * 128 + (x 0).val, by omega⟩)
      (fun j => krot (A m c) (W2 m c) (tb t) ⟨(t.val % 18 - 1) * 128 + j.val, by omega⟩ (tg t)) (fun j => krot (A m c) (W2 m c) (tb t) ⟨t.val % 18 * 128 + j.val, by omega⟩ (tg t))
      (fun j => krot (A m c) (W2 m c) (tb t) ⟨min (t.val % 18 + 1) 15 * 128 + j.val, by omega⟩ (tg t)) (fun j => krow (A m c) (W2 m c) ⟨8192 + ((tb t).val * 256 + j.val), by omega⟩ (tg t))
      (fun j => vrow (A m c) ⟨(tb t).val * 2048 + ((t.val % 18 - 1) * 128 + j.val), by omega⟩ (tg t) (x 1)) (fun j => vrow (A m c) ⟨(tb t).val * 2048 + (t.val % 18 * 128 + j.val), by omega⟩ (tg t) (x 1))
      (fun j => vrow (A m c) ⟨(tb t).val * 2048 + (min (t.val % 18 + 1) 15 * 128 + j.val), by omega⟩ (tg t) (x 1)) (fun j => vrow (A m c) ⟨8192 + ((tb t).val * 256 + j.val), by omega⟩ (tg t) (x 1))
      ?_ ?_ (fun e => b5_at m c t e) (fun e => ?_) (fun e => ?_) (fun j e => ?_) (fun j e => ?_) (fun j e => ?_) (fun j e => ?_)
      (fun j => ?_) (fun j => ?_) (fun j => ?_) (fun j => ?_)).trans ?_
    · exact (ld_s _ _ _ _ ⟨(tg t).val * 4 + 2, by omega⟩ (off1 t 2)).trans (b9_at m c t _)
    · intro e
      refine (ld_q _ _ _ (x 0) e ⟨256 + e.val, by omega⟩ rfl rfl).trans ((b0_at m c t (x 0) _).trans ?_)
      refine congr (congrArg (A m c) (Fin.ext ?_)) (Fin.ext ?_)
      · simp only [qr, tb]; rw [if_pos (by omega)]; omega
      · simp only [tg]; omega
    · exact (ld_k .f32 _ _ _ (x 0) e ⟨t.val % 18 * 128 + (x 0).val, by omega⟩ (by rw [(off2 t hn).1]) (off2 t hn).2).trans (b7_at m c t _ e)
    · exact (ld_k .f32 _ _ _ (x 0) e ⟨t.val % 18 * 128 + (x 0).val, by omega⟩ (by rw [(off2 t hn).1]) (off2 t hn).2).trans (b8_at m c t _ e)
    · exact (ld_k .bf16 _ _ _ j e ⟨(t.val % 18 - 1) * 128 + j.val, by omega⟩ (by rw [(off3 t hn).1]) (off3 t hn).2).trans (f _ _)
    · exact (ld_k .bf16 _ _ _ j e ⟨t.val % 18 * 128 + j.val, by omega⟩ (by rw [(off2 t hn).1]) (off2 t hn).2).trans (f _ _)
    · exact (ld_k .bf16 _ _ _ j e ⟨min (t.val % 18 + 1) 15 * 128 + j.val, by omega⟩ (by rw [(off4 t hn).1]) (off4 t hn).2).trans (f _ _)
    · exact first1 m c t j e
    · refine (ld_k .bf16 _ _ _ j (x 1) ⟨(t.val % 18 - 1) * 128 + j.val, by omega⟩ (by rw [(off3 t hn).1]) (off3 t hn).2).trans ((b2_at m c t _ (x 1)).trans ?_)
      refine congr (congrArg (A m c) (Fin.ext ?_)) (Fin.ext ?_)
      · simp only [tb]
      · simp only [tg]; omega
    · refine (ld_k .bf16 _ _ _ j (x 1) ⟨t.val % 18 * 128 + j.val, by omega⟩ (by rw [(off2 t hn).1]) (off2 t hn).2).trans ((b2_at m c t _ (x 1)).trans ?_)
      refine congr (congrArg (A m c) (Fin.ext ?_)) (Fin.ext ?_)
      · simp only [tb]
      · simp only [tg]; omega
    · refine (ld_k .bf16 _ _ _ j (x 1) ⟨min (t.val % 18 + 1) 15 * 128 + j.val, by omega⟩ (by rw [(off4 t hn).1]) (off4 t hn).2).trans ((b2_at m c t _ (x 1)).trans ?_)
      refine congr (congrArg (A m c) (Fin.ext ?_)) (Fin.ext ?_)
      · simp only [tb]
      · simp only [tg]; omega
    · refine (b4_at m c t j (x 1)).trans ?_
      refine congr (congrArg (A m c) (Fin.ext ?_)) (Fin.ext ?_)
      · simp only [tb]
      · simp only [tg]; omega
    · refine Eq.trans ?_ ((attK_lat hX h1 h2 hs (tb t) ⟨t.val % 18, by omega⟩ (x 0) (tg t) ⟨(tg t).val * 4 + 2, by omega⟩ (x 1)
        ⟨t.val % 18 - 1, by omega⟩ ⟨min (t.val % 18 + 1) 15, by omega⟩ (by dsimp only; omega) (by dsimp only; omega)).trans ?_)
      · simp only [cn]
        rfl
      · congr 1 <;> exact Fin.ext (by dsimp only; omega)
  · have x0l : (x 0).val < 128 := x0_lt
    rw [eq_ix2 x]
    refine (lat1 (grid0.coords t 2) _ _ _ _ _ _ _ _ _ _ _ _ _ _ _ _ _ _ _ _ (x 0) (x 1) (SK m c ⟨(tg t).val * 4 + 1, by omega⟩)
      (fun e => A m c ⟨(tb t).val * 2048 + (t.val % 18 * 128 + (x 0).val), by omega⟩ ⟨3072 + (((tg t).val * 4 + 1) * 128 + e.val), by omega⟩)
      (W1 m c) (cosT ⟨t.val % 18 * 128 + (x 0).val, by omega⟩) (sinT ⟨t.val % 18 * 128 + (x 0).val, by omega⟩)
      (fun j => krot (A m c) (W2 m c) (tb t) ⟨(t.val % 18 - 1) * 128 + j.val, by omega⟩ (tg t)) (fun j => krot (A m c) (W2 m c) (tb t) ⟨t.val % 18 * 128 + j.val, by omega⟩ (tg t))
      (fun j => krot (A m c) (W2 m c) (tb t) ⟨min (t.val % 18 + 1) 15 * 128 + j.val, by omega⟩ (tg t)) (fun j => krow (A m c) (W2 m c) ⟨8192 + ((tb t).val * 256 + j.val), by omega⟩ (tg t))
      (fun j => vrow (A m c) ⟨(tb t).val * 2048 + ((t.val % 18 - 1) * 128 + j.val), by omega⟩ (tg t) (x 1)) (fun j => vrow (A m c) ⟨(tb t).val * 2048 + (t.val % 18 * 128 + j.val), by omega⟩ (tg t) (x 1))
      (fun j => vrow (A m c) ⟨(tb t).val * 2048 + (min (t.val % 18 + 1) 15 * 128 + j.val), by omega⟩ (tg t) (x 1)) (fun j => vrow (A m c) ⟨8192 + ((tb t).val * 256 + j.val), by omega⟩ (tg t) (x 1))
      ?_ ?_ (fun e => b5_at m c t e) (fun e => ?_) (fun e => ?_) (fun j e => ?_) (fun j e => ?_) (fun j e => ?_) (fun j e => ?_)
      (fun j => ?_) (fun j => ?_) (fun j => ?_) (fun j => ?_)).trans ?_
    · exact (ld_s _ _ _ _ ⟨(tg t).val * 4 + 1, by omega⟩ (off1 t 1)).trans (b9_at m c t _)
    · intro e
      refine (ld_q _ _ _ (x 0) e ⟨128 + e.val, by omega⟩ rfl rfl).trans ((b0_at m c t (x 0) _).trans ?_)
      refine congr (congrArg (A m c) (Fin.ext ?_)) (Fin.ext ?_)
      · simp only [qr, tb]; rw [if_pos (by omega)]; omega
      · simp only [tg]; omega
    · exact (ld_k .f32 _ _ _ (x 0) e ⟨t.val % 18 * 128 + (x 0).val, by omega⟩ (by rw [(off2 t hn).1]) (off2 t hn).2).trans (b7_at m c t _ e)
    · exact (ld_k .f32 _ _ _ (x 0) e ⟨t.val % 18 * 128 + (x 0).val, by omega⟩ (by rw [(off2 t hn).1]) (off2 t hn).2).trans (b8_at m c t _ e)
    · exact (ld_k .bf16 _ _ _ j e ⟨(t.val % 18 - 1) * 128 + j.val, by omega⟩ (by rw [(off3 t hn).1]) (off3 t hn).2).trans (f _ _)
    · exact (ld_k .bf16 _ _ _ j e ⟨t.val % 18 * 128 + j.val, by omega⟩ (by rw [(off2 t hn).1]) (off2 t hn).2).trans (f _ _)
    · exact (ld_k .bf16 _ _ _ j e ⟨min (t.val % 18 + 1) 15 * 128 + j.val, by omega⟩ (by rw [(off4 t hn).1]) (off4 t hn).2).trans (f _ _)
    · exact first1 m c t j e
    · refine (ld_k .bf16 _ _ _ j (x 1) ⟨(t.val % 18 - 1) * 128 + j.val, by omega⟩ (by rw [(off3 t hn).1]) (off3 t hn).2).trans ((b2_at m c t _ (x 1)).trans ?_)
      refine congr (congrArg (A m c) (Fin.ext ?_)) (Fin.ext ?_)
      · simp only [tb]
      · simp only [tg]; omega
    · refine (ld_k .bf16 _ _ _ j (x 1) ⟨t.val % 18 * 128 + j.val, by omega⟩ (by rw [(off2 t hn).1]) (off2 t hn).2).trans ((b2_at m c t _ (x 1)).trans ?_)
      refine congr (congrArg (A m c) (Fin.ext ?_)) (Fin.ext ?_)
      · simp only [tb]
      · simp only [tg]; omega
    · refine (ld_k .bf16 _ _ _ j (x 1) ⟨min (t.val % 18 + 1) 15 * 128 + j.val, by omega⟩ (by rw [(off4 t hn).1]) (off4 t hn).2).trans ((b2_at m c t _ (x 1)).trans ?_)
      refine congr (congrArg (A m c) (Fin.ext ?_)) (Fin.ext ?_)
      · simp only [tb]
      · simp only [tg]; omega
    · refine (b4_at m c t j (x 1)).trans ?_
      refine congr (congrArg (A m c) (Fin.ext ?_)) (Fin.ext ?_)
      · simp only [tb]
      · simp only [tg]; omega
    · refine Eq.trans ?_ ((attK_lat hX h1 h2 hs (tb t) ⟨t.val % 18, by omega⟩ (x 0) (tg t) ⟨(tg t).val * 4 + 1, by omega⟩ (x 1)
        ⟨t.val % 18 - 1, by omega⟩ ⟨min (t.val % 18 + 1) 15, by omega⟩ (by dsimp only; omega) (by dsimp only; omega)).trans ?_)
      · simp only [cn]
        rfl
      · congr 1 <;> exact Fin.ext (by dsimp only; omega)
  · have x0l : (x 0).val < 128 := x0_lt
    rw [eq_ix2 x]
    refine (lat0 (grid0.coords t 2) _ _ _ _ _ _ _ _ _ _ _ _ _ _ _ _ _ _ _ _ (x 0) (x 1) (SK m c ⟨(tg t).val * 4 + 0, by omega⟩)
      (fun e => A m c ⟨(tb t).val * 2048 + (t.val % 18 * 128 + (x 0).val), by omega⟩ ⟨3072 + (((tg t).val * 4 + 0) * 128 + e.val), by omega⟩)
      (W1 m c) (cosT ⟨t.val % 18 * 128 + (x 0).val, by omega⟩) (sinT ⟨t.val % 18 * 128 + (x 0).val, by omega⟩)
      (fun j => krot (A m c) (W2 m c) (tb t) ⟨(t.val % 18 - 1) * 128 + j.val, by omega⟩ (tg t)) (fun j => krot (A m c) (W2 m c) (tb t) ⟨t.val % 18 * 128 + j.val, by omega⟩ (tg t))
      (fun j => krot (A m c) (W2 m c) (tb t) ⟨min (t.val % 18 + 1) 15 * 128 + j.val, by omega⟩ (tg t)) (fun j => krow (A m c) (W2 m c) ⟨8192 + ((tb t).val * 256 + j.val), by omega⟩ (tg t))
      (fun j => vrow (A m c) ⟨(tb t).val * 2048 + ((t.val % 18 - 1) * 128 + j.val), by omega⟩ (tg t) (x 1)) (fun j => vrow (A m c) ⟨(tb t).val * 2048 + (t.val % 18 * 128 + j.val), by omega⟩ (tg t) (x 1))
      (fun j => vrow (A m c) ⟨(tb t).val * 2048 + (min (t.val % 18 + 1) 15 * 128 + j.val), by omega⟩ (tg t) (x 1)) (fun j => vrow (A m c) ⟨8192 + ((tb t).val * 256 + j.val), by omega⟩ (tg t) (x 1))
      ?_ ?_ (fun e => b5_at m c t e) (fun e => ?_) (fun e => ?_) (fun j e => ?_) (fun j e => ?_) (fun j e => ?_) (fun j e => ?_)
      (fun j => ?_) (fun j => ?_) (fun j => ?_) (fun j => ?_)).trans ?_
    · exact (ld_s _ _ _ _ ⟨(tg t).val * 4 + 0, by omega⟩ (off1 t 0)).trans (b9_at m c t _)
    · intro e
      refine (ld_q _ _ _ (x 0) e ⟨0 + e.val, by omega⟩ rfl rfl).trans ((b0_at m c t (x 0) _).trans ?_)
      refine congr (congrArg (A m c) (Fin.ext ?_)) (Fin.ext ?_)
      · simp only [qr, tb]; rw [if_pos (by omega)]; omega
      · simp only [tg]; omega
    · exact (ld_k .f32 _ _ _ (x 0) e ⟨t.val % 18 * 128 + (x 0).val, by omega⟩ (by rw [(off2 t hn).1]) (off2 t hn).2).trans (b7_at m c t _ e)
    · exact (ld_k .f32 _ _ _ (x 0) e ⟨t.val % 18 * 128 + (x 0).val, by omega⟩ (by rw [(off2 t hn).1]) (off2 t hn).2).trans (b8_at m c t _ e)
    · exact (ld_k .bf16 _ _ _ j e ⟨(t.val % 18 - 1) * 128 + j.val, by omega⟩ (by rw [(off3 t hn).1]) (off3 t hn).2).trans (f _ _)
    · exact (ld_k .bf16 _ _ _ j e ⟨t.val % 18 * 128 + j.val, by omega⟩ (by rw [(off2 t hn).1]) (off2 t hn).2).trans (f _ _)
    · exact (ld_k .bf16 _ _ _ j e ⟨min (t.val % 18 + 1) 15 * 128 + j.val, by omega⟩ (by rw [(off4 t hn).1]) (off4 t hn).2).trans (f _ _)
    · exact first1 m c t j e
    · refine (ld_k .bf16 _ _ _ j (x 1) ⟨(t.val % 18 - 1) * 128 + j.val, by omega⟩ (by rw [(off3 t hn).1]) (off3 t hn).2).trans ((b2_at m c t _ (x 1)).trans ?_)
      refine congr (congrArg (A m c) (Fin.ext ?_)) (Fin.ext ?_)
      · simp only [tb]
      · simp only [tg]; omega
    · refine (ld_k .bf16 _ _ _ j (x 1) ⟨t.val % 18 * 128 + j.val, by omega⟩ (by rw [(off2 t hn).1]) (off2 t hn).2).trans ((b2_at m c t _ (x 1)).trans ?_)
      refine congr (congrArg (A m c) (Fin.ext ?_)) (Fin.ext ?_)
      · simp only [tb]
      · simp only [tg]; omega
    · refine (ld_k .bf16 _ _ _ j (x 1) ⟨min (t.val % 18 + 1) 15 * 128 + j.val, by omega⟩ (by rw [(off4 t hn).1]) (off4 t hn).2).trans ((b2_at m c t _ (x 1)).trans ?_)
      refine congr (congrArg (A m c) (Fin.ext ?_)) (Fin.ext ?_)
      · simp only [tb]
      · simp only [tg]; omega
    · refine (b4_at m c t j (x 1)).trans ?_
      refine congr (congrArg (A m c) (Fin.ext ?_)) (Fin.ext ?_)
      · simp only [tb]
      · simp only [tg]; omega
    · refine Eq.trans ?_ ((attK_lat hX h1 h2 hs (tb t) ⟨t.val % 18, by omega⟩ (x 0) (tg t) ⟨(tg t).val * 4 + 0, by omega⟩ (x 1)
        ⟨t.val % 18 - 1, by omega⟩ ⟨min (t.val % 18 + 1) 15, by omega⟩ (by dsimp only; omega) (by dsimp only; omega)).trans ?_)
      · simp only [cn]
        rfl
      · congr 1 <;> exact Fin.ext (by dsimp only; omega)

end Cert.SwaIdeal.Whole

end
-- ==== Proof.SwaPointB.lean ====
/-
  A later latent point of the windowed attention kernel stores the specification's rows.
-/
module

public import proofs.«01_k».proof.Proof.SwaPoints
public import proofs.«01_k».proof.Proof.SwaPointC

@[expose] public section

set_option maxRecDepth 16384

noncomputable section

namespace Cert.SwaIdeal.Whole

open Cert.SwaIdeal Cert.SwaIdeal.Gen Cert.SwaMath Idealize.ShloMosaic Idealize.ShloMosaic.TcCoe Idealize.SL.Sem
open Idealize.ShloMosaic.Pipeline (Dat)

variable (m : (ℓ : Loc nD τ sig) → Buf (Elt Ideal) ℓ)

variable {m} {c : Dev nD} (hX : ∀ r e, IsReal (A m c r e)) (h1 : ∀ e, IsReal (W1 m c e)) (h2 : ∀ e, IsReal (W2 m c e))
  (hs : ∀ h, IsReal (SK m c h))

include hX h1 h2 hs in
theorem point_B (t : Fin cfg0.N) (h0 : ¬t.val % 18 = 0) (hl : t.val % 18 ≤ 15) (y : S128x512.Idx) :
    ((outsAt0 m c t.val t.isLt).1 : FVec Ideal S128x512 .bf16) y
      = outLat (A m c) (W1 m c) (W2 m c) (SK m c) (tb t) ⟨t.val % 18, by omega⟩ ⟨(y 0).val, row_lt y⟩ (tg t)
          ⟨(tg t).val * 4 + (y 1).val / 128, by have := col_lt y; omega⟩ ⟨(y 1).val % 128, by omega⟩ := by
  have hN := lt_N t
  obtain ⟨sc0, sc1⟩ := back (m := m) (c := c) t h0
  have hn : t.val % 18 < 16 := by omega
  have cn := coord2 t
  rw [outsAt0_B m c t h0 hl (by omega)]; frame_out; canon_tiles x hx
  · have x0l : (x 0).val < 128 := x0_lt
    rw [eq_ix2 x]
    refine (lat3 (grid0.coords t 2) _ _ _ _ _ _ _ _ _ _ _ _ _ _ _ _ _ _ _ _ (x 0) (x 1) (SK m c ⟨(tg t).val * 4 + 3, by omega⟩)
      (fun e => A m c ⟨(tb t).val * 2048 + (t.val % 18 * 128 + (x 0).val), by omega⟩ ⟨3072 + (((tg t).val * 4 + 3) * 128 + e.val), by omega⟩)
      (W1 m c) (cosT ⟨t.val % 18 * 128 + (x 0).val, by omega⟩) (sinT ⟨t.val % 18 * 128 + (x 0).val, by omega⟩)
      (fun j => krot (A m c) (W2 m c) (tb t) ⟨(t.val % 18 - 1) * 128 + j.val, by omega⟩ (tg t)) (fun j => krot (A m c) (W2 m c) (tb t) ⟨t.val % 18 * 128 + j.val, by omega⟩ (tg t))
      (fun j => krot (A m c) (W2 m c) (tb t) ⟨min (t.val % 18 + 1) 15 * 128 + j.val, by omega⟩ (tg t)) (fun j => krow (A m c) (W2 m c) ⟨8192 + ((tb t).val * 256 + j.val), by omega⟩ (tg t))
      (fun j => vrow (A m c) ⟨(tb t).val * 2048 + ((t.val % 18 - 1) * 128 + j.val), by omega⟩ (tg t) (x 1)) (fun j => vrow (A m c) ⟨(tb t).val * 2048 + (t.val % 18 * 128 + j.val), by omega⟩ (tg t) (x 1))
      (fun j => vrow (A m c) ⟨(tb t).val * 2048 + (min (t.val % 18 + 1) 15 * 128 + j.val), by omega⟩ (tg t) (x 1)) (fun j => vrow (A m c) ⟨8192 + ((tb t).val * 256 + j.val), by omega⟩ (tg t) (x 1))
      ?_ ?_ (fun e => b5_at m c t e) (fun e => ?_) (fun e => ?_) (fun j e => ?_) (fun j e => ?_) (fun j e => ?_) (fun j e => ?_)
      (fun j => ?_) (fun j => ?_) (fun j => ?_) (fun j => ?_)).trans ?_
    · exact (ld_s _ _ _ _ ⟨(tg t).val * 4 + 3, by omega⟩ (off1 t 3)).trans (b9_at m c t _)
    · intro e
      refine (ld_q _ _ _ (x 0) e ⟨384 + e.val, by omega⟩ rfl rfl).trans ((b0_at m c t (x 0) _).trans ?_)
      refine congr (congrArg (A m c) (Fin.ext ?_)) (Fin.ext ?_)
      · simp only [qr, tb]; rw [if_pos (by omega)]; omega
      · simp only [tg]; omega
    · exact (ld_k .f32 _ _ _ (x 0) e ⟨t.val % 18 * 128 + (x 0).val, by omega⟩ (by rw [(off2 t hn).1]) (off2 t hn).2).trans (b7_at m c t _ e)
    · exact (ld_k .f32 _ _ _ (x 0) e ⟨t.val % 18 * 128 + (x 0).val, by omega⟩ (by rw [(off2 t hn).1]) (off2 t hn).2).trans (b8_at m c t _ e)
    · exact (ld_k .bf16 _ _ _ j e ⟨(t.val % 18 - 1) * 128 + j.val, by omega⟩ (by rw [(off3 t hn).1]) (off3 t hn).2).trans ((congrFun ((Memref.isWhole_whole _).read_unread _) _).trans (sc0 _ _))
    · exact (ld_k .bf16 _ _ _ j e ⟨t.val % 18 * 128 + j.val, by omega⟩ (by rw [(off2 t hn).1]) (off2 t hn).2).trans ((congrFun ((Memref.isWhole_whole _).read_unread _) _).trans (sc0 _ _))
    · exact (ld_k .bf16 _ _ _ j e ⟨min (t.val % 18 + 1) 15 * 128 + j.val, by omega⟩ (by rw [(off4 t hn).1]) (off4 t hn).2).trans ((congrFun ((Memref.isWhole_whole _).read_unread _) _).trans (sc0 _ _))
    · exact (congrFun ((Memref.isWhole_whole _).read_unread _) _).trans (sc1 j e)
    · refine (ld_k .bf16 _ _ _ j (x 1) ⟨(t.val % 18 - 1) * 128 + j.val, by omega⟩ (by rw [(off3 t hn).1]) (off3 t hn).2).trans ((b2_at m c t _ (x 1)).trans ?_)
      refine congr (congrArg (A m c) (Fin.ext ?_)) (Fin.ext ?_)
      · simp only [tb]
      · simp only [tg]; omega
    · refine (ld_k .bf16 _ _ _ j (x 1) ⟨t.val % 18 * 128 + j.val, by omega⟩ (by rw [(off2 t hn).1]) (off2 t hn).2).trans ((b2_at m c t _ (x 1)).trans ?_)
      refine congr (congrArg (A m c) (Fin.ext ?_)) (Fin.ext ?_)
      · simp only [tb]
      · simp only [tg]; omega
    · refine (ld_k .bf16 _ _ _ j (x 1) ⟨min (t.val % 18 + 1) 15 * 128 + j.val, by omega⟩ (by rw [(off4 t hn).1]) (off4 t hn).2).trans ((b2_at m c t _ (x 1)).trans ?_)
      refine congr (congrArg (A m c) (Fin.ext ?_)) (Fin.ext ?_)
      · simp only [tb]
      · simp only [tg]; omega
    · refine (b4_at m c t j (x 1)).trans ?_
      refine congr (congrArg (A m c) (Fin.ext ?_)) (Fin.ext ?_)
      · simp only [tb]
      · simp only [tg]; omega
    · refine Eq.trans ?_ ((attK_lat hX h1 h2 hs (tb t) ⟨t.val % 18, by omega⟩ (x 0) (tg t) ⟨(tg t).val * 4 + 3, by omega⟩ (x 1)
        ⟨t.val % 18 - 1, by omega⟩ ⟨min (t.val % 18 + 1) 15, by omega⟩ (by dsimp only; omega) (by dsimp only; omega)).trans ?_)
      · simp only [cn]
        rfl
      · congr 1 <;> exact Fin.ext (by dsimp only; omega)
  · have x0l : (x 0).val < 128 := x0_lt
    rw [eq_ix2 x]
    refine (lat2 (grid0.coords t 2) _ _ _ _ _ _ _ _ _ _ _ _ _ _ _ _ _ _ _ _ (x 0) (x 1) (SK m c ⟨(tg t).val * 4 + 2, by omega⟩)
      (fun e => A m c ⟨(tb t).val * 2048 + (t.val % 18 * 128 + (x 0).val), by omega⟩ ⟨3072 + (((tg t).val * 4 + 2) * 128 + e.val), by omega⟩)
      (W1 m c) (cosT ⟨t.val % 18 * 128 + (x 0).val, by omega⟩) (sinT ⟨t.val % 18 * 128 + (x 0).val, by omega⟩)
      (fun j => krot (A m c) (W2 m c) (tb t) ⟨(t.val % 18 - 1) * 128 + j.val, by omega⟩ (tg t)) (fun j => krot (A m c) (W2 m c) (tb t) ⟨t.val % 18 * 128 + j.val, by omega⟩ (tg t))
      (fun j => krot (A m c) (W2 m c) (tb t) ⟨min (t.val % 18 + 1) 15 * 128 + j.val, by omega⟩ (tg t)) (fun j => krow (A m c) (W2 m c) ⟨8192 + ((tb t).val * 256 + j.val), by omega⟩ (tg t))
      (fun j => vrow (A m c) ⟨(tb t).val * 2048 + ((t.val % 18 - 1) * 128 + j.val), by omega⟩ (tg t) (x 1)) (fun j => vrow (A m c) ⟨(tb t).val * 2048 + (t.val % 18 * 128 + j.val), by omega⟩ (tg t) (x 1))
      (fun j => vrow (A m c) ⟨(tb t).val * 2048 + (min (t.val % 18 + 1) 15 * 128 + j.val), by omega⟩ (tg t) (x 1)) (fun j => vrow (A m c) ⟨8192 + ((tb t).val * 256 + j.val), by omega⟩ (tg t) (x 1))
      ?_ ?_ (fun e => b5_at m c t e) (fun e => ?_) (fun e => ?_) (fun j e => ?_) (fun j e => ?_) (fun j e => ?_) (fun j e => ?_)
      (fun j => ?_) (fun j => ?_) (fun j => ?_) (fun j => ?_)).trans ?_
    · exact (ld_s _ _ _ _ ⟨(tg t).val * 4 + 2, by omega⟩ (off1 t 2)).trans (b9_at m c t _)
    · intro e
      refine (ld_q _ _ _ (x 0) e ⟨256 + e.val, by omega⟩ rfl rfl).trans ((b0_at m c t (x 0) _).trans ?_)
      refine congr (congrArg (A m c) (Fin.ext ?_)) (Fin.ext ?_)
      · simp only [qr, tb]; rw [if_pos (by omega)]; omega
      · simp only [tg]; omega
    · exact (ld_k .f32 _ _ _ (x 0) e ⟨t.val % 18 * 128 + (x 0).val, by omega⟩ (by rw [(off2 t hn).1]) (off2 t hn).2).trans (b7_at m c t _ e)
    · exact (ld_k .f32 _ _ _ (x 0) e ⟨t.val % 18 * 128 + (x 0).val, by omega⟩ (by rw [(off2 t hn).1]) (off2 t hn).2).trans (b8_at m c t _ e)
    · exact (ld_k .bf16 _ _ _ j e ⟨(t.val % 18 - 1) * 128 + j.val, by omega⟩ (by rw [(off3 t hn).1]) (off3 t hn).2).trans ((congrFun ((Memref.isWhole_whole _).read_unread _) _).trans (sc0 _ _))
    · exact (ld_k .bf16 _ _ _ j e ⟨t.val % 18 * 128 + j.val, by omega⟩ (by rw [(off2 t hn).1]) (off2 t hn).2).trans ((congrFun ((Memref.isWhole_whole _).read_unread _) _).trans (sc0 _ _))
    · exact (ld_k .bf16 _ _ _ j e ⟨min (t.val % 18 + 1) 15 * 128 + j.val, by omega⟩ (by rw [(off4 t hn).1]) (off4 t hn).2).trans ((congrFun ((Memref.isWhole_whole _).read_unread _) _).trans (sc0 _ _))
    · exact (congrFun ((Memref.isWhole_whole _).read_unread _) _).trans (sc1 j e)
    · refine (ld_k .bf16 _ _ _ j (x 1) ⟨(t.val % 18 - 1) * 128 + j.val, by omega⟩ (by rw [(off3 t hn).1]) (off3 t hn).2).trans ((b2_at m c t _ (x 1)).trans ?_)
      refine congr (congrArg (A m c) (Fin.ext ?_)) (Fin.ext ?_)
      · simp only [tb]
      · simp only [tg]; omega
    · refine (ld_k .bf16 _ _ _ j (x 1) ⟨t.val % 18 * 128 + j.val, by omega⟩ (by rw [(off2 t hn).1]) (off2 t hn).2).trans ((b2_at m c t _ (x 1)).trans ?_)
      refine congr (congrArg (A m c) (Fin.ext ?_)) (Fin.ext ?_)
      · simp only [tb]
      · simp only [tg]; omega
    · refine (ld_k .bf16 _ _ _ j (x 1) ⟨min (t.val % 18 + 1) 15 * 128 + j.val, by omega⟩ (by rw [(off4 t hn).1]) (off4 t hn).2).trans ((b2_at m c t _ (x 1)).trans ?_)
      refine congr (congrArg (A m c) (Fin.ext ?_)) (Fin.ext ?_)
      · simp only [tb]
      · simp only [tg]; omega
    · refine (b4_at m c t j (x 1)).trans ?_
      refine congr (congrArg (A m c) (Fin.ext ?_)) (Fin.ext ?_)
      · simp only [tb]
      · simp only [tg]; omega
    · refine Eq.trans ?_ ((attK_lat hX h1 h2 hs (tb t) ⟨t.val % 18, by omega⟩ (x 0) (tg t) ⟨(tg t).val * 4 + 2, by omega⟩ (x 1)
        ⟨t.val % 18 - 1, by omega⟩ ⟨min (t.val % 18 + 1) 15, by omega⟩ (by dsimp only; omega) (by dsimp only; omega)).trans ?_)
      · simp only [cn]
        rfl
      · congr 1 <;> exact Fin.ext (by dsimp only; omega)
  · have x0l : (x 0).val < 128 := x0_lt
    rw [eq_ix2 x]
    refine (lat1 (grid0.coords t 2) _ _ _ _ _ _ _ _ _ _ _ _ _ _ _ _ _ _ _ _ (x 0) (x 1) (SK m c ⟨(tg t).val * 4 + 1, by omega⟩)
      (fun e => A m c ⟨(tb t).val * 2048 + (t.val % 18 * 128 + (x 0).val), by omega⟩ ⟨3072 + (((tg t).val * 4 + 1) * 128 + e.val), by omega⟩)
      (W1 m c) (cosT ⟨t.val % 18 * 128 + (x 0).val, by omega⟩) (sinT ⟨t.val % 18 * 128 + (x 0).val, by omega⟩)
      (fun j => krot (A m c) (W2 m c) (tb t) ⟨(t.val % 18 - 1) * 128 + j.val, by omega⟩ (tg t)) (fun j => krot (A m c) (W2 m c) (tb t) ⟨t.val % 18 * 128 + j.val, by omega⟩ (tg t))
      (fun j => krot (A m c) (W2 m c) (tb t) ⟨min (t.val % 18 + 1) 15 * 128 + j.val, by omega⟩ (tg t)) (fun j => krow (A m c) (W2 m c) ⟨8192 + ((tb t).val * 256 + j.val), by omega⟩ (tg t))
      (fun j => vrow (A m c) ⟨(tb t).val * 2048 + ((t.val % 18 - 1) * 128 + j.val), by omega⟩ (tg t) (x 1)) (fun j => vrow (A m c) ⟨(tb t).val * 2048 + (t.val % 18 * 128 + j.val), by omega⟩ (tg t) (x 1))
      (fun j => vrow (A m c) ⟨(tb t).val * 2048 + (min (t.val % 18 + 1) 15 * 128 + j.val), by omega⟩ (tg t) (x 1)) (fun j => vrow (A m c) ⟨8192 + ((tb t).val * 256 + j.val), by omega⟩ (tg t) (x 1))
      ?_ ?_ (fun e => b5_at m c t e) (fun e => ?_) (fun e => ?_) (fun j e => ?_) (fun j e => ?_) (fun j e => ?_) (fun j e => ?_)
      (fun j => ?_) (fun j => ?_) (fun j => ?_) (fun j => ?_)).trans ?_
    · exact (ld_s _ _ _ _ ⟨(tg t).val * 4 + 1, by omega⟩ (off1 t 1)).trans (b9_at m c t _)
    · intro e
      refine (ld_q _ _ _ (x 0) e ⟨128 + e.val, by omega⟩ rfl rfl).trans ((b0_at m c t (x 0) _).trans ?_)
      refine congr (congrArg (A m c) (Fin.ext ?_)) (Fin.ext ?_)
      · simp only [qr, tb]; rw [if_pos (by omega)]; omega
      · simp only [tg]; omega
    · exact (ld_k .f32 _ _ _ (x 0) e ⟨t.val % 18 * 128 + (x 0).val, by omega⟩ (by rw [(off2 t hn).1]) (off2 t hn).2).trans (b7_at m c t _ e)
    · exact (ld_k .f32 _ _ _ (x 0) e ⟨t.val % 18 * 128 + (x 0).val, by omega⟩ (by rw [(off2 t hn).1]) (off2 t hn).2).trans (b8_at m c t _ e)
    · exact (ld_k .bf16 _ _ _ j e ⟨(t.val % 18 - 1) * 128 + j.val, by omega⟩ (by rw [(off3 t hn).1]) (off3 t hn).2).trans ((congrFun ((Memref.isWhole_whole _).read_unread _) _).trans (sc0 _ _))
    · exact (ld_k .bf16 _ _ _ j e ⟨t.val % 18 * 128 + j.val, by omega⟩ (by rw [(off2 t hn).1]) (off2 t hn).2).trans ((congrFun ((Memref.isWhole_whole _).read_unread _) _).trans (sc0 _ _))
    · exact (ld_k .bf16 _ _ _ j e ⟨min (t.val % 18 + 1) 15 * 128 + j.val, by omega⟩ (by rw [(off4 t hn).1]) (off4 t hn).2).trans ((congrFun ((Memref.isWhole_whole _).read_unread _) _).trans (sc0 _ _))
    · exact (congrFun ((Memref.isWhole_whole _).read_unread _) _).trans (sc1 j e)
    · refine (ld_k .bf16 _ _ _ j (x 1) ⟨(t.val % 18 - 1) * 128 + j.val, by omega⟩ (by rw [(off3 t hn).1]) (off3 t hn).2).trans ((b2_at m c t _ (x 1)).trans ?_)
      refine congr (congrArg (A m c) (Fin.ext ?_)) (Fin.ext ?_)
      · simp only [tb]
      · simp only [tg]; omega
    · refine (ld_k .bf16 _ _ _ j (x 1) ⟨t.val % 18 * 128 + j.val, by omega⟩ (by rw [(off2 t hn).1]) (off2 t hn).2).trans ((b2_at m c t _ (x 1)).trans ?_)
      refine congr (congrArg (A m c) (Fin.ext ?_)) (Fin.ext ?_)
      · simp only [tb]
      · simp only [tg]; omega
    · refine (ld_k .bf16 _ _ _ j (x 1) ⟨min (t.val % 18 + 1) 15 * 128 + j.val, by omega⟩ (by rw [(off4 t hn).1]) (off4 t hn).2).trans ((b2_at m c t _ (x 1)).trans ?_)
      refine congr (congrArg (A m c) (Fin.ext ?_)) (Fin.ext ?_)
      · simp only [tb]
      · simp only [tg]; omega
    · refine (b4_at m c t j (x 1)).trans ?_
      refine congr (congrArg (A m c) (Fin.ext ?_)) (Fin.ext ?_)
      · simp only [tb]
      · simp only [tg]; omega
    · refine Eq.trans ?_ ((attK_lat hX h1 h2 hs (tb t) ⟨t.val % 18, by omega⟩ (x 0) (tg t) ⟨(tg t).val * 4 + 1, by omega⟩ (x 1)
        ⟨t.val % 18 - 1, by omega⟩ ⟨min (t.val % 18 + 1) 15, by omega⟩ (by dsimp only; omega) (by dsimp only; omega)).trans ?_)
      · simp only [cn]
        rfl
      · congr 1 <;> exact Fin.ext (by dsimp only; omega)
  · have x0l : (x 0).val < 128 := x0_lt
    rw [eq_ix2 x]
    refine (lat0 (grid0.coords t 2) _ _ _ _ _ _ _ _ _ _ _ _ _ _ _ _ _ _ _ _ (x 0) (x 1) (SK m c ⟨(tg t).val * 4 + 0, by omega⟩)
      (fun e => A m c ⟨(tb t).val * 2048 + (t.val % 18 * 128 + (x 0).val), by omega⟩ ⟨3072 + (((tg t).val * 4 + 0) * 128 + e.val), by omega⟩)
      (W1 m c) (cosT ⟨t.val % 18 * 128 + (x 0).val, by omega⟩) (sinT ⟨t.val % 18 * 128 + (x 0).val, by omega⟩)
      (fun j => krot (A m c) (W2 m c) (tb t) ⟨(t.val % 18 - 1) * 128 + j.val, by omega⟩ (tg t)) (fun j => krot (A m c) (W2 m c) (tb t) ⟨t.val % 18 * 128 + j.val, by omega⟩ (tg t))
      (fun j => krot (A m c) (W2 m c) (tb t) ⟨min (t.val % 18 + 1) 15 * 128 + j.val, by omega⟩ (tg t)) (fun j => krow (A m c) (W2 m c) ⟨8192 + ((tb t).val * 256 + j.val), by omega⟩ (tg t))
      (fun j => vrow (A m c) ⟨(tb t).val * 2048 + ((t.val % 18 - 1) * 128 + j.val), by omega⟩ (tg t) (x 1)) (fun j => vrow (A m c) ⟨(tb t).val * 2048 + (t.val % 18 * 128 + j.val), by omega⟩ (tg t) (x 1))
      (fun j => vrow (A m c) ⟨(tb t).val * 2048 + (min (t.val % 18 + 1) 15 * 128 + j.val), by omega⟩ (tg t) (x 1)) (fun j => vrow (A m c) ⟨8192 + ((tb t).val * 256 + j.val), by omega⟩ (tg t) (x 1))
      ?_ ?_ (fun e => b5_at m c t e) (fun e => ?_) (fun e => ?_) (fun j e => ?_) (fun j e => ?_) (fun j e => ?_) (fun j e => ?_)
      (fun j => ?_) (fun j => ?_) (fun j => ?_) (fun j => ?_)).trans ?_
    · exact (ld_s _ _ _ _ ⟨(tg t).val * 4 + 0, by omega⟩ (off1 t 0)).trans (b9_at m c t _)
    · intro e
      refine (ld_q _ _ _ (x 0) e ⟨0 + e.val, by omega⟩ rfl rfl).trans ((b0_at m c t (x 0) _).trans ?_)
      refine congr (congrArg (A m c) (Fin.ext ?_)) (Fin.ext ?_)
      · simp only [qr, tb]; rw [if_pos (by omega)]; omega
      · simp only [tg]; omega
    · exact (ld_k .f32 _ _ _ (x 0) e ⟨t.val % 18 * 128 + (x 0).val, by omega⟩ (by rw [(off2 t hn).1]) (off2 t hn).2).trans (b7_at m c t _ e)
    · exact (ld_k .f32 _ _ _ (x 0) e ⟨t.val % 18 * 128 + (x 0).val, by omega⟩ (by rw [(off2 t hn).1]) (off2 t hn).2).trans (b8_at m c t _ e)
    · exact (ld_k .bf16 _ _ _ j e ⟨(t.val % 18 - 1) * 128 + j.val, by omega⟩ (by rw [(off3 t hn).1]) (off3 t hn).2).trans ((congrFun ((Memref.isWhole_whole _).read_unread _) _).trans (sc0 _ _))
    · exact (ld_k .bf16 _ _ _ j e ⟨t.val % 18 * 128 + j.val, by omega⟩ (by rw [(off2 t hn).1]) (off2 t hn).2).trans ((congrFun ((Memref.isWhole_whole _).read_unread _) _).trans (sc0 _ _))
    · exact (ld_k .bf16 _ _ _ j e ⟨min (t.val % 18 + 1) 15 * 128 + j.val, by omega⟩ (by rw [(off4 t hn).1]) (off4 t hn).2).trans ((congrFun ((Memref.isWhole_whole _).read_unread _) _).trans (sc0 _ _))
    · exact (congrFun ((Memref.isWhole_whole _).read_unread _) _).trans (sc1 j e)
    · refine (ld_k .bf16 _ _ _ j (x 1) ⟨(t.val % 18 - 1) * 128 + j.val, by omega⟩ (by rw [(off3 t hn).1]) (off3 t hn).2).trans ((b2_at m c t _ (x 1)).trans ?_)
      refine congr (congrArg (A m c) (Fin.ext ?_)) (Fin.ext ?_)
      · simp only [tb]
      · simp only [tg]; omega
    · refine (ld_k .bf16 _ _ _ j (x 1) ⟨t.val % 18 * 128 + j.val, by omega⟩ (by rw [(off2 t hn).1]) (off2 t hn).2).trans ((b2_at m c t _ (x 1)).trans ?_)
      refine congr (congrArg (A m c) (Fin.ext ?_)) (Fin.ext ?_)
      · simp only [tb]
      · simp only [tg]; omega
    · refine (ld_k .bf16 _ _ _ j (x 1) ⟨min (t.val % 18 + 1) 15 * 128 + j.val, by omega⟩ (by rw [(off4 t hn).1]) (off4 t hn).2).trans ((b2_at m c t _ (x 1)).trans ?_)
      refine congr (congrArg (A m c) (Fin.ext ?_)) (Fin.ext ?_)
      · simp only [tb]
      · simp only [tg]; omega
    · refine (b4_at m c t j (x 1)).trans ?_
      refine congr (congrArg (A m c) (Fin.ext ?_)) (Fin.ext ?_)
      · simp only [tb]
      · simp only [tg]; omega
    · refine Eq.trans ?_ ((attK_lat hX h1 h2 hs (tb t) ⟨t.val % 18, by omega⟩ (x 0) (tg t) ⟨(tg t).val * 4 + 0, by omega⟩ (x 1)
        ⟨t.val % 18 - 1, by omega⟩ ⟨min (t.val % 18 + 1) 15, by omega⟩ (by dsimp only; omega) (by dsimp only; omega)).trans ?_)
      · simp only [cn]
        rfl
      · congr 1 <;> exact Fin.ext (by dsimp only; omega)

end Cert.SwaIdeal.Whole

end
-- ==== Proof.SwaRefRows.lean ====
/-
  The reference of the windowed attention read at an index: its normed heads, its table of angles, its rotated heads.
-/
module

public import proofs.«01_k».proof.Proof.Gen.SwaRefIdeal.Read
public import proofs.«01_k».proof.Proof.SwaSpec
public import Idealize.ShloMosaic.Lib.Pointwise

@[expose] public section

set_option maxRecDepth 16384

noncomputable section

namespace Cert.SwaRefIdeal.Whole
open Cert.SwaRefIdeal Cert.SwaRefIdeal.Read Cert.SwaMath Idealize.ShloMosaic Idealize.ShloMosaic.TcCoe

variable (x0 : FVec Ideal S9216x20480 .bf16) (x1 x2 : FVec Ideal S128 .f32) (x3 : FVec Ideal S8 .f32)

/-- The arguments as functions of their coordinates. -/
abbrev X (x0 : FVec Ideal S9216x20480 .bf16) (r : Fin 9216) (c : Fin 20480) : EReal := x0 (ix2 r c)
abbrev W (x1 : FVec Ideal S128 .f32) (e : Fin 128) : EReal := x1 (ix1 e)
abbrev K (x3 : FVec Ideal S8 .f32) (h : Fin 8) : EReal := x3 (ix1 h)

theorem v15_at (r : Fin 9216) (h : Fin 8) (d : Fin 128) :
    val_main_v15 (F := Ideal) x0 x1 (ix3 r h d) = qrow (X x0) (W x1) r h d := by
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, rmsn, qrow, X, W]

theorem v30_at (r : Fin 9216) (h : Fin 2) (d : Fin 128) :
    val_main_v30 (F := Ideal) x0 x2 (ix3 r h d) = krow (X x0) (W x2) r h d := by
  pointwise [val_main_v30, val_main_v29, val_main_v28, val_main_v27, val_main_v26, val_main_v25, val_main_v24, val_main_v23,
    val_main_v22, val_main_v21, val_main_v20, val_main_v19, val_main_v18, val_main_v17, val_main_v16, val_main_v0, val_main_cst_2,
    val_main_cst_3, val_main_cst_4, rmsn, krow, X, W]

theorem v49_at (e : Fin 32) : val_main_v49 (F := Ideal) (ix1 e) = SwaMath.inv e := by
  pointwise [val_main_v49, val_main_v48, val_main_v47, val_main_v46, val_main_v45, val_main_v44, val_main_cst_5, val_main_cst_6]
  unfold SwaMath.inv
  rfl

theorem v42_at (t : Fin 2048) : val_main_v42 (F := Ideal) (ix1 t) = BitVec.ofNat 32 (t.val % 64) := by
  have h39 (i : S2048.Idx) : val_main_v39 (F := Ideal) i = 64#32 := rfl
  have h38 (i : S2048.Idx) : val_main_v38 (F := Ideal) i = BitVec.ofNat 32 (i 0).val := rfl
  simp only [val_main_v42_apply, val_main_call1_v14_apply, val_main_call1_v13_apply, val_main_call1_v12_apply, val_main_call1_v11_apply,
    val_main_call1_v10_apply, val_main_call1_v9_apply, val_main_call1_v8_apply, val_main_call1_v7_apply, val_main_call1_v6_apply, val_main_call1_v5_apply,
    val_main_call1_v4_apply, val_main_call1_v3_apply, val_main_call1_v2_apply, val_main_call1_v1_apply, val_main_call1_v0_apply, val_main_call1_c_apply,
    val_main_call1_c_0_apply, val_main_call1_c_1_apply, val_main_call1_c_2_apply, val_main_call1_c_3_apply, h39, h38]
  revert t; decide +kernel

theorem v40_at (t : Fin 2048) : val_main_v40 (F := Ideal) (ix1 t) = BitVec.ofNat 32 (t.val / 64) := by
  have h39 (i : S2048.Idx) : val_main_v39 (F := Ideal) i = 64#32 := rfl
  have h38 (i : S2048.Idx) : val_main_v38 (F := Ideal) i = BitVec.ofNat 32 (i 0).val := rfl
  have e2 (i : S2048.Idx) : val_main_call0_v2 (F := Ideal) i = (if val_main_v38 (F := Ideal) i = 0 then 0 else if (val_main_v38 (F := Ideal) i).msb then -1 else 1) := rfl
  have e3 (i : S2048.Idx) : val_main_call0_v3 (F := Ideal) i = (if val_main_call0_v0 (F := Ideal) i = 0 then 0 else if (val_main_call0_v0 (F := Ideal) i).msb then -1 else 1) := rfl
  simp only [val_main_v40_apply, val_main_call0_v10_apply, val_main_call0_v9_apply, val_main_call0_v8_apply, val_main_call0_v7_apply,
    val_main_call0_v6_apply, val_main_call0_v5_apply, val_main_call0_v4_apply, val_main_call0_v1_apply, val_main_call0_v0_apply,
    val_main_call0_c_apply, val_main_call0_c_0_apply, e2, e3, h39, h38]
  revert t; decide +kernel

theorem v55_at (t : Fin 2048) (k : Fin 32) (e : Fin 128) (h : e.val < 64) (hk : e.val % 32 = k.val) :
    val_main_v55 (F := Ideal) (ix2 t k) = ang t e := by
  have a : val_main_v55 (F := Ideal) (ix2 t k) = val_main_v41 (F := Ideal) (ix1 t) * val_main_v49 (F := Ideal) (ix1 k) := by
    pointwise [val_main_v55, val_main_v54, val_main_v53, val_main_v52, val_main_v51]
  rw [a, v49_at, val_main_v41_apply, v40_at]
  unfold ang
  rw [if_pos h]
  exact congrArg (_ * SwaMath.inv ·) (Fin.ext hk.symm)

theorem v78_at (t : Fin 2048) (k : Fin 32) (e : Fin 128) (h : ¬e.val < 64) (hk : e.val % 32 = k.val) :
    val_main_v78 (F := Ideal) (ix2 t k) = ang t e := by
  have a : val_main_v78 (F := Ideal) (ix2 t k) = val_main_v43 (F := Ideal) (ix1 t) * val_main_v49 (F := Ideal) (ix1 k) := by
    pointwise [val_main_v78, val_main_v77, val_main_v76, val_main_v75, val_main_v74]
  rw [a, v49_at, val_main_v43_apply, v42_at]
  unfold ang
  rw [if_neg h]
  exact congrArg (_ * SwaMath.inv ·) (Fin.ext hk.symm)

theorem v96_raw (b : Fin 4) (t : Fin 2048) (h : Fin 10) (d : Fin 128) : val_main_v96 (F := Ideal) x0 x1 x2 (ix4 b t h d)
    = if h1 : d.val < 64 then
        if h2 : d.val < 32 then
          val_main_v37 (F := Ideal) x0 x1 x2 (ix4 b t h d) * Ideal.cos (val_main_v55 (F := Ideal) (ix2 t ⟨d.val, h2⟩)) -
            val_main_v37 (F := Ideal) x0 x1 x2 (ix4 b t h ⟨32 + d.val, by omega⟩) * Ideal.sin (val_main_v55 (F := Ideal) (ix2 t ⟨d.val, h2⟩))
        else
          val_main_v37 (F := Ideal) x0 x1 x2 (ix4 b t h ⟨d.val - 32, by omega⟩) * Ideal.sin (val_main_v55 (F := Ideal) (ix2 t ⟨d.val - 32, by omega⟩)) +
            val_main_v37 (F := Ideal) x0 x1 x2 (ix4 b t h ⟨32 + (d.val - 32), by omega⟩) * Ideal.cos (val_main_v55 (F := Ideal) (ix2 t ⟨d.val - 32, by omega⟩))
      else
        if h2 : d.val - 64 < 32 then
          val_main_v37 (F := Ideal) x0 x1 x2 (ix4 b t h ⟨64 + (d.val - 64), by omega⟩) * Ideal.cos (val_main_v78 (F := Ideal) (ix2 t ⟨d.val - 64, h2⟩)) -
            val_main_v37 (F := Ideal) x0 x1 x2 (ix4 b t h ⟨64 + (32 + (d.val - 64)), by omega⟩) * Ideal.sin (val_main_v78 (F := Ideal) (ix2 t ⟨d.val - 64, h2⟩))
        else
          val_main_v37 (F := Ideal) x0 x1 x2 (ix4 b t h ⟨64 + (d.val - 64 - 32), by omega⟩) *
              Ideal.sin (val_main_v78 (F := Ideal) (ix2 t ⟨d.val - 64 - 32, by omega⟩)) +
            val_main_v37 (F := Ideal) x0 x1 x2 (ix4 b t h ⟨64 + (32 + (d.val - 64 - 32)), by omega⟩) *
              Ideal.cos (val_main_v78 (F := Ideal) (ix2 t ⟨d.val - 64 - 32, by omega⟩)) := by
  pointwise [val_main_v96, val_main_v72, val_main_v95, val_main_v66, val_main_v71, val_main_v63, val_main_v65, val_main_v68,
    val_main_v70, val_main_v60, val_main_v61, val_main_v62, val_main_v64, val_main_v67, val_main_v69, val_main_v57, val_main_v59,
    val_main_v56, val_main_v58, val_main_v50, val_main_v73, val_main_v83, val_main_v84, val_main_v85, val_main_v87, val_main_v90,
    val_main_v92, val_main_v86, val_main_v88, val_main_v89, val_main_v91, val_main_v93, val_main_v94, val_main_v80, val_main_v82,
    val_main_v79, val_main_v81]

theorem v96_at (b : Fin 4) (t : Fin 2048) (h : Fin 10) (d : Fin 128) : val_main_v96 (F := Ideal) x0 x1 x2 (ix4 b t h d)
    = rope (fun e => val_main_v37 (F := Ideal) x0 x1 x2 (ix4 b t h e)) (cosT t) (sinT t) d := by
  have hd := d.isLt
  rw [v96_raw]
  generalize hy : (fun e => val_main_v37 (F := Ideal) x0 x1 x2 (ix4 b t h e)) = y
  have ye (e : Fin 128) : val_main_v37 (F := Ideal) x0 x1 x2 (ix4 b t h e) = y e := congrFun hy e
  simp only [ye]
  clear ye hy
  have yv {e e' : Fin 128} (h : e.val = e'.val) : y e = y e' := congrArg y (Fin.ext h)
  unfold rope cosT sinT
  by_cases c1 : d.val < 64
  · rw [dif_pos c1]
    by_cases c2 : d.val < 32
    · have c3 : d.val % 64 < 32 := by omega
      rw [dif_pos c2, v55_at t ⟨d.val, c2⟩ d c1 (by dsimp only; omega), if_pos c3, if_pos c3, mul_neg, ← sub_eq_add_neg]
      exact congrArg (_ - ·) (congrArg (· * _) (yv (by dsimp only; omega)))
    · have c3 : ¬d.val % 64 < 32 := by omega
      rw [dif_neg c2, v55_at t ⟨d.val - 32, by omega⟩ d c1 (by dsimp only; omega), if_neg c3, if_neg c3, add_comm]
      exact congrArg₂ (· + ·) (congrArg (· * _) (yv (by dsimp only; omega))) (congrArg (· * _) (yv (by dsimp only; omega)))
  · rw [dif_neg c1]
    by_cases c2 : d.val - 64 < 32
    · have c3 : d.val % 64 < 32 := by omega
      rw [dif_pos c2, v78_at t ⟨d.val - 64, c2⟩ d c1 (by dsimp only; omega), if_pos c3, if_pos c3, mul_neg, ← sub_eq_add_neg]
      exact congrArg₂ (· - ·) (congrArg (· * _) (yv (by dsimp only; omega))) (congrArg (· * _) (yv (by dsimp only; omega)))
    · have c3 : ¬d.val % 64 < 32 := by omega
      rw [dif_neg c2, v78_at t ⟨d.val - 64 - 32, by omega⟩ d c1 (by dsimp only; omega), if_neg c3, if_neg c3, add_comm]
      exact congrArg₂ (· + ·) (congrArg (· * _) (yv (by dsimp only; omega))) (congrArg (· * _) (yv (by dsimp only; omega)))

theorem v37_at (b : Fin 4) (t : Fin 2048) (h : Fin 10) (d : Fin 128) : val_main_v37 (F := Ideal) x0 x1 x2 (ix4 b t h d)
    = if c : h.val < 8 then val_main_v15 (F := Ideal) x0 x1 (ix3 ⟨b.val * 2048 + t.val, by omega⟩ ⟨h.val, c⟩ d)
      else val_main_v30 (F := Ideal) x0 x2 (ix3 ⟨b.val * 2048 + t.val, by omega⟩ ⟨h.val - 8, by omega⟩ d) := by
  pointwise [val_main_v37, val_main_v36, val_main_v35, val_main_v34, val_main_v33]

/-- A query head of the grid, normed and rotated. -/
theorem v96_q (b : Fin 4) (t : Fin 2048) (h : Fin 8) (d : Fin 128) :
    val_main_v96 (F := Ideal) x0 x1 x2 (ix4 b t ⟨h.val, by omega⟩ d) = qrot (X x0) (W x1) b t h d := by
  rw [v96_at]
  unfold qrot
  refine congrArg (fun x => rope x (cosT t) (sinT t) d) (funext fun e => ?_)
  rw [v37_at, dif_pos h.isLt]
  exact v15_at x0 x1 _ _ _

/-- A key head of the grid, normed and rotated. -/
theorem v96_k (b : Fin 4) (t : Fin 2048) (g : Fin 2) (d : Fin 128) :
    val_main_v96 (F := Ideal) x0 x1 x2 (ix4 b t ⟨8 + g.val, by omega⟩ d) = krot (X x0) (W x2) b t g d := by
  rw [v96_at]
  unfold krot
  refine congrArg (fun x => rope x (cosT t) (sinT t) d) (funext fun e => ?_)
  rw [v37_at, dif_neg (by dsimp only; omega), v30_at]
  exact congrArg (fun g => krow (X x0) (W x2) _ g e) (Fin.ext (by dsimp only; omega))

end Cert.SwaRefIdeal.Whole

end
-- ==== Proof.SwaRefBits.lean ====
/-
  The mask of the windowed attention's reference, over words.
-/
module

public import Idealize.ShloMosaic.Lib.Pointwise

@[expose] public section

set_option maxRecDepth 16384

noncomputable section

namespace Cert.SwaRefIdeal.Whole
open Idealize.ShloMosaic Idealize.ShloMosaic.TcCoe

/-- The window, over words. -/
theorem window_bits : ∀ (i : Fin 128) (s : Fin 384),
    IntOp.cmpi CmpIPredicate.sle (IntOp.absi (BitVec.ofNat 32 s.val - 128#32 - BitVec.ofNat 32 i.val)) 128#32
      = if i.val ≤ s.val ∧ s.val ≤ i.val + 256 then 1#1 else 0#1 := by decide +kernel

/-- The sequence's two ends, over words. -/
theorem low_bits : ∀ (n : Fin 16) (s : Fin 384),
    IntOp.cmpi CmpIPredicate.sge (IntOp.addi (IntOp.subi (IntOp.muli (BitVec.ofNat 32 n.val) 128#32) 128#32) (BitVec.ofNat 32 s.val)) 0#32
      = if 128 ≤ n.val * 128 + s.val then 1#1 else 0#1 := by decide +kernel

theorem high_bits : ∀ (n : Fin 16) (s : Fin 384),
    IntOp.cmpi CmpIPredicate.slt (IntOp.addi (IntOp.subi (IntOp.muli (BitVec.ofNat 32 n.val) 128#32) 128#32) (BitVec.ofNat 32 s.val)) 2048#32
      = if n.val * 128 + s.val - 128 < 2048 then 1#1 else 0#1 := by decide +kernel

theorem sub_bits (q s i : BitVec 32) :
    IntOp.subi (IntOp.addi (IntOp.subi q 128#32) s) (IntOp.addi q i) = s - 128#32 - i := by
  show q - 128#32 + s - (q + i) = s - 128#32 - i
  apply BitVec.eq_of_toNat_eq
  simp only [BitVec.toNat_sub, BitVec.toNat_add, BitVec.toNat_ofNat]
  omega

end Cert.SwaRefIdeal.Whole

end
-- ==== Proof.SwaRefScore.lean ====
/-
  The reference of the windowed attention read at an index: its bands of keys, its mask, its scores.
-/
module

public import proofs.«01_k».proof.Proof.Gen.SwaRefIdeal.Read
public import proofs.«01_k».proof.Proof.SwaRefRows
public import proofs.«01_k».proof.Proof.SwaRefBits
public import Idealize.ShloMosaic.Lib.Pointwise
public import Idealize.ShloMosaic.Lib.KernelVsHost

@[expose] public section

set_option maxRecDepth 16384

noncomputable section

namespace Cert.SwaRefIdeal.Whole
open Cert.SwaRefIdeal Cert.SwaRefIdeal.Read Cert.SwaMath Idealize.ShloMosaic Idealize.ShloMosaic.TcCoe

variable (x0 : FVec Ideal S9216x20480 .bf16) (x1 x2 : FVec Ideal S128 .f32) (x3 : FVec Ideal S8 .f32)

theorem v98_at (b : Fin 4) (t : Fin 2048) (g : Fin 2) (d : Fin 128) :
    val_main_v98 (F := Ideal) x0 x1 x2 (ix4 b t g d) = krot (X x0) (W x2) b t g d := by
  have a : val_main_v98 (F := Ideal) x0 x1 x2 (ix4 b t g d)
      = val_main_v96 (F := Ideal) x0 x1 x2 (ix4 b t ⟨8 + g.val, by omega⟩ d) := by pointwise [val_main_v98]
  rw [a, v96_k]

theorem v105_at (b : Fin 4) (n : Fin 16) (i : Fin 128) (g : Fin 2) (h : Fin 4) (d : Fin 128) :
    val_main_v105 (F := Ideal) x0 x1 x2 (ix6 b n i g h d)
      = qrot (X x0) (W x1) b ⟨n.val * 128 + i.val, by omega⟩ ⟨g.val * 4 + h.val, by omega⟩ d := by
  have a : val_main_v105 (F := Ideal) x0 x1 x2 (ix6 b n i g h d)
      = val_main_v96 (F := Ideal) x0 x1 x2 (ix4 b ⟨n.val * 128 + i.val, by omega⟩ ⟨g.val * 4 + h.val, by omega⟩ d) := by
    pointwise [val_main_v105, val_main_v97]
  rw [a]
  exact v96_q x0 x1 x2 b ⟨n.val * 128 + i.val, by omega⟩ ⟨g.val * 4 + h.val, by omega⟩ d

theorem zeroI : (FloatOps.sitofp (F := Ideal) .f32 (0#32 : BitVec 32) : EReal) = 0 := by
  show ((((0#32 : BitVec 32).toInt : ℝ)) : EReal) = 0
  simp

/-- A band read place by place: the key, or zero outside the sequence. -/
theorem band_split (f : Fin 2048 → EReal) (n : Fin 16) (s : Fin 384) :
    (if h : s.val < 128 then
      (if h1 : 128 ≤ n.val * 128 + s.val ∧ n.val * 128 + s.val - 128 < 2048 then f ⟨n.val * 128 + s.val - 128, h1.2⟩ else 0)
    else if h : s.val - 128 < 128 then
      (if h1 : 128 ≤ (1 + n.val) * 128 + (s.val - 128) ∧ (1 + n.val) * 128 + (s.val - 128) - 128 < 2048 then
        f ⟨(1 + n.val) * 128 + (s.val - 128) - 128, h1.2⟩ else 0)
    else
      (if h1 : 128 ≤ (2 + n.val) * 128 + (s.val - 128 - 128) ∧ (2 + n.val) * 128 + (s.val - 128 - 128) - 128 < 2048 then
        f ⟨(2 + n.val) * 128 + (s.val - 128 - 128) - 128, h1.2⟩ else 0))
    = if h1 : 128 ≤ n.val * 128 + s.val ∧ n.val * 128 + s.val - 128 < 2048 then f ⟨n.val * 128 + s.val - 128, h1.2⟩ else 0 := by
  have e1 (h : ¬s.val < 128) : (1 + n.val) * 128 + (s.val - 128) = n.val * 128 + s.val := by omega
  have e2 (h : ¬s.val - 128 < 128) : (2 + n.val) * 128 + (s.val - 128 - 128) = n.val * 128 + s.val := by omega
  split
  · rfl
  · rename_i h
    split
    · simp only [e1 h]
    · rename_i h'
      simp only [e2 h']

theorem v111_at (b : Fin 4) (n : Fin 16) (s : Fin 384) (g : Fin 2) (d : Fin 128) :
    val_main_v111 (F := Ideal) x0 x1 x2 (ix5 b n s g d)
      = if h1 : 128 ≤ n.val * 128 + s.val ∧ n.val * 128 + s.val - 128 < 2048 then
          krot (X x0) (W x2) b ⟨n.val * 128 + s.val - 128, h1.2⟩ g d else 0 := by
  rw [← band_split (fun t => krot (X x0) (W x2) b t g d)]
  simp only [← v98_at x0 x1 x2, ← zeroI]
  pointwise [val_main_v111, val_main_v110, val_main_v109, val_main_v108, val_main_v107, val_main_v106, val_main_call2_v0, val_main_c_7]

theorem v117_at (b : Fin 4) (n : Fin 16) (s : Fin 384) (g : Fin 2) (d : Fin 128) :
    val_main_v117 (F := Ideal) x0 (ix5 b n s g d) = bandVal (X x0) b n g s d := by
  have a (t : Fin 2048) : val_main_v100 (F := Ideal) x0 (ix4 b t g d) = vrow (X x0) ⟨b.val * 2048 + t.val, by omega⟩ g d := by
    unfold vrow X
    pointwise [val_main_v100, val_main_v99, val_main_v32, val_main_v31, val_main_v0]
  unfold bandVal
  rw [← band_split (fun t => vrow (X x0) ⟨b.val * 2048 + t.val, by omega⟩ g d)]
  simp only [← zeroI]
  pointwise [val_main_v117, val_main_v116, val_main_v115, val_main_v114, val_main_v113, val_main_v112, val_main_call3_v0, val_main_c_8]
  simp only [a]

theorem v104_at (b : Fin 4) (j : Fin 256) (g : Fin 2) (d : Fin 128) :
    val_main_v104 (F := Ideal) x0 (ix4 b j g d) = vrow (X x0) ⟨8192 + (b.val * 256 + j.val), by omega⟩ g d := by
  unfold vrow X
  pointwise [val_main_v104, val_main_v103, val_main_v32, val_main_v31, val_main_v0]

theorem v188_at (b : Fin 4) (j : Fin 256) (g : Fin 2) (d : Fin 128) :
    val_main_v188 (F := Ideal) x0 (ix4 b j g d) = vrow (X x0) ⟨8192 + (b.val * 256 + j.val), by omega⟩ g d := by
  unfold vrow X
  pointwise [val_main_v188, val_main_v187, val_main_v32, val_main_v31, val_main_v0]

theorem v121_at (b : Fin 4) (n : Fin 16) (i : Fin 128) (g : Fin 2) (h : Fin 4) (s : Fin 384)
    (hs : 128 ≤ n.val * 128 + s.val ∧ n.val * 128 + s.val - 128 < 2048) :
    val_main_v121 (F := Ideal) x0 x1 x2 (ix6 b g h n i s)
      = score (qrot (X x0) (W x1) b ⟨n.val * 128 + i.val, by omega⟩ ⟨g.val * 4 + h.val, by omega⟩)
          (krot (X x0) (W x2) b ⟨n.val * 128 + s.val - 128, hs.2⟩ g) := by
  have a : val_main_v121 (F := Ideal) x0 x1 x2 (ix6 b g h n i s)
      = (∑ x : Fin 128, val_main_v111 (F := Ideal) x0 x1 x2 (ix5 b n s g x) * val_main_v105 (F := Ideal) x0 x1 x2 (ix6 b n i g h x))
        * Ideal.ofBits .f32 0x3DB504F3#32 := by
    pointwise [val_main_v121, val_main_v120, val_main_v119, val_main_v118, val_main_cst_9]
  rw [a]
  unfold score
  refine congrArg (· * _) (Finset.sum_congr rfl fun x _ => ?_)
  rw [v111_at, v105_at, dif_pos hs, mul_comm]

theorem v125_at (b : Fin 4) (n : Fin 16) (i : Fin 128) (g : Fin 2) (h : Fin 4) (j : Fin 256) :
    val_main_v125 (F := Ideal) x0 x1 x2 (ix6 b g h n i j)
      = score (qrot (X x0) (W x1) b ⟨n.val * 128 + i.val, by omega⟩ ⟨g.val * 4 + h.val, by omega⟩)
          (krow (X x0) (W x2) ⟨8192 + (b.val * 256 + j.val), by omega⟩ g) := by
  have a : val_main_v125 (F := Ideal) x0 x1 x2 (ix6 b g h n i j)
      = (∑ x : Fin 128, val_main_v30 (F := Ideal) x0 x2 (ix3 ⟨8192 + (b.val * 256 + j.val), by omega⟩ g x) * val_main_v105 (F := Ideal) x0 x1 x2 (ix6 b n i g h x))
        * Ideal.ofBits .f32 0x3DB504F3#32 := by
    pointwise [val_main_v125, val_main_v124, val_main_v123, val_main_v122, val_main_cst_10, val_main_v102, val_main_v101]
  rw [a]
  unfold score
  refine congrArg (· * _) (Finset.sum_congr rfl fun x _ => ?_)
  rw [v30_at, v105_at, mul_comm]

theorem v157_at (n : Fin 16) (i : Fin 128) (s : Fin 384) : val_main_v157 (F := Ideal) (ix3 n i s)
    = if (i.val ≤ s.val ∧ s.val ≤ i.val + 256) ∧ 128 ≤ n.val * 128 + s.val ∧ n.val * 128 + s.val - 128 < 2048 then 1#1 else 0#1 := by
  pointwise [val_main_v157, val_main_v156, val_main_v155, val_main_v154, val_main_v153, val_main_v152, val_main_v151, val_main_v150,
    val_main_v149, val_main_v148, val_main_v147, val_main_v146, val_main_v145, val_main_v144, val_main_v143, val_main_v142, val_main_v141,
    val_main_v140, val_main_v139, val_main_v138, val_main_v137, val_main_v136, val_main_v135, val_main_v134, val_main_v133, val_main_v132,
    val_main_v131, val_main_v130, val_main_v129, val_main_v128, val_main_v127, val_main_v126,
    val_main_c_11, val_main_c_12, val_main_c_13, val_main_c_14, val_main_c_15]
  rw [sub_bits, window_bits, low_bits, high_bits]
  split_ifs <;> first | (exfalso; omega) | rfl

/-- A latent row's scores. -/
theorem v162_at (b : Fin 4) (n : Fin 16) (i : Fin 128) (g : Fin 2) (h : Fin 4) (s : Fin 641) :
    val_main_v162 (F := Ideal) x0 x1 x2 x3 (ix6 b g h n i s)
      = J641 (X x0) (W x1) (W x2) (K x3) b n i g ⟨g.val * 4 + h.val, by omega⟩ s := by
  have a : val_main_v162 (F := Ideal) x0 x1 x2 x3 (ix6 b g h n i s)
      = if h1 : s.val < 640 then
          if h2 : s.val < 384 then Scalar.select (val_main_v157 (F := Ideal) (ix3 n i ⟨s.val, h2⟩))
            (val_main_v121 (F := Ideal) x0 x1 x2 (ix6 b g h n i ⟨s.val, h2⟩)) (Ideal.ofBits .f32 0xFF800000#32)
          else val_main_v125 (F := Ideal) x0 x1 x2 (ix6 b g h n i ⟨s.val - 384, by omega⟩)
        else x3 (ix1 ⟨g.val * 4 + h.val, by omega⟩) := by
    pointwise [val_main_v162, val_main_v159, val_main_v158, val_main_v161, val_main_v160, val_main_call4_v0, val_main_call4_v1, val_main_call4_v2,
      val_main_cst_16]
    rfl
  rw [a]
  unfold J641
  by_cases h1 : s.val < 640
  · rw [dif_pos h1, dif_pos h1]
    by_cases h2 : s.val < 384
    · rw [dif_pos h2, dif_pos h2, v157_at]
      unfold bandScore
      by_cases h3 : (i.val ≤ s.val ∧ s.val ≤ i.val + 256) ∧ 128 ≤ n.val * 128 + s.val ∧ n.val * 128 + s.val - 128 < 2048
      · rw [if_pos h3, dif_pos h3]
        exact v121_at x0 x1 x2 b n i g h ⟨s.val, h2⟩ h3.2
      · rw [if_neg h3, dif_neg h3]
        show Ideal.ofBits .f32 0xFF800000#32 = ⊥
        simp [Ideal.ofBits, Ideal.ieee]
    · rw [dif_neg h2, dif_neg h2, v125_at]
  · rw [dif_neg h1, dif_neg h1]

end Cert.SwaRefIdeal.Whole

end
-- ==== Proof.SwaRefTop.lean ====
/-
  The reference of the windowed attention read at an index: the row maximum of its scores.
-/
module

public import proofs.«01_k».proof.Proof.Gen.SwaRefIdeal.Read
public import proofs.«01_k».proof.Proof.SwaRefScore
public import Idealize.ShloMosaic.Lib.Pointwise
public import Idealize.ShloMosaic.Lib.KernelVsHost

@[expose] public section

set_option maxRecDepth 16384

noncomputable section

namespace Cert.SwaRefIdeal.Whole
open Cert.SwaRefIdeal Cert.SwaRefIdeal.Read Cert.SwaMath Idealize.ShloMosaic Idealize.ShloMosaic.TcCoe

variable (x0 : FVec Ideal S9216x20480 .bf16) (x1 x2 : FVec Ideal S128 .f32) (x3 : FVec Ideal S8 .f32)

/-- A maximum over one axis, from −∞, read at an index. -/
theorem hostmax {s t u : Shape} {a : Fin s.rank} (x : FVec Ideal s .f32) (h' : s.ReducesTo [a] t) (h : s.Reduces [a] t)
    (hu : 0 < u.numel) (j : t.Idx) :
    Host.reduce (FloatOps.maximumf (F := Ideal)) x (constant u .f32 0xFF800000#32) h' hu j
      = (Finset.univ : Finset (Fin (s.size a))).fold max (⊥ : EReal) (x ∘ h.lift j) := by
  have e : (FloatOps.ofBits (F := Ideal) .f32 0xFF800000#32 : EReal) = ⊥ := by
    show Ideal.ofBits .f32 0xFF800000#32 = ⊥
    simp [Ideal.ofBits, Ideal.ieee]
  rw [hostReduce_maximumf_eq_multiReduction x 0xFF800000#32 h' hu h (.inl rfl) rfl,
    Ideal.multiReduction_maximumf_single x 0xFF800000#32 h (.inl rfl) rfl j, e]

theorem reduces163 : S4x2x4x16x128x641.Reduces [5] S4x2x4x16x128 := by decide

theorem lift163 (b : Fin 4) (n : Fin 16) (i : Fin 128) (g : Fin 2) (h : Fin 4) (s : Fin 641) :
    reduces163.lift (ix5 b g h n i) s = ix6 b g h n i s := by
  funext a
  match a with | ⟨0, _⟩ => rfl | ⟨1, _⟩ => rfl | ⟨2, _⟩ => rfl | ⟨3, _⟩ => rfl | ⟨4, _⟩ => rfl | ⟨5, _⟩ => rfl

theorem v163_at (b : Fin 4) (n : Fin 16) (i : Fin 128) (g : Fin 2) (h : Fin 4) :
    val_main_v163 (F := Ideal) x0 x1 x2 x3 (ix5 b g h n i)
      = top (fun s : Fin 641 => val_main_v162 (F := Ideal) x0 x1 x2 x3 (ix6 b g h n i s)) := by
  unfold val_main_v163 val_main_cst_17
  generalize val_main_v162 (F := Ideal) x0 x1 x2 x3 = y
  rw [hostmax y _ reduces163 _ (ix5 b g h n i)]
  unfold top
  exact congrArg (Finset.univ.fold max ⊥) (funext fun s => congrArg y (lift163 b n i g h s))

end Cert.SwaRefIdeal.Whole

end
-- ==== Proof.SwaRefOut.lean ====
/-
  The reference of the windowed attention read at an index: its softmax weights and its output.
-/
module

public import proofs.«01_k».proof.Proof.Gen.SwaRefIdeal.Read
public import proofs.«01_k».proof.Proof.SwaRefTop
public import Idealize.ShloMosaic.Lib.Pointwise
public import Idealize.ShloMosaic.Lib.KernelVsHost

@[expose] public section

set_option maxRecDepth 16384

noncomputable section

namespace Cert.SwaRefIdeal.Whole
open Cert.SwaRefIdeal Cert.SwaRefIdeal.Read Cert.SwaMath Idealize.ShloMosaic Idealize.ShloMosaic.TcCoe

variable (x0 : FVec Ideal S9216x20480 .bf16) (x1 x2 : FVec Ideal S128 .f32) (x3 : FVec Ideal S8 .f32)

theorem v173_at (b : Fin 4) (n : Fin 16) (i : Fin 128) (g : Fin 2) (h : Fin 4) (s : Fin 641) :
    val_main_v173 (F := Ideal) x0 x1 x2 x3 (ix6 b g h n i s)
      = soft (J641 (X x0) (W x1) (W x2) (K x3) b n i g ⟨g.val * 4 + h.val, by omega⟩) s := by
  have e1 (s : Fin 641) : val_main_v169 (F := Ideal) x0 x1 x2 x3 (ix6 b g h n i s)
      = Ideal.exp (J641 (X x0) (W x1) (W x2) (K x3) b n i g ⟨g.val * 4 + h.val, by omega⟩ s
        - top (J641 (X x0) (W x1) (W x2) (K x3) b n i g ⟨g.val * 4 + h.val, by omega⟩)) := by
    have i1 : idx_main_v166 (idx_main_v167 (ix6 b g h n i s)) = ix5 b g h n i := by
      funext a; match a with | ⟨0, _⟩ => rfl | ⟨1, _⟩ => rfl | ⟨2, _⟩ => rfl | ⟨3, _⟩ => rfl | ⟨4, _⟩ => rfl
    rw [val_main_v169_apply, val_main_v168_apply, val_main_v167_apply, val_main_v166_apply, val_main_v165_apply, i1, v163_at, v162_at]
    rw [funext fun s => v162_at x0 x1 x2 x3 b n i g h s]
    have e : (val_main_v164 (F := Ideal) (ix5 b g h n i) : EReal) = ⊥ := by
      rw [val_main_v164_apply, val_main_cst_18_apply]
      show Ideal.ofBits .f32 0xFF800000#32 = ⊥
      simp [Ideal.ofBits, Ideal.ieee]
    rw [e]
    refine congrArg (fun x : EReal => Ideal.exp (_ - x)) ?_
    exact max_eq_right bot_le
  have i2 : idx_main_v171 (idx_main_v172 (ix6 b g h n i s)) = ix5 b g h n i := by
    funext a; match a with | ⟨0, _⟩ => rfl | ⟨1, _⟩ => rfl | ⟨2, _⟩ => rfl | ⟨3, _⟩ => rfl | ⟨4, _⟩ => rfl
  have i3 (k : Fin 641) : idx_main_v170 (ix5 b g h n i) k = ix6 b g h n i k := by
    funext a; match a with | ⟨0, _⟩ => rfl | ⟨1, _⟩ => rfl | ⟨2, _⟩ => rfl | ⟨3, _⟩ => rfl | ⟨4, _⟩ => rfl | ⟨5, _⟩ => rfl
  have z : (val_main_cst_19 (F := Ideal) (Shape.Idx.first Gen.h_S_) : EReal) = 0 := by
    show Ideal.ofBits .f32 0x00000000#32 = 0
    simp [Ideal.ofBits, Ideal.ieee]
  rw [val_main_v173_apply, val_main_v172_apply, val_main_v171_apply, i2, val_main_v170_apply, z, zero_add, e1]
  simp only [i3, e1]
  rfl

theorem v181_at (b : Fin 4) (n : Fin 16) (i : Fin 128) (g : Fin 2) (h : Fin 4) (d : Fin 128) :
    val_main_v181 (F := Ideal) x0 x1 x2 x3 (ix6 b n i g h d)
      = outLat (X x0) (W x1) (W x2) (K x3) b n i g ⟨g.val * 4 + h.val, by omega⟩ d := by
  have a : val_main_v181 (F := Ideal) x0 x1 x2 x3 (ix6 b n i g h d)
      = ∑ x : Fin 384, val_main_v117 (F := Ideal) x0 (ix5 b n x g d) * val_main_v173 (F := Ideal) x0 x1 x2 x3 (ix6 b g h n i ⟨x.val, by omega⟩)
        + ∑ x : Fin 256, val_main_v104 (F := Ideal) x0 (ix4 b x g d) * val_main_v173 (F := Ideal) x0 x1 x2 x3 (ix6 b g h n i ⟨384 + x.val, by omega⟩) := by
    pointwise [val_main_v181, val_main_v177, val_main_v176, val_main_v175, val_main_v174, val_main_v178, val_main_v179, val_main_v180]
  rw [a]
  unfold outLat
  simp only [v117_at, v104_at, v173_at]

theorem v196_at (b : Fin 4) (i : Fin 256) (g : Fin 2) (h : Fin 4) (s : Fin 257) :
    val_main_v196 (F := Ideal) x0 x1 x2 x3 (ix5 b g h i s)
      = J257 (X x0) (W x1) (W x2) (K x3) b i g ⟨g.val * 4 + h.val, by omega⟩ s := by
  unfold J257 score
  simp only [← v15_at, ← v30_at, K]
  pointwise [val_main_v196, val_main_v195, val_main_v194, val_main_v193, val_main_v192, val_main_v191, val_main_v190, val_main_v189,
    val_main_v186, val_main_v185, val_main_v184, val_main_v183, val_main_cst_20]
  split
  · exact congrArg (· * _) (Finset.sum_congr rfl fun x _ => mul_comm _ _)
  · rfl

theorem v207_at (b : Fin 4) (i : Fin 256) (g : Fin 2) (h : Fin 4) (s : Fin 257) :
    val_main_v207 (F := Ideal) x0 x1 x2 x3 (ix5 b g h i s)
      = soft (J257 (X x0) (W x1) (W x2) (K x3) b i g ⟨g.val * 4 + h.val, by omega⟩) s := by
  unfold soft top
  simp only [← v196_at]
  pointwise [val_main_v207, val_main_v206, val_main_v205, val_main_v204, val_main_v203, val_main_v202, val_main_v201,
    val_main_v200, val_main_v199, val_main_v198, val_main_v197, val_main_cst_21, val_main_cst_22, val_main_cst_23]
  have e : Ideal.ofBits .f32 0xFF800000#32 = ⊥ := by simp [Ideal.ofBits, Ideal.ieee]
  rw [e]
  simp only [max_eq_right (bot_le : (⊥ : EReal) ≤ _)]

theorem v210_at (b : Fin 4) (i : Fin 256) (g : Fin 2) (h : Fin 4) (d : Fin 128) :
    val_main_v210 (F := Ideal) x0 x1 x2 x3 (ix5 b i g h d)
      = outCtx (X x0) (W x1) (W x2) (K x3) b i g ⟨g.val * 4 + h.val, by omega⟩ d := by
  unfold outCtx
  simp only [← v188_at, ← v207_at]
  pointwise [val_main_v210, val_main_v209, val_main_v208]

/-- The reference's result at an index. -/
theorem v215_at (r : Fin 9216) (d : Fin 1024) :
    val_main_v215 (F := Ideal) x0 x1 x2 x3 (ix2 r d)
      = if hr : r.val < 8192 then val_main_v181 (F := Ideal) x0 x1 x2 x3 (ix6 ⟨r.val / 2048, by omega⟩ ⟨r.val / 128 % 16, by omega⟩ ⟨r.val % 128, by omega⟩
            ⟨d.val / 512, by omega⟩ ⟨d.val / 128 % 4, by omega⟩ ⟨d.val % 128, by omega⟩)
        else val_main_v210 (F := Ideal) x0 x1 x2 x3 (ix5 ⟨(r.val - 8192) / 256, by omega⟩ ⟨(r.val - 8192) % 256, by omega⟩
            ⟨d.val / 512, by omega⟩ ⟨d.val / 128 % 4, by omega⟩ ⟨d.val % 128, by omega⟩) := by
  pointwise [val_main_v215, val_main_v214, val_main_v213, val_main_v212, val_main_v211, val_main_v182]

end Cert.SwaRefIdeal.Whole

end
-- ==== Proof.SwaValue.lean ====
/-
  The windowed attention: the kernel's result array is the reference's.
-/
module

public import proofs.«01_k».proof.Proof.SwaPointA
public import proofs.«01_k».proof.Proof.SwaPointB
public import proofs.«01_k».proof.Proof.SwaPointC
public import proofs.«01_k».proof.Proof.SwaBlocks
public import proofs.«01_k».proof.Proof.SwaRefOut

@[expose] public section

set_option maxRecDepth 16384

noncomputable section

namespace Cert.SwaIdeal.Whole

open Cert.SwaIdeal Cert.SwaIdeal.Gen Cert.SwaMath Idealize.ShloMosaic Idealize.ShloMosaic.TcCoe Idealize.SL.Sem
open Idealize.ShloMosaic.Pipeline (Dat)

variable (m : (ℓ : Loc nD τ sig) → Buf (Elt Ideal) ℓ)

variable {m} {c : Dev nD} (hX : ∀ r e, IsReal (A m c r e)) (h1 : ∀ e, IsReal (W1 m c e)) (h2 : ∀ e, IsReal (W2 m c e))
  (hs : ∀ h, IsReal (SK m c h))

theorem outLat_congr {X : Fin 9216 → Fin 20480 → EReal} {w1 w2 : Fin 128 → EReal} {sk : Fin 8 → EReal} {b b' : Fin 4} {n n' : Fin 16} {i i' : Fin 128}
    {g g' : Fin 2} {h h' : Fin 8} {d d' : Fin 128} (hb : b.val = b'.val) (hn : n.val = n'.val) (hi : i.val = i'.val) (hg : g.val = g'.val)
    (hh : h.val = h'.val) (hd : d.val = d'.val) : outLat X w1 w2 sk b n i g h d = outLat X w1 w2 sk b' n' i' g' h' d' := by
  obtain rfl := Fin.ext hb; obtain rfl := Fin.ext hn; obtain rfl := Fin.ext hi
  obtain rfl := Fin.ext hg; obtain rfl := Fin.ext hh; obtain rfl := Fin.ext hd
  rfl

theorem outCtx_congr {X : Fin 9216 → Fin 20480 → EReal} {w1 w2 : Fin 128 → EReal} {sk : Fin 8 → EReal} {b b' : Fin 4} {i i' : Fin 256}
    {g g' : Fin 2} {h h' : Fin 8} {d d' : Fin 128} (hb : b.val = b'.val) (hi : i.val = i'.val) (hg : g.val = g'.val)
    (hh : h.val = h'.val) (hd : d.val = d'.val) : outCtx X w1 w2 sk b i g h d = outCtx X w1 w2 sk b' i' g' h' d' := by
  obtain rfl := Fin.ext hb; obtain rfl := Fin.ext hi
  obtain rfl := Fin.ext hg; obtain rfl := Fin.ext hh; obtain rfl := Fin.ext hd
  rfl

variable (m c) in
/-- The reference's result of the kernel's arguments. -/
abbrev ref : FVec Ideal S9216x1024 .bf16 :=
  Cert.SwaRefIdeal.Read.val_main_v215 (F := Ideal) (m ((c : Thread nD τ).loc main_arg0)) (m ((c : Thread nD τ).loc main_arg1))
    (m ((c : Thread nD τ).loc main_arg2)) (m ((c : Thread nD τ).loc main_arg3))

include hX h1 h2 hs in
/-- What a point stores is the reference's block. -/
theorem point (t : Fin cfg0.N) (y : S128x512.Idx) :
    ((outsAt0 m c t.val t.isLt).1 : FVec Ideal S128x512 .bf16) y
      = ref m c (ix2 (qr t ⟨(y 0).val, row_lt y⟩) ⟨t.val / 18 % 2 * 512 + (y 1).val, by have := col_lt y; omega⟩) := by
  have hN := lt_N t
  have hr := row_lt y
  have hc := col_lt y
  refine Eq.trans ?_ (Cert.SwaRefIdeal.Whole.v215_at _ _ _ _ _ _).symm
  by_cases hl : t.val % 18 ≤ 15
  · have hq : (qr t ⟨(y 0).val, row_lt y⟩).val = (t.val / 36 * 16 + t.val % 18) * 128 + (y 0).val := by
      simp only [qr]; rw [if_pos (by omega)]
    rw [dif_pos (by rw [hq]; omega)]
    refine Eq.trans ?_ (Cert.SwaRefIdeal.Whole.v181_at _ _ _ _ _ _ _ _ _ _).symm
    have e : ((outsAt0 m c t.val t.isLt).1 : FVec Ideal S128x512 .bf16) y
        = outLat (A m c) (W1 m c) (W2 m c) (SK m c) (tb t) ⟨t.val % 18, by omega⟩ ⟨(y 0).val, row_lt y⟩ (tg t)
          ⟨(tg t).val * 4 + (y 1).val / 128, by omega⟩ ⟨(y 1).val % 128, by omega⟩ := by
      by_cases h0 : t.val % 18 = 0
      · exact point_A hX h1 h2 hs t h0 y
      · exact point_B hX h1 h2 hs t h0 hl y
    refine e.trans ?_
    refine outLat_congr ?_ ?_ ?_ ?_ ?_ ?_ <;> simp only [hq, tb, tg] <;> omega
  · have hq : (qr t ⟨(y 0).val, row_lt y⟩).val = (64 + t.val / 36 * 2 + (t.val % 18 - 16)) * 128 + (y 0).val := by
      simp only [qr]; rw [if_neg (by omega)]
    rw [dif_neg (by rw [hq]; omega)]
    refine Eq.trans ?_ (Cert.SwaRefIdeal.Whole.v210_at _ _ _ _ _ _ _ _ _).symm
    refine (point_C hX h1 h2 hs t (by omega) hl (by omega) y).trans ?_
    refine outCtx_congr ?_ ?_ ?_ ?_ ?_ <;> simp only [hq, tb, tg] <;> omega

include hX h1 h2 hs in
/-- The result array after the run is the reference's result. -/
theorem final : (dats m 0 c).arrAt 10 (cfgs 0).N = ref m c := by
  refine (dats m 0 c).arrAt_eq_of_covers 10 _ (by decide +kernel) fun t _ y => ?_
  blk_simp
  rw [after0_10]
  refine (point hX h1 h2 hs t y).trans ?_
  refine congrArg (ref m c) ?_
  have hN := lt_N t
  unfold qr
  blk_ext [blocksAt t]

end Cert.SwaIdeal.Whole

end
-- ==== Proof.SwaFinite.lean ====
/-
  What the precondition of the windowed attention's equality says: every element of the four arguments is a real number.
-/
module

public import proofs.«01_k».proof.Proof.Gen.Pre_finite
public import proofs.«01_k».proof.Proof.SwaMath
public import Idealize.ShloMosaic.Lib.ReduceAll

@[expose] public section

set_option maxRecDepth 16384

noncomputable section

namespace Cert.Pre_finite
open Cert.SwaMath Idealize.ShloMosaic

instance : Facts := Gen.facts

/-- Below +∞ in absolute value is real. -/
theorem real_of_lt {x y : EReal} (hy : y = ⊤) (h : Ideal.cmp .olt (max x (-x)) y = 1#1) : IsReal x := by
  subst hy
  have h' : max x (-x) < ⊤ := by
    by_contra hn
    simp [Ideal.cmp, hn] at h
  have h1 : x ≠ ⊤ := fun e => by rw [e] at h'; simp at h'
  have h2 : x ≠ ⊥ := fun e => by rw [e] at h'; simp at h'
  exact ⟨x.toReal, (EReal.coe_toReal h1 h2).symm⟩

theorem inf16 : Ideal.ofBits .bf16 0x7F80#16 = ⊤ := by simp [Ideal.ofBits, Ideal.ieee]
theorem inf32 : Ideal.ofBits .f32 0x7F800000#32 = ⊤ := by simp [Ideal.ofBits, Ideal.ieee]

/-- The precondition holds only of real arguments. -/
theorem real (x0 : FVec Ideal S9216x20480 .bf16) (x1 x2 : FVec Ideal S128 .f32) (x3 : FVec Ideal S8 .f32)
    (h : fn (F := Ideal) x0 x1 x2 x3 = fun _ => 1#1) :
    (∀ i, IsReal (x0 i)) ∧ (∀ i, IsReal (x1 i)) ∧ (∀ i, IsReal (x2 i)) ∧ ∀ i, IsReal (x3 i) := by
  haveI : Subsingleton S_.Idx := ⟨fun a b => funext fun k => k.elim0⟩
  have e := congrFun h (Shape.Idx.first Facts.h_S_)
  unfold fn fn_part1 at e
  obtain ⟨e, e3⟩ := IntOp.andi_eq_one.1 e
  obtain ⟨e, e2⟩ := IntOp.andi_eq_one.1 e
  obtain ⟨e0, e1⟩ := IntOp.andi_eq_one.1 e
  exact ⟨fun i => real_of_lt inf16 (Host.reduce_andi_all _ _ _ _ _ e0 i), fun i => real_of_lt inf32 (Host.reduce_andi_all _ _ _ _ _ e1 i),
    fun i => real_of_lt inf32 (Host.reduce_andi_all _ _ _ _ _ e2 i), fun i => real_of_lt inf32 (Host.reduce_andi_all _ _ _ _ _ e3 i)⟩

end Cert.Pre_finite

end
-- ==== Proof.SwaClaim.lean ====
/-
  The claims about the pair `Swa` under its precondition: the frames, and the equality of the results.
-/
module

public import proofs.«01_k».proof.Proof.SwaFrames
public import proofs.«01_k».proof.Proof.SwaValue
public import proofs.«01_k».proof.Proof.SwaFinite
public import Idealize.ShloMosaic.Lib.Claim

@[expose] public section

set_option maxRecDepth 16384

noncomputable section

namespace Cert.Proof.SwaClaim

open Idealize.ShloMosaic Idealize.ShloMosaic.TcCoe Idealize.SL.Sem

/-- The idealized kernel's frame, of finite arguments. -/
theorem framePIfinite : Cert.quiescent_SwaIdeal_pre_finite := fun m ρ _ => Cert.SwaIdeal.Gen.frame m ρ

/-- The reference's frame, of finite arguments. -/
theorem frameRIfinite : Cert.quiescent_SwaRefIdeal_pre_finite := fun m ρ _ => frameRI m ρ trivial

/-- Of finite arguments the kernel's result is the reference's. -/
theorem algebraic : Cert.algebraic_SwaIdeal_SwaRefIdeal_pre_finite := by
  pair_intro
  · run_from Cert.SwaIdeal.Value.run_blocks m g
  · run_from Cert.SwaRefIdeal.Value.run (F := Ideal) m' g'
    have p (c) := Cert.Pre_finite.real _ _ _ _ (hpre c)
    rw [Cert.SwaIdeal.Whole.final (m := m) (c := c) (fun r e => (p c).1 _) (fun e => (p c).2.1 _) (fun e => (p c).2.2.1 _) (fun h => (p c).2.2.2 _)]
    refine (Cert.SwaRefIdeal.Read.val_main_v215_eq (F := Ideal) (StableHlo.launchContents m' c)).trans ?_
    exact congr (congr (congr (congrArg (Cert.SwaRefIdeal.Read.val_main_v215 (F := Ideal)) (hagree c).1) (hagree c).2.1) (hagree c).2.2.1) (hagree c).2.2.2

end Cert.Proof.SwaClaim

end
-- ==== Proof.lean ====
/-
  The claims of this proof, assembled: for every pair of programs the three frames, the idealization and the equality of
  the results. Each pair has its own module under `Proof/`.
-/
module

public import proofs.«01_k».proof.Defs
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Resid
public import proofs.«01_k».proof.Proof.Gen.Resid.Skeleton
public import proofs.«01_k».proof.Proof.Gen.Resid.Launch
public import proofs.«01_k».proof.Proof.Gen.Resid.Points
public import proofs.«01_k».proof.Proof.Gen.Resid.Frame
public import proofs.«01_k».proof.Proof.Gen.ResidIdeal
public import proofs.«01_k».proof.Proof.Gen.ResidIdeal.Skeleton
public import proofs.«01_k».proof.Proof.Gen.ResidIdeal.Launch
public import proofs.«01_k».proof.Proof.Gen.ResidIdeal.Points
public import proofs.«01_k».proof.Proof.Gen.ResidIdeal.Frame
public import proofs.«01_k».proof.Proof.Gen.ResidRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.SwigluIdeal.Value
public import proofs.«01_k».proof.Proof.Gen.SwigluRefIdeal.Run
public import proofs.«01_k».proof.Proof.Gen.SwigluRefIdeal.Read
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.ResidIdeal.Value
public import proofs.«01_k».proof.Proof.Gen.ResidRefIdeal.Run
public import proofs.«01_k».proof.Proof.Gen.ResidRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.Gen.SwaRefIdeal.Run
public import proofs.«01_k».proof.Proof.Gen.SwaRefIdeal.Read
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.SwaRefIdeal
public import proofs.«01_k».proof.Proof.Gen.OutRefIdeal
public import proofs.«01_k».proof.Proof.Gen.Pre_finite
public import proofs.«01_k».proof.Proof.SwigluClaim
public import proofs.«01_k».proof.Proof.ProjClaim
public import proofs.«01_k».proof.Proof.ResidClaim
public import proofs.«01_k».proof.Proof.OutClaim
public import proofs.«01_k».proof.Proof.MergeClaim
public import proofs.«01_k».proof.Proof.SwaClaim
public import Idealize.ShloMosaic.Adequacy
public import Idealize.ShloMosaic.Init

@[expose] public section

noncomputable section

namespace Cert.Proof

open Idealize.ShloMosaic Idealize.SL.Sem Cert.Swiglu

/-- Every claim holds. -/
theorem claim : Cert.Claim := ⟨Cert.Swiglu.Gen.facts, Cert.SwigluIdeal.Gen.facts, Cert.SwigluRefIdeal.Gen.facts,
  Cert.Proj.Gen.facts, Cert.ProjIdeal.Gen.facts, Cert.ProjRefIdeal.Gen.facts,
  Cert.Resid.Gen.facts, Cert.ResidIdeal.Gen.facts, Cert.ResidRefIdeal.Gen.facts,
  Cert.Out.Gen.facts, Cert.OutIdeal.Gen.facts, Cert.OutRefIdeal.Gen.facts,
  Cert.Merge.Gen.facts, Cert.MergeIdeal.Gen.facts, Cert.MergeRefIdeal.Gen.facts,
  Cert.Swa.Gen.facts, Cert.SwaIdeal.Gen.facts, Cert.SwaRefIdeal.Gen.facts, Cert.Pre_finite.Gen.facts,
  SwigluClaim.frameP, SwigluClaim.framePI, SwigluClaim.frameRI,
  ProjClaim.frameP, ProjClaim.framePI, ProjClaim.frameRI,
  ResidClaim.frameP, ResidClaim.framePI, ResidClaim.frameRI,
  OutClaim.frameP, OutClaim.framePI, OutClaim.frameRI,
  MergeClaim.frameP, MergeClaim.framePI, MergeClaim.frameRI,
  SwaClaim.frameP, SwaClaim.framePI, SwaClaim.framePIfinite, SwaClaim.frameRI, SwaClaim.frameRIfinite,
  SwigluClaim.preserves, SwigluClaim.algebraic, ProjClaim.preserves, ProjClaim.algebraic, ResidClaim.preserves, ResidClaim.algebraic, OutClaim.preserves, OutClaim.algebraic, MergeClaim.preserves, MergeClaim.algebraic, SwaClaim.preserves, SwaClaim.algebraic⟩

end Cert.Proof

end
